-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_Gmlp (m : (ℓ : Loc Cert.Gmlp.nD Cert.Gmlp.τ Cert.Gmlp.sig) → Buf (Elt Bits) ℓ) : Prop :=
  True

def Pre_GmlpIdeal (m : (ℓ : Loc Cert.GmlpIdeal.nD Cert.GmlpIdeal.τ Cert.GmlpIdeal.sig) → Buf (Elt Ideal) ℓ) : Prop :=
  True

def Pre_GmlpRefIdeal (m : (ℓ : Loc Cert.GmlpRefIdeal.nD Cert.GmlpRefIdeal.τ Cert.GmlpRefIdeal.sig) → Buf (Elt Ideal) ℓ) : Prop :=
  True

def Pre_ConvSample (m : (ℓ : Loc Cert.ConvSample.nD Cert.ConvSample.τ Cert.ConvSample.sig) → Buf (Elt Bits) ℓ) : Prop :=
  True

def Pre_ConvSampleIdeal (m : (ℓ : Loc Cert.ConvSampleIdeal.nD Cert.ConvSampleIdeal.τ Cert.ConvSampleIdeal.sig) → Buf (Elt Ideal) ℓ) : Prop :=
  True

def Pre_ConvSampleRefIdeal (m : (ℓ : Loc Cert.ConvSampleRefIdeal.nD Cert.ConvSampleRefIdeal.τ Cert.ConvSampleRefIdeal.sig) → Buf (Elt Ideal) ℓ) : Prop :=
  True

def Pre_GmlpSample (m : (ℓ : Loc Cert.GmlpSample.nD Cert.GmlpSample.τ Cert.GmlpSample.sig) → Buf (Elt Bits) ℓ) : Prop :=
  True

def Pre_GmlpSampleIdeal (m : (ℓ : Loc Cert.GmlpSampleIdeal.nD Cert.GmlpSampleIdeal.τ Cert.GmlpSampleIdeal.sig) → Buf (Elt Ideal) ℓ) : Prop :=
  True

def Pre_GmlpSampleRefIdeal (m : (ℓ : Loc Cert.GmlpSampleRefIdeal.nD Cert.GmlpSampleRefIdeal.τ Cert.GmlpSampleRefIdeal.sig) → Buf (Elt Ideal) ℓ) : Prop :=
  True

def Pre_Route (m : (ℓ : Loc Cert.Route.nD Cert.Route.τ Cert.Route.sig) → Buf (Elt Bits) ℓ) : Prop :=
  True

def Pre_RouteIdeal (m : (ℓ : Loc Cert.RouteIdeal.nD Cert.RouteIdeal.τ Cert.RouteIdeal.sig) → Buf (Elt Ideal) ℓ) : Prop :=
  True

def Pre_RouteRefIdeal (m : (ℓ : Loc Cert.RouteRefIdeal.nD Cert.RouteRefIdeal.τ Cert.RouteRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2)
      ∧ r.2.mem ((c.tc : Thread Cert.Gates.nD Cert.Gates.τ).loc Cert.Gates.main_arg3) = m ((c.tc : Thread Cert.Gates.nD Cert.Gates.τ).loc Cert.Gates.main_arg3))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
      ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2)
      ∧ r.2.mem ((c.tc : Thread Cert.GatesRefIdeal.nD Cert.GatesRefIdeal.τ).loc Cert.GatesRefIdeal.main_arg3) = m ((c.tc : Thread Cert.GatesRefIdeal.nD Cert.GatesRefIdeal.τ).loc Cert.GatesRefIdeal.main_arg3))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2))
      ∧ r.2.sem = fun _ => 0)

def quiescent_Gmlp [hGmlp : Cert.Gmlp.Facts] : Prop :=
  ∀ (m : (ℓ : Loc Cert.Gmlp.nD Cert.Gmlp.τ Cert.Gmlp.sig) → Buf (Elt Bits) ℓ) (g : Dev Cert.Gmlp.nD → PrngReg), Pre_Gmlp m →
    θ_run (Cert.Gmlp.defs (F := Bits)) (onTc (τ := Cert.Gmlp.τ) (Cert.Gmlp.main (F := Bits))) ⟨m, fun _ => 0, g⟩ (fun r => (∀ c : Dev Cert.Gmlp.nD,
      r.2.mem ((c.tc : Thread Cert.Gmlp.nD Cert.Gmlp.τ).loc Cert.Gmlp.main_arg0) = m ((c.tc : Thread Cert.Gmlp.nD Cert.Gmlp.τ).loc Cert.Gmlp.main_arg0)
      ∧ r.2.mem ((c.tc : Thread Cert.Gmlp.nD Cert.Gmlp.τ).loc Cert.Gmlp.main_arg1) = m ((c.tc : Thread Cert.Gmlp.nD Cert.Gmlp.τ).loc Cert.Gmlp.main_arg1)
      ∧ r.2.mem ((c.tc : Thread Cert.Gmlp.nD Cert.Gmlp.τ).loc Cert.Gmlp.main_arg2) = m ((c.tc : Thread Cert.Gmlp.nD Cert.Gmlp.τ).loc Cert.Gmlp.main_arg2)
      ∧ r.2.mem ((c.tc : Thread Cert.Gmlp.nD Cert.Gmlp.τ).loc Cert.Gmlp.main_arg3) = m ((c.tc : Thread Cert.Gmlp.nD Cert.Gmlp.τ).loc Cert.Gmlp.main_arg3)
      ∧ r.2.mem ((c.tc : Thread Cert.Gmlp.nD Cert.Gmlp.τ).loc Cert.Gmlp.main_arg4) = m ((c.tc : Thread Cert.Gmlp.nD Cert.Gmlp.τ).loc Cert.Gmlp.main_arg4))
      ∧ r.2.sem = fun _ => 0)

def quiescent_GmlpIdeal [hGmlpIdeal : Cert.GmlpIdeal.Facts] : Prop :=
  ∀ (m : (ℓ : Loc Cert.GmlpIdeal.nD Cert.GmlpIdeal.τ Cert.GmlpIdeal.sig) → Buf (Elt Ideal) ℓ) (g : Dev Cert.GmlpIdeal.nD → PrngReg), Pre_GmlpIdeal m →
    θ_run (Cert.GmlpIdeal.defs (F := Ideal)) (onTc (τ := Cert.GmlpIdeal.τ) (Cert.GmlpIdeal.main (F := Ideal))) ⟨m, fun _ => 0, g⟩ (fun r => (∀ c : Dev Cert.GmlpIdeal.nD,
      r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
      ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
      ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
      ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
      ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4))
      ∧ r.2.sem = fun _ => 0)

def quiescent_GmlpRefIdeal [hGmlpRefIdeal : Cert.GmlpRefIdeal.Facts] : Prop :=
  ∀ (m : (ℓ : Loc Cert.GmlpRefIdeal.nD Cert.GmlpRefIdeal.τ Cert.GmlpRefIdeal.sig) → Buf (Elt Ideal) ℓ) (g : Dev Cert.GmlpRefIdeal.nD → PrngReg), Pre_GmlpRefIdeal m →
    θ_run (Cert.GmlpRefIdeal.defs (F := Ideal)) (onTc (τ := Cert.GmlpRefIdeal.τ) (Cert.GmlpRefIdeal.main (F := Ideal))) ⟨m, fun _ => 0, g⟩ (fun r => (∀ c : Dev Cert.GmlpRefIdeal.nD,
      r.2.mem ((c.tc : Thread Cert.GmlpRefIdeal.nD Cert.GmlpRefIdeal.τ).loc Cert.GmlpRefIdeal.main_arg0) = m ((c.tc : Thread Cert.GmlpRefIdeal.nD Cert.GmlpRefIdeal.τ).loc Cert.GmlpRefIdeal.main_arg0)
      ∧ r.2.mem ((c.tc : Thread Cert.GmlpRefIdeal.nD Cert.GmlpRefIdeal.τ).loc Cert.GmlpRefIdeal.main_arg1) = m ((c.tc : Thread Cert.GmlpRefIdeal.nD Cert.GmlpRefIdeal.τ).loc Cert.GmlpRefIdeal.main_arg1)
      ∧ r.2.mem ((c.tc : Thread Cert.GmlpRefIdeal.nD Cert.GmlpRefIdeal.τ).loc Cert.GmlpRefIdeal.main_arg2) = m ((c.tc : Thread Cert.GmlpRefIdeal.nD Cert.GmlpRefIdeal.τ).loc Cert.GmlpRefIdeal.main_arg2)
      ∧ r.2.mem ((c.tc : Thread Cert.GmlpRefIdeal.nD Cert.GmlpRefIdeal.τ).loc Cert.GmlpRefIdeal.main_arg3) = m ((c.tc : Thread Cert.GmlpRefIdeal.nD Cert.GmlpRefIdeal.τ).loc Cert.GmlpRefIdeal.main_arg3)
      ∧ r.2.mem ((c.tc : Thread Cert.GmlpRefIdeal.nD Cert.GmlpRefIdeal.τ).loc Cert.GmlpRefIdeal.main_arg4) = m ((c.tc : Thread Cert.GmlpRefIdeal.nD Cert.GmlpRefIdeal.τ).loc Cert.GmlpRefIdeal.main_arg4))
      ∧ r.2.sem = fun _ => 0)

def quiescent_ConvSample [hConvSample : Cert.ConvSample.Facts] : Prop :=
  ∀ (m : (ℓ : Loc Cert.ConvSample.nD Cert.ConvSample.τ Cert.ConvSample.sig) → Buf (Elt Bits) ℓ) (g : Dev Cert.ConvSample.nD → PrngReg), Pre_ConvSample m →
    θ_run (Cert.ConvSample.defs (F := Bits)) (onTc (τ := Cert.ConvSample.τ) (Cert.ConvSample.main (F := Bits))) ⟨m, fun _ => 0, g⟩ (fun r => (∀ c : Dev Cert.ConvSample.nD,
      r.2.mem ((c.tc : Thread Cert.ConvSample.nD Cert.ConvSample.τ).loc Cert.ConvSample.main_arg0) = m ((c.tc : Thread Cert.ConvSample.nD Cert.ConvSample.τ).loc Cert.ConvSample.main_arg0)
      ∧ r.2.mem ((c.tc : Thread Cert.ConvSample.nD Cert.ConvSample.τ).loc Cert.ConvSample.main_arg1) = m ((c.tc : Thread Cert.ConvSample.nD Cert.ConvSample.τ).loc Cert.ConvSample.main_arg1)
      ∧ r.2.mem ((c.tc : Thread Cert.ConvSample.nD Cert.ConvSample.τ).loc Cert.ConvSample.main_arg2) = m ((c.tc : Thread Cert.ConvSample.nD Cert.ConvSample.τ).loc Cert.ConvSample.main_arg2)
      ∧ r.2.mem ((c.tc : Thread Cert.ConvSample.nD Cert.ConvSample.τ).loc Cert.ConvSample.main_arg3) = m ((c.tc : Thread Cert.ConvSample.nD Cert.ConvSample.τ).loc Cert.ConvSample.main_arg3))
      ∧ r.2.sem = fun _ => 0)

def quiescent_ConvSampleIdeal [hConvSampleIdeal : Cert.ConvSampleIdeal.Facts] : Prop :=
  ∀ (m : (ℓ : Loc Cert.ConvSampleIdeal.nD Cert.ConvSampleIdeal.τ Cert.ConvSampleIdeal.sig) → Buf (Elt Ideal) ℓ) (g : Dev Cert.ConvSampleIdeal.nD → PrngReg), Pre_ConvSampleIdeal m →
    θ_run (Cert.ConvSampleIdeal.defs (F := Ideal)) (onTc (τ := Cert.ConvSampleIdeal.τ) (Cert.ConvSampleIdeal.main (F := Ideal))) ⟨m, fun _ => 0, g⟩ (fun r => (∀ c : Dev Cert.ConvSampleIdeal.nD,
      r.2.mem ((c.tc : Thread Cert.ConvSampleIdeal.nD Cert.ConvSampleIdeal.τ).loc Cert.ConvSampleIdeal.main_arg0) = m ((c.tc : Thread Cert.ConvSampleIdeal.nD Cert.ConvSampleIdeal.τ).loc Cert.ConvSampleIdeal.main_arg0)
      ∧ r.2.mem ((c.tc : Thread Cert.ConvSampleIdeal.nD Cert.ConvSampleIdeal.τ).loc Cert.ConvSampleIdeal.main_arg1) = m ((c.tc : Thread Cert.ConvSampleIdeal.nD Cert.ConvSampleIdeal.τ).loc Cert.ConvSampleIdeal.main_arg1)
      ∧ r.2.mem ((c.tc : Thread Cert.ConvSampleIdeal.nD Cert.ConvSampleIdeal.τ).loc Cert.ConvSampleIdeal.main_arg2) = m ((c.tc : Thread Cert.ConvSampleIdeal.nD Cert.ConvSampleIdeal.τ).loc Cert.ConvSampleIdeal.main_arg2)
      ∧ r.2.mem ((c.tc : Thread Cert.ConvSampleIdeal.nD Cert.ConvSampleIdeal.τ).loc Cert.ConvSampleIdeal.main_arg3) = m ((c.tc : Thread Cert.ConvSampleIdeal.nD Cert.ConvSampleIdeal.τ).loc Cert.ConvSampleIdeal.main_arg3))
      ∧ r.2.sem = fun _ => 0)

def quiescent_ConvSampleRefIdeal [hConvSampleRefIdeal : Cert.ConvSampleRefIdeal.Facts] : Prop :=
  ∀ (m : (ℓ : Loc Cert.ConvSampleRefIdeal.nD Cert.ConvSampleRefIdeal.τ Cert.ConvSampleRefIdeal.sig) → Buf (Elt Ideal) ℓ) (g : Dev Cert.ConvSampleRefIdeal.nD → PrngReg), Pre_ConvSampleRefIdeal m →
    θ_run (Cert.ConvSampleRefIdeal.defs (F := Ideal)) (onTc (τ := Cert.ConvSampleRefIdeal.τ) (Cert.ConvSampleRefIdeal.main (F := Ideal))) ⟨m, fun _ => 0, g⟩ (fun r => (∀ c : Dev Cert.ConvSampleRefIdeal.nD,
      r.2.mem ((c.tc : Thread Cert.ConvSampleRefIdeal.nD Cert.ConvSampleRefIdeal.τ).loc Cert.ConvSampleRefIdeal.main_arg0) = m ((c.tc : Thread Cert.ConvSampleRefIdeal.nD Cert.ConvSampleRefIdeal.τ).loc Cert.ConvSampleRefIdeal.main_arg0)
      ∧ r.2.mem ((c.tc : Thread Cert.ConvSampleRefIdeal.nD Cert.ConvSampleRefIdeal.τ).loc Cert.ConvSampleRefIdeal.main_arg1) = m ((c.tc : Thread Cert.ConvSampleRefIdeal.nD Cert.ConvSampleRefIdeal.τ).loc Cert.ConvSampleRefIdeal.main_arg1)
      ∧ r.2.mem ((c.tc : Thread Cert.ConvSampleRefIdeal.nD Cert.ConvSampleRefIdeal.τ).loc Cert.ConvSampleRefIdeal.main_arg2) = m ((c.tc : Thread Cert.ConvSampleRefIdeal.nD Cert.ConvSampleRefIdeal.τ).loc Cert.ConvSampleRefIdeal.main_arg2)
      ∧ r.2.mem ((c.tc : Thread Cert.ConvSampleRefIdeal.nD Cert.ConvSampleRefIdeal.τ).loc Cert.ConvSampleRefIdeal.main_arg3) = m ((c.tc : Thread Cert.ConvSampleRefIdeal.nD Cert.ConvSampleRefIdeal.τ).loc Cert.ConvSampleRefIdeal.main_arg3))
      ∧ r.2.sem = fun _ => 0)

def quiescent_GmlpSample [hGmlpSample : Cert.GmlpSample.Facts] : Prop :=
  ∀ (m : (ℓ : Loc Cert.GmlpSample.nD Cert.GmlpSample.τ Cert.GmlpSample.sig) → Buf (Elt Bits) ℓ) (g : Dev Cert.GmlpSample.nD → PrngReg), Pre_GmlpSample m →
    θ_run (Cert.GmlpSample.defs (F := Bits)) (onTc (τ := Cert.GmlpSample.τ) (Cert.GmlpSample.main (F := Bits))) ⟨m, fun _ => 0, g⟩ (fun r => (∀ c : Dev Cert.GmlpSample.nD,
      r.2.mem ((c.tc : Thread Cert.GmlpSample.nD Cert.GmlpSample.τ).loc Cert.GmlpSample.main_arg0) = m ((c.tc : Thread Cert.GmlpSample.nD Cert.GmlpSample.τ).loc Cert.GmlpSample.main_arg0)
      ∧ r.2.mem ((c.tc : Thread Cert.GmlpSample.nD Cert.GmlpSample.τ).loc Cert.GmlpSample.main_arg1) = m ((c.tc : Thread Cert.GmlpSample.nD Cert.GmlpSample.τ).loc Cert.GmlpSample.main_arg1)
      ∧ r.2.mem ((c.tc : Thread Cert.GmlpSample.nD Cert.GmlpSample.τ).loc Cert.GmlpSample.main_arg2) = m ((c.tc : Thread Cert.GmlpSample.nD Cert.GmlpSample.τ).loc Cert.GmlpSample.main_arg2)
      ∧ r.2.mem ((c.tc : Thread Cert.GmlpSample.nD Cert.GmlpSample.τ).loc Cert.GmlpSample.main_arg3) = m ((c.tc : Thread Cert.GmlpSample.nD Cert.GmlpSample.τ).loc Cert.GmlpSample.main_arg3)
      ∧ r.2.mem ((c.tc : Thread Cert.GmlpSample.nD Cert.GmlpSample.τ).loc Cert.GmlpSample.main_arg4) = m ((c.tc : Thread Cert.GmlpSample.nD Cert.GmlpSample.τ).loc Cert.GmlpSample.main_arg4))
      ∧ r.2.sem = fun _ => 0)

def quiescent_GmlpSampleIdeal [hGmlpSampleIdeal : Cert.GmlpSampleIdeal.Facts] : Prop :=
  ∀ (m : (ℓ : Loc Cert.GmlpSampleIdeal.nD Cert.GmlpSampleIdeal.τ Cert.GmlpSampleIdeal.sig) → Buf (Elt Ideal) ℓ) (g : Dev Cert.GmlpSampleIdeal.nD → PrngReg), Pre_GmlpSampleIdeal m →
    θ_run (Cert.GmlpSampleIdeal.defs (F := Ideal)) (onTc (τ := Cert.GmlpSampleIdeal.τ) (Cert.GmlpSampleIdeal.main (F := Ideal))) ⟨m, fun _ => 0, g⟩ (fun r => (∀ c : Dev Cert.GmlpSampleIdeal.nD,
      r.2.mem ((c.tc : Thread Cert.GmlpSampleIdeal.nD Cert.GmlpSampleIdeal.τ).loc Cert.GmlpSampleIdeal.main_arg0) = m ((c.tc : Thread Cert.GmlpSampleIdeal.nD Cert.GmlpSampleIdeal.τ).loc Cert.GmlpSampleIdeal.main_arg0)
      ∧ r.2.mem ((c.tc : Thread Cert.GmlpSampleIdeal.nD Cert.GmlpSampleIdeal.τ).loc Cert.GmlpSampleIdeal.main_arg1) = m ((c.tc : Thread Cert.GmlpSampleIdeal.nD Cert.GmlpSampleIdeal.τ).loc Cert.GmlpSampleIdeal.main_arg1)
      ∧ r.2.mem ((c.tc : Thread Cert.GmlpSampleIdeal.nD Cert.GmlpSampleIdeal.τ).loc Cert.GmlpSampleIdeal.main_arg2) = m ((c.tc : Thread Cert.GmlpSampleIdeal.nD Cert.GmlpSampleIdeal.τ).loc Cert.GmlpSampleIdeal.main_arg2)
      ∧ r.2.mem ((c.tc : Thread Cert.GmlpSampleIdeal.nD Cert.GmlpSampleIdeal.τ).loc Cert.GmlpSampleIdeal.main_arg3) = m ((c.tc : Thread Cert.GmlpSampleIdeal.nD Cert.GmlpSampleIdeal.τ).loc Cert.GmlpSampleIdeal.main_arg3)
      ∧ r.2.mem ((c.tc : Thread Cert.GmlpSampleIdeal.nD Cert.GmlpSampleIdeal.τ).loc Cert.GmlpSampleIdeal.main_arg4) = m ((c.tc : Thread Cert.GmlpSampleIdeal.nD Cert.GmlpSampleIdeal.τ).loc Cert.GmlpSampleIdeal.main_arg4))
      ∧ r.2.sem = fun _ => 0)

def quiescent_GmlpSampleRefIdeal [hGmlpSampleRefIdeal : Cert.GmlpSampleRefIdeal.Facts] : Prop :=
  ∀ (m : (ℓ : Loc Cert.GmlpSampleRefIdeal.nD Cert.GmlpSampleRefIdeal.τ Cert.GmlpSampleRefIdeal.sig) → Buf (Elt Ideal) ℓ) (g : Dev Cert.GmlpSampleRefIdeal.nD → PrngReg), Pre_GmlpSampleRefIdeal m →
    θ_run (Cert.GmlpSampleRefIdeal.defs (F := Ideal)) (onTc (τ := Cert.GmlpSampleRefIdeal.τ) (Cert.GmlpSampleRefIdeal.main (F := Ideal))) ⟨m, fun _ => 0, g⟩ (fun r => (∀ c : Dev Cert.GmlpSampleRefIdeal.nD,
      r.2.mem ((c.tc : Thread Cert.GmlpSampleRefIdeal.nD Cert.GmlpSampleRefIdeal.τ).loc Cert.GmlpSampleRefIdeal.main_arg0) = m ((c.tc : Thread Cert.GmlpSampleRefIdeal.nD Cert.GmlpSampleRefIdeal.τ).loc Cert.GmlpSampleRefIdeal.main_arg0)
      ∧ r.2.mem ((c.tc : Thread Cert.GmlpSampleRefIdeal.nD Cert.GmlpSampleRefIdeal.τ).loc Cert.GmlpSampleRefIdeal.main_arg1) = m ((c.tc : Thread Cert.GmlpSampleRefIdeal.nD Cert.GmlpSampleRefIdeal.τ).loc Cert.GmlpSampleRefIdeal.main_arg1)
      ∧ r.2.mem ((c.tc : Thread Cert.GmlpSampleRefIdeal.nD Cert.GmlpSampleRefIdeal.τ).loc Cert.GmlpSampleRefIdeal.main_arg2) = m ((c.tc : Thread Cert.GmlpSampleRefIdeal.nD Cert.GmlpSampleRefIdeal.τ).loc Cert.GmlpSampleRefIdeal.main_arg2)
      ∧ r.2.mem ((c.tc : Thread Cert.GmlpSampleRefIdeal.nD Cert.GmlpSampleRefIdeal.τ).loc Cert.GmlpSampleRefIdeal.main_arg3) = m ((c.tc : Thread Cert.GmlpSampleRefIdeal.nD Cert.GmlpSampleRefIdeal.τ).loc Cert.GmlpSampleRefIdeal.main_arg3)
      ∧ r.2.mem ((c.tc : Thread Cert.GmlpSampleRefIdeal.nD Cert.GmlpSampleRefIdeal.τ).loc Cert.GmlpSampleRefIdeal.main_arg4) = m ((c.tc : Thread Cert.GmlpSampleRefIdeal.nD Cert.GmlpSampleRefIdeal.τ).loc Cert.GmlpSampleRefIdeal.main_arg4))
      ∧ r.2.sem = fun _ => 0)

def quiescent_Route [hRoute : Cert.Route.Facts] : Prop :=
  ∀ (m : (ℓ : Loc Cert.Route.nD Cert.Route.τ Cert.Route.sig) → Buf (Elt Bits) ℓ) (g : Dev Cert.Route.nD → PrngReg), Pre_Route m →
    θ_run (Cert.Route.defs (F := Bits)) (onTc (τ := Cert.Route.τ) (Cert.Route.main (F := Bits))) ⟨m, fun _ => 0, g⟩ (fun r => (∀ c : Dev Cert.Route.nD,
      r.2.mem ((c.tc : Thread Cert.Route.nD Cert.Route.τ).loc Cert.Route.main_arg0) = m ((c.tc : Thread Cert.Route.nD Cert.Route.τ).loc Cert.Route.main_arg0)
      ∧ r.2.mem ((c.tc : Thread Cert.Route.nD Cert.Route.τ).loc Cert.Route.main_arg1) = m ((c.tc : Thread Cert.Route.nD Cert.Route.τ).loc Cert.Route.main_arg1)
      ∧ r.2.mem ((c.tc : Thread Cert.Route.nD Cert.Route.τ).loc Cert.Route.main_arg2) = m ((c.tc : Thread Cert.Route.nD Cert.Route.τ).loc Cert.Route.main_arg2)
      ∧ r.2.mem ((c.tc : Thread Cert.Route.nD Cert.Route.τ).loc Cert.Route.main_arg3) = m ((c.tc : Thread Cert.Route.nD Cert.Route.τ).loc Cert.Route.main_arg3)
      ∧ r.2.mem ((c.tc : Thread Cert.Route.nD Cert.Route.τ).loc Cert.Route.main_arg4) = m ((c.tc : Thread Cert.Route.nD Cert.Route.τ).loc Cert.Route.main_arg4))
      ∧ r.2.sem = fun _ => 0)

def quiescent_RouteIdeal [hRouteIdeal : Cert.RouteIdeal.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
      ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3)
      ∧ r.2.mem ((c.tc : Thread Cert.RouteIdeal.nD Cert.RouteIdeal.τ).loc Cert.RouteIdeal.main_arg4) = m ((c.tc : Thread Cert.RouteIdeal.nD Cert.RouteIdeal.τ).loc Cert.RouteIdeal.main_arg4))
      ∧ r.2.sem = fun _ => 0)

def quiescent_RouteRefIdeal [hRouteRefIdeal : Cert.RouteRefIdeal.Facts] : Prop :=
  ∀ (m : (ℓ : Loc Cert.RouteRefIdeal.nD Cert.RouteRefIdeal.τ Cert.RouteRefIdeal.sig) → Buf (Elt Ideal) ℓ) (g : Dev Cert.RouteRefIdeal.nD → PrngReg), Pre_RouteRefIdeal m →
    θ_run (Cert.RouteRefIdeal.defs (F := Ideal)) (onTc (τ := Cert.RouteRefIdeal.τ) (Cert.RouteRefIdeal.main (F := Ideal))) ⟨m, fun _ => 0, g⟩ (fun r => (∀ c : Dev Cert.RouteRefIdeal.nD,
      r.2.mem ((c.tc : Thread Cert.RouteRefIdeal.nD Cert.RouteRefIdeal.τ).loc Cert.RouteRefIdeal.main_arg0) = m ((c.tc : Thread Cert.RouteRefIdeal.nD Cert.RouteRefIdeal.τ).loc Cert.RouteRefIdeal.main_arg0)
      ∧ r.2.mem ((c.tc : Thread Cert.RouteRefIdeal.nD Cert.RouteRefIdeal.τ).loc Cert.RouteRefIdeal.main_arg1) = m ((c.tc : Thread Cert.RouteRefIdeal.nD Cert.RouteRefIdeal.τ).loc Cert.RouteRefIdeal.main_arg1)
      ∧ r.2.mem ((c.tc : Thread Cert.RouteRefIdeal.nD Cert.RouteRefIdeal.τ).loc Cert.RouteRefIdeal.main_arg2) = m ((c.tc : Thread Cert.RouteRefIdeal.nD Cert.RouteRefIdeal.τ).loc Cert.RouteRefIdeal.main_arg2)
      ∧ r.2.mem ((c.tc : Thread Cert.RouteRefIdeal.nD Cert.RouteRefIdeal.τ).loc Cert.RouteRefIdeal.main_arg3) = m ((c.tc : Thread Cert.RouteRefIdeal.nD Cert.RouteRefIdeal.τ).loc Cert.RouteRefIdeal.main_arg3)
      ∧ r.2.mem ((c.tc : Thread Cert.RouteRefIdeal.nD Cert.RouteRefIdeal.τ).loc Cert.RouteRefIdeal.main_arg4) = m ((c.tc : Thread Cert.RouteRefIdeal.nD Cert.RouteRefIdeal.τ).loc Cert.RouteRefIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v314) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)) →
    ∃ (v0 : (c : Dev Cert.GluIdeal.nD) → Buf (Elt Ideal) ((c.tc : Thread Cert.GluIdeal.nD Cert.GluIdeal.τ).loc Cert.GluIdeal.main_v6)) (v1 : (c : Dev Cert.GluIdeal.nD) → Buf (Elt Ideal) ((c.tc : Thread Cert.GluIdeal.nD Cert.GluIdeal.τ).loc Cert.GluIdeal.main_v9)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v6) = v0 c
          ∧ r.2.mem ((c.tc : Thread Cert.GluIdeal.nD Cert.GluIdeal.τ).loc Cert.GluIdeal.main_v9) = v1 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v28) = v0 c
          ∧ r.2.mem ((c.tc : Thread Cert.GluRefIdeal.nD Cert.GluRefIdeal.τ).loc Cert.GluRefIdeal.main_v30) = v1 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)
      ∧ m' ((c.tc : Thread Cert.GatesRefIdeal.nD Cert.GatesRefIdeal.τ).loc Cert.GatesRefIdeal.main_arg2) = m ((c.tc : Thread Cert.GatesIdeal.nD Cert.GatesIdeal.τ).loc Cert.GatesIdeal.main_arg2)
      ∧ m' ((c.tc : Thread Cert.GatesRefIdeal.nD Cert.GatesRefIdeal.τ).loc Cert.GatesRefIdeal.main_arg3) = m ((c.tc : Thread Cert.GatesIdeal.nD Cert.GatesIdeal.τ).loc Cert.GatesIdeal.main_arg3)) →
    ∃ (v0 : (c : Dev Cert.GatesIdeal.nD) → Buf (Elt Ideal) ((c.tc : Thread Cert.GatesIdeal.nD Cert.GatesIdeal.τ).loc Cert.GatesIdeal.main_v8_0)) (v1 : (c : Dev Cert.GatesIdeal.nD) → Buf (Elt Ideal) ((c.tc : Thread Cert.GatesIdeal.nD Cert.GatesIdeal.τ).loc Cert.GatesIdeal.main_v8_1)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v8_0) = v0 c
          ∧ r.2.mem ((c.tc : Thread Cert.GatesIdeal.nD Cert.GatesIdeal.τ).loc Cert.GatesIdeal.main_v8_1) = v1 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
          ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v29) = v0 c
          ∧ r.2.mem ((c.tc : Thread Cert.GatesRefIdeal.nD Cert.GatesRefIdeal.τ).loc Cert.GatesRefIdeal.main_v31) = v1 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1)
          ∧ r.2.mem ((c.tc : Thread Cert.GatesRefIdeal.nD Cert.GatesRefIdeal.τ).loc Cert.GatesRefIdeal.main_arg2) = m' ((c.tc : Thread Cert.GatesRefIdeal.nD Cert.GatesRefIdeal.τ).loc Cert.GatesRefIdeal.main_arg2)
          ∧ r.2.mem ((c.tc : Thread Cert.GatesRefIdeal.nD Cert.GatesRefIdeal.τ).loc Cert.GatesRefIdeal.main_arg3) = m' ((c.tc : Thread Cert.GatesRefIdeal.nD Cert.GatesRefIdeal.τ).loc Cert.GatesRefIdeal.main_arg3))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)
      ∧ m' ((c.tc : Thread Cert.KvRefIdeal.nD Cert.KvRefIdeal.τ).loc Cert.KvRefIdeal.main_arg2) = m ((c.tc : Thread Cert.KvIdeal.nD Cert.KvIdeal.τ).loc Cert.KvIdeal.main_arg2)) →
    ∃ (v0 : (c : Dev Cert.KvIdeal.nD) → Buf (Elt Ideal) ((c.tc : Thread Cert.KvIdeal.nD Cert.KvIdeal.τ).loc Cert.KvIdeal.main_v10)) (v1 : (c : Dev Cert.KvIdeal.nD) → Buf (Elt Ideal) ((c.tc : Thread Cert.KvIdeal.nD Cert.KvIdeal.τ).loc Cert.KvIdeal.main_v12)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v10) = v0 c
          ∧ r.2.mem ((c.tc : Thread Cert.KvIdeal.nD Cert.KvIdeal.τ).loc Cert.KvIdeal.main_v12) = v1 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v19) = v0 c
          ∧ r.2.mem ((c.tc : Thread Cert.KvRefIdeal.nD Cert.KvRefIdeal.τ).loc Cert.KvRefIdeal.main_v22) = v1 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1)
          ∧ r.2.mem ((c.tc : Thread Cert.KvRefIdeal.nD Cert.KvRefIdeal.τ).loc Cert.KvRefIdeal.main_arg2) = m' ((c.tc : Thread Cert.KvRefIdeal.nD Cert.KvRefIdeal.τ).loc Cert.KvRefIdeal.main_arg2))

def preserves_Gmlp_GmlpIdeal : Prop :=
  IdealRules.named_const.Statement Cert.GmlpIdeal.κ "root_cube" .f32 0x3D122279#32 ((80338380498831 / 2251799813685248 : ℝ) : EReal)

def algebraic_GmlpIdeal_GmlpRefIdeal [hGmlpIdeal : Cert.GmlpIdeal.Facts] [hGmlpRefIdeal : Cert.GmlpRefIdeal.Facts] : Prop :=
  ∀ (m : (ℓ : Loc Cert.GmlpIdeal.nD Cert.GmlpIdeal.τ Cert.GmlpIdeal.sig) → Buf (Elt Ideal) ℓ) (g : Dev Cert.GmlpIdeal.nD → PrngReg)
    (m' : (ℓ : Loc Cert.GmlpRefIdeal.nD Cert.GmlpRefIdeal.τ Cert.GmlpRefIdeal.sig) → Buf (Elt Ideal) ℓ) (g' : Dev Cert.GmlpRefIdeal.nD → PrngReg), Pre_GmlpIdeal m →
    (∀ c : Dev Cert.GmlpIdeal.nD,
      m' ((c.tc : Thread Cert.GmlpRefIdeal.nD Cert.GmlpRefIdeal.τ).loc Cert.GmlpRefIdeal.main_arg0) = m ((c.tc : Thread Cert.GmlpIdeal.nD Cert.GmlpIdeal.τ).loc Cert.GmlpIdeal.main_arg0)
      ∧ m' ((c.tc : Thread Cert.GmlpRefIdeal.nD Cert.GmlpRefIdeal.τ).loc Cert.GmlpRefIdeal.main_arg1) = m ((c.tc : Thread Cert.GmlpIdeal.nD Cert.GmlpIdeal.τ).loc Cert.GmlpIdeal.main_arg1)
      ∧ m' ((c.tc : Thread Cert.GmlpRefIdeal.nD Cert.GmlpRefIdeal.τ).loc Cert.GmlpRefIdeal.main_arg2) = m ((c.tc : Thread Cert.GmlpIdeal.nD Cert.GmlpIdeal.τ).loc Cert.GmlpIdeal.main_arg2)
      ∧ m' ((c.tc : Thread Cert.GmlpRefIdeal.nD Cert.GmlpRefIdeal.τ).loc Cert.GmlpRefIdeal.main_arg3) = m ((c.tc : Thread Cert.GmlpIdeal.nD Cert.GmlpIdeal.τ).loc Cert.GmlpIdeal.main_arg3)
      ∧ m' ((c.tc : Thread Cert.GmlpRefIdeal.nD Cert.GmlpRefIdeal.τ).loc Cert.GmlpRefIdeal.main_arg4) = m ((c.tc : Thread Cert.GmlpIdeal.nD Cert.GmlpIdeal.τ).loc Cert.GmlpIdeal.main_arg4)) →
    ∃ (v0 : (c : Dev Cert.GmlpIdeal.nD) → Buf (Elt Ideal) ((c.tc : Thread Cert.GmlpIdeal.nD Cert.GmlpIdeal.τ).loc Cert.GmlpIdeal.main_v10_0)) (v1 : (c : Dev Cert.GmlpIdeal.nD) → Buf (Elt Ideal) ((c.tc : Thread Cert.GmlpIdeal.nD Cert.GmlpIdeal.τ).loc Cert.GmlpIdeal.main_v10_1)),
      θ_run (Cert.GmlpIdeal.defs (F := Ideal)) (onTc (τ := Cert.GmlpIdeal.τ) (Cert.GmlpIdeal.main (F := Ideal))) ⟨m, fun _ => 0, g⟩ (fun r => ∀ c : Dev Cert.GmlpIdeal.nD,
          r.2.mem ((c.tc : Thread Cert.GmlpIdeal.nD Cert.GmlpIdeal.τ).loc Cert.GmlpIdeal.main_v10_0) = v0 c
          ∧ r.2.mem ((c.tc : Thread Cert.GmlpIdeal.nD Cert.GmlpIdeal.τ).loc Cert.GmlpIdeal.main_v10_1) = v1 c
          ∧ r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
          ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
          ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
          ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
          ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4))
      ∧ θ_run (Cert.GmlpRefIdeal.defs (F := Ideal)) (onTc (τ := Cert.GmlpRefIdeal.τ) (Cert.GmlpRefIdeal.main (F := Ideal))) ⟨m', fun _ => 0, g'⟩ (fun r => ∀ c : Dev Cert.GmlpRefIdeal.nD,
          r.2.mem ((c.tc : Thread Cert.GmlpRefIdeal.nD Cert.GmlpRefIdeal.τ).loc Cert.GmlpRefIdeal.main_v59) = v0 c
          ∧ r.2.mem ((c.tc : Thread Cert.GmlpRefIdeal.nD Cert.GmlpRefIdeal.τ).loc Cert.GmlpRefIdeal.main_v60) = v1 c
          ∧ r.2.mem ((c.tc : Thread Cert.GmlpRefIdeal.nD Cert.GmlpRefIdeal.τ).loc Cert.GmlpRefIdeal.main_arg0) = m' ((c.tc : Thread Cert.GmlpRefIdeal.nD Cert.GmlpRefIdeal.τ).loc Cert.GmlpRefIdeal.main_arg0)
          ∧ r.2.mem ((c.tc : Thread Cert.GmlpRefIdeal.nD Cert.GmlpRefIdeal.τ).loc Cert.GmlpRefIdeal.main_arg1) = m' ((c.tc : Thread Cert.GmlpRefIdeal.nD Cert.GmlpRefIdeal.τ).loc Cert.GmlpRefIdeal.main_arg1)
          ∧ r.2.mem ((c.tc : Thread Cert.GmlpRefIdeal.nD Cert.GmlpRefIdeal.τ).loc Cert.GmlpRefIdeal.main_arg2) = m' ((c.tc : Thread Cert.GmlpRefIdeal.nD Cert.GmlpRefIdeal.τ).loc Cert.GmlpRefIdeal.main_arg2)
          ∧ r.2.mem ((c.tc : Thread Cert.GmlpRefIdeal.nD Cert.GmlpRefIdeal.τ).loc Cert.GmlpRefIdeal.main_arg3) = m' ((c.tc : Thread Cert.GmlpRefIdeal.nD Cert.GmlpRefIdeal.τ).loc Cert.GmlpRefIdeal.main_arg3)
          ∧ r.2.mem ((c.tc : Thread Cert.GmlpRefIdeal.nD Cert.GmlpRefIdeal.τ).loc Cert.GmlpRefIdeal.main_arg4) = m' ((c.tc : Thread Cert.GmlpRefIdeal.nD Cert.GmlpRefIdeal.τ).loc Cert.GmlpRefIdeal.main_arg4))

def preserves_ConvSample_ConvSampleIdeal : Prop :=
  True

def algebraic_ConvSampleIdeal_ConvSampleRefIdeal [hConvSampleIdeal : Cert.ConvSampleIdeal.Facts] [hConvSampleRefIdeal : Cert.ConvSampleRefIdeal.Facts] : Prop :=
  ∀ (m : (ℓ : Loc Cert.ConvSampleIdeal.nD Cert.ConvSampleIdeal.τ Cert.ConvSampleIdeal.sig) → Buf (Elt Ideal) ℓ) (g : Dev Cert.ConvSampleIdeal.nD → PrngReg)
    (m' : (ℓ : Loc Cert.ConvSampleRefIdeal.nD Cert.ConvSampleRefIdeal.τ Cert.ConvSampleRefIdeal.sig) → Buf (Elt Ideal) ℓ) (g' : Dev Cert.ConvSampleRefIdeal.nD → PrngReg), Pre_ConvSampleIdeal m →
    (∀ c : Dev Cert.ConvSampleIdeal.nD,
      m' ((c.tc : Thread Cert.ConvSampleRefIdeal.nD Cert.ConvSampleRefIdeal.τ).loc Cert.ConvSampleRefIdeal.main_arg0) = m ((c.tc : Thread Cert.ConvSampleIdeal.nD Cert.ConvSampleIdeal.τ).loc Cert.ConvSampleIdeal.main_arg0)
      ∧ m' ((c.tc : Thread Cert.ConvSampleRefIdeal.nD Cert.ConvSampleRefIdeal.τ).loc Cert.ConvSampleRefIdeal.main_arg1) = m ((c.tc : Thread Cert.ConvSampleIdeal.nD Cert.ConvSampleIdeal.τ).loc Cert.ConvSampleIdeal.main_arg1)
      ∧ m' ((c.tc : Thread Cert.ConvSampleRefIdeal.nD Cert.ConvSampleRefIdeal.τ).loc Cert.ConvSampleRefIdeal.main_arg2) = m ((c.tc : Thread Cert.ConvSampleIdeal.nD Cert.ConvSampleIdeal.τ).loc Cert.ConvSampleIdeal.main_arg2)
      ∧ m' ((c.tc : Thread Cert.ConvSampleRefIdeal.nD Cert.ConvSampleRefIdeal.τ).loc Cert.ConvSampleRefIdeal.main_arg3) = m ((c.tc : Thread Cert.ConvSampleIdeal.nD Cert.ConvSampleIdeal.τ).loc Cert.ConvSampleIdeal.main_arg3)) →
    ∃ (v0 : (c : Dev Cert.ConvSampleIdeal.nD) → Buf (Elt Ideal) ((c.tc : Thread Cert.ConvSampleIdeal.nD Cert.ConvSampleIdeal.τ).loc Cert.ConvSampleIdeal.main_v13)),
      θ_run (Cert.ConvSampleIdeal.defs (F := Ideal)) (onTc (τ := Cert.ConvSampleIdeal.τ) (Cert.ConvSampleIdeal.main (F := Ideal))) ⟨m, fun _ => 0, g⟩ (fun r => ∀ c : Dev Cert.ConvSampleIdeal.nD,
          r.2.mem ((c.tc : Thread Cert.ConvSampleIdeal.nD Cert.ConvSampleIdeal.τ).loc Cert.ConvSampleIdeal.main_v13) = v0 c
          ∧ r.2.mem ((c.tc : Thread Cert.ConvSampleIdeal.nD Cert.ConvSampleIdeal.τ).loc Cert.ConvSampleIdeal.main_arg0) = m ((c.tc : Thread Cert.ConvSampleIdeal.nD Cert.ConvSampleIdeal.τ).loc Cert.ConvSampleIdeal.main_arg0)
          ∧ r.2.mem ((c.tc : Thread Cert.ConvSampleIdeal.nD Cert.ConvSampleIdeal.τ).loc Cert.ConvSampleIdeal.main_arg1) = m ((c.tc : Thread Cert.ConvSampleIdeal.nD Cert.ConvSampleIdeal.τ).loc Cert.ConvSampleIdeal.main_arg1)
          ∧ r.2.mem ((c.tc : Thread Cert.ConvSampleIdeal.nD Cert.ConvSampleIdeal.τ).loc Cert.ConvSampleIdeal.main_arg2) = m ((c.tc : Thread Cert.ConvSampleIdeal.nD Cert.ConvSampleIdeal.τ).loc Cert.ConvSampleIdeal.main_arg2)
          ∧ r.2.mem ((c.tc : Thread Cert.ConvSampleIdeal.nD Cert.ConvSampleIdeal.τ).loc Cert.ConvSampleIdeal.main_arg3) = m ((c.tc : Thread Cert.ConvSampleIdeal.nD Cert.ConvSampleIdeal.τ).loc Cert.ConvSampleIdeal.main_arg3))
      ∧ θ_run (Cert.ConvSampleRefIdeal.defs (F := Ideal)) (onTc (τ := Cert.ConvSampleRefIdeal.τ) (Cert.ConvSampleRefIdeal.main (F := Ideal))) ⟨m', fun _ => 0, g'⟩ (fun r => ∀ c : Dev Cert.ConvSampleRefIdeal.nD,
          r.2.mem ((c.tc : Thread Cert.ConvSampleRefIdeal.nD Cert.ConvSampleRefIdeal.τ).loc Cert.ConvSampleRefIdeal.main_v29) = v0 c
          ∧ r.2.mem ((c.tc : Thread Cert.ConvSampleRefIdeal.nD Cert.ConvSampleRefIdeal.τ).loc Cert.ConvSampleRefIdeal.main_arg0) = m' ((c.tc : Thread Cert.ConvSampleRefIdeal.nD Cert.ConvSampleRefIdeal.τ).loc Cert.ConvSampleRefIdeal.main_arg0)
          ∧ r.2.mem ((c.tc : Thread Cert.ConvSampleRefIdeal.nD Cert.ConvSampleRefIdeal.τ).loc Cert.ConvSampleRefIdeal.main_arg1) = m' ((c.tc : Thread Cert.ConvSampleRefIdeal.nD Cert.ConvSampleRefIdeal.τ).loc Cert.ConvSampleRefIdeal.main_arg1)
          ∧ r.2.mem ((c.tc : Thread Cert.ConvSampleRefIdeal.nD Cert.ConvSampleRefIdeal.τ).loc Cert.ConvSampleRefIdeal.main_arg2) = m' ((c.tc : Thread Cert.ConvSampleRefIdeal.nD Cert.ConvSampleRefIdeal.τ).loc Cert.ConvSampleRefIdeal.main_arg2)
          ∧ r.2.mem ((c.tc : Thread Cert.ConvSampleRefIdeal.nD Cert.ConvSampleRefIdeal.τ).loc Cert.ConvSampleRefIdeal.main_arg3) = m' ((c.tc : Thread Cert.ConvSampleRefIdeal.nD Cert.ConvSampleRefIdeal.τ).loc Cert.ConvSampleRefIdeal.main_arg3))

def preserves_GmlpSample_GmlpSampleIdeal : Prop :=
  IdealRules.named_const.Statement Cert.GmlpSampleIdeal.κ "root_cube" .f32 0x3D122279#32 ((80338380498831 / 2251799813685248 : ℝ) : EReal)

def algebraic_GmlpSampleIdeal_GmlpSampleRefIdeal [hGmlpSampleIdeal : Cert.GmlpSampleIdeal.Facts] [hGmlpSampleRefIdeal : Cert.GmlpSampleRefIdeal.Facts] : Prop :=
  ∀ (m : (ℓ : Loc Cert.GmlpSampleIdeal.nD Cert.GmlpSampleIdeal.τ Cert.GmlpSampleIdeal.sig) → Buf (Elt Ideal) ℓ) (g : Dev Cert.GmlpSampleIdeal.nD → PrngReg)
    (m' : (ℓ : Loc Cert.GmlpSampleRefIdeal.nD Cert.GmlpSampleRefIdeal.τ Cert.GmlpSampleRefIdeal.sig) → Buf (Elt Ideal) ℓ) (g' : Dev Cert.GmlpSampleRefIdeal.nD → PrngReg), Pre_GmlpSampleIdeal m →
    (∀ c : Dev Cert.GmlpSampleIdeal.nD,
      m' ((c.tc : Thread Cert.GmlpSampleRefIdeal.nD Cert.GmlpSampleRefIdeal.τ).loc Cert.GmlpSampleRefIdeal.main_arg0) = m ((c.tc : Thread Cert.GmlpSampleIdeal.nD Cert.GmlpSampleIdeal.τ).loc Cert.GmlpSampleIdeal.main_arg0)
      ∧ m' ((c.tc : Thread Cert.GmlpSampleRefIdeal.nD Cert.GmlpSampleRefIdeal.τ).loc Cert.GmlpSampleRefIdeal.main_arg1) = m ((c.tc : Thread Cert.GmlpSampleIdeal.nD Cert.GmlpSampleIdeal.τ).loc Cert.GmlpSampleIdeal.main_arg1)
      ∧ m' ((c.tc : Thread Cert.GmlpSampleRefIdeal.nD Cert.GmlpSampleRefIdeal.τ).loc Cert.GmlpSampleRefIdeal.main_arg2) = m ((c.tc : Thread Cert.GmlpSampleIdeal.nD Cert.GmlpSampleIdeal.τ).loc Cert.GmlpSampleIdeal.main_arg2)
      ∧ m' ((c.tc : Thread Cert.GmlpSampleRefIdeal.nD Cert.GmlpSampleRefIdeal.τ).loc Cert.GmlpSampleRefIdeal.main_arg3) = m ((c.tc : Thread Cert.GmlpSampleIdeal.nD Cert.GmlpSampleIdeal.τ).loc Cert.GmlpSampleIdeal.main_arg3)
      ∧ m' ((c.tc : Thread Cert.GmlpSampleRefIdeal.nD Cert.GmlpSampleRefIdeal.τ).loc Cert.GmlpSampleRefIdeal.main_arg4) = m ((c.tc : Thread Cert.GmlpSampleIdeal.nD Cert.GmlpSampleIdeal.τ).loc Cert.GmlpSampleIdeal.main_arg4)) →
    ∃ (v0 : (c : Dev Cert.GmlpSampleIdeal.nD) → Buf (Elt Ideal) ((c.tc : Thread Cert.GmlpSampleIdeal.nD Cert.GmlpSampleIdeal.τ).loc Cert.GmlpSampleIdeal.main_v14)),
      θ_run (Cert.GmlpSampleIdeal.defs (F := Ideal)) (onTc (τ := Cert.GmlpSampleIdeal.τ) (Cert.GmlpSampleIdeal.main (F := Ideal))) ⟨m, fun _ => 0, g⟩ (fun r => ∀ c : Dev Cert.GmlpSampleIdeal.nD,
          r.2.mem ((c.tc : Thread Cert.GmlpSampleIdeal.nD Cert.GmlpSampleIdeal.τ).loc Cert.GmlpSampleIdeal.main_v14) = v0 c
          ∧ r.2.mem ((c.tc : Thread Cert.GmlpSampleIdeal.nD Cert.GmlpSampleIdeal.τ).loc Cert.GmlpSampleIdeal.main_arg0) = m ((c.tc : Thread Cert.GmlpSampleIdeal.nD Cert.GmlpSampleIdeal.τ).loc Cert.GmlpSampleIdeal.main_arg0)
          ∧ r.2.mem ((c.tc : Thread Cert.GmlpSampleIdeal.nD Cert.GmlpSampleIdeal.τ).loc Cert.GmlpSampleIdeal.main_arg1) = m ((c.tc : Thread Cert.GmlpSampleIdeal.nD Cert.GmlpSampleIdeal.τ).loc Cert.GmlpSampleIdeal.main_arg1)
          ∧ r.2.mem ((c.tc : Thread Cert.GmlpSampleIdeal.nD Cert.GmlpSampleIdeal.τ).loc Cert.GmlpSampleIdeal.main_arg2) = m ((c.tc : Thread Cert.GmlpSampleIdeal.nD Cert.GmlpSampleIdeal.τ).loc Cert.GmlpSampleIdeal.main_arg2)
          ∧ r.2.mem ((c.tc : Thread Cert.GmlpSampleIdeal.nD Cert.GmlpSampleIdeal.τ).loc Cert.GmlpSampleIdeal.main_arg3) = m ((c.tc : Thread Cert.GmlpSampleIdeal.nD Cert.GmlpSampleIdeal.τ).loc Cert.GmlpSampleIdeal.main_arg3)
          ∧ r.2.mem ((c.tc : Thread Cert.GmlpSampleIdeal.nD Cert.GmlpSampleIdeal.τ).loc Cert.GmlpSampleIdeal.main_arg4) = m ((c.tc : Thread Cert.GmlpSampleIdeal.nD Cert.GmlpSampleIdeal.τ).loc Cert.GmlpSampleIdeal.main_arg4))
      ∧ θ_run (Cert.GmlpSampleRefIdeal.defs (F := Ideal)) (onTc (τ := Cert.GmlpSampleRefIdeal.τ) (Cert.GmlpSampleRefIdeal.main (F := Ideal))) ⟨m', fun _ => 0, g'⟩ (fun r => ∀ c : Dev Cert.GmlpSampleRefIdeal.nD,
          r.2.mem ((c.tc : Thread Cert.GmlpSampleRefIdeal.nD Cert.GmlpSampleRefIdeal.τ).loc Cert.GmlpSampleRefIdeal.main_v57) = v0 c
          ∧ r.2.mem ((c.tc : Thread Cert.GmlpSampleRefIdeal.nD Cert.GmlpSampleRefIdeal.τ).loc Cert.GmlpSampleRefIdeal.main_arg0) = m' ((c.tc : Thread Cert.GmlpSampleRefIdeal.nD Cert.GmlpSampleRefIdeal.τ).loc Cert.GmlpSampleRefIdeal.main_arg0)
          ∧ r.2.mem ((c.tc : Thread Cert.GmlpSampleRefIdeal.nD Cert.GmlpSampleRefIdeal.τ).loc Cert.GmlpSampleRefIdeal.main_arg1) = m' ((c.tc : Thread Cert.GmlpSampleRefIdeal.nD Cert.GmlpSampleRefIdeal.τ).loc Cert.GmlpSampleRefIdeal.main_arg1)
          ∧ r.2.mem ((c.tc : Thread Cert.GmlpSampleRefIdeal.nD Cert.GmlpSampleRefIdeal.τ).loc Cert.GmlpSampleRefIdeal.main_arg2) = m' ((c.tc : Thread Cert.GmlpSampleRefIdeal.nD Cert.GmlpSampleRefIdeal.τ).loc Cert.GmlpSampleRefIdeal.main_arg2)
          ∧ r.2.mem ((c.tc : Thread Cert.GmlpSampleRefIdeal.nD Cert.GmlpSampleRefIdeal.τ).loc Cert.GmlpSampleRefIdeal.main_arg3) = m' ((c.tc : Thread Cert.GmlpSampleRefIdeal.nD Cert.GmlpSampleRefIdeal.τ).loc Cert.GmlpSampleRefIdeal.main_arg3)
          ∧ r.2.mem ((c.tc : Thread Cert.GmlpSampleRefIdeal.nD Cert.GmlpSampleRefIdeal.τ).loc Cert.GmlpSampleRefIdeal.main_arg4) = m' ((c.tc : Thread Cert.GmlpSampleRefIdeal.nD Cert.GmlpSampleRefIdeal.τ).loc Cert.GmlpSampleRefIdeal.main_arg4))

def preserves_Route_RouteIdeal : Prop :=
  True

def algebraic_RouteIdeal_RouteRefIdeal [hRouteIdeal : Cert.RouteIdeal.Facts] [hRouteRefIdeal : Cert.RouteRefIdeal.Facts] : Prop :=
  ∀ (m : (ℓ : Loc Cert.RouteIdeal.nD Cert.RouteIdeal.τ Cert.RouteIdeal.sig) → Buf (Elt Ideal) ℓ) (g : Dev Cert.RouteIdeal.nD → PrngReg)
    (m' : (ℓ : Loc Cert.RouteRefIdeal.nD Cert.RouteRefIdeal.τ Cert.RouteRefIdeal.sig) → Buf (Elt Ideal) ℓ) (g' : Dev Cert.RouteRefIdeal.nD → PrngReg), Pre_RouteIdeal m →
    (∀ c : Dev Cert.RouteIdeal.nD,
      m' ((c.tc : Thread Cert.RouteRefIdeal.nD Cert.RouteRefIdeal.τ).loc Cert.RouteRefIdeal.main_arg0) = m ((c.tc : Thread Cert.RouteIdeal.nD Cert.RouteIdeal.τ).loc Cert.RouteIdeal.main_arg0)
      ∧ m' ((c.tc : Thread Cert.RouteRefIdeal.nD Cert.RouteRefIdeal.τ).loc Cert.RouteRefIdeal.main_arg1) = m ((c.tc : Thread Cert.RouteIdeal.nD Cert.RouteIdeal.τ).loc Cert.RouteIdeal.main_arg1)
      ∧ m' ((c.tc : Thread Cert.RouteRefIdeal.nD Cert.RouteRefIdeal.τ).loc Cert.RouteRefIdeal.main_arg2) = m ((c.tc : Thread Cert.RouteIdeal.nD Cert.RouteIdeal.τ).loc Cert.RouteIdeal.main_arg2)
      ∧ m' ((c.tc : Thread Cert.RouteRefIdeal.nD Cert.RouteRefIdeal.τ).loc Cert.RouteRefIdeal.main_arg3) = m ((c.tc : Thread Cert.RouteIdeal.nD Cert.RouteIdeal.τ).loc Cert.RouteIdeal.main_arg3)
      ∧ m' ((c.tc : Thread Cert.RouteRefIdeal.nD Cert.RouteRefIdeal.τ).loc Cert.RouteRefIdeal.main_arg4) = m ((c.tc : Thread Cert.RouteIdeal.nD Cert.RouteIdeal.τ).loc Cert.RouteIdeal.main_arg4)) →
    ∃ (v0 : (c : Dev Cert.RouteIdeal.nD) → Buf (Elt Ideal) ((c.tc : Thread Cert.RouteIdeal.nD Cert.RouteIdeal.τ).loc Cert.RouteIdeal.main_v10_0)) (v1 : (c : Dev Cert.RouteIdeal.nD) → Buf (Elt Ideal) ((c.tc : Thread Cert.RouteIdeal.nD Cert.RouteIdeal.τ).loc Cert.RouteIdeal.main_v10_1)),
      θ_run (Cert.RouteIdeal.defs (F := Ideal)) (onTc (τ := Cert.RouteIdeal.τ) (Cert.RouteIdeal.main (F := Ideal))) ⟨m, fun _ => 0, g⟩ (fun r => ∀ c : Dev Cert.RouteIdeal.nD,
          r.2.mem ((c.tc : Thread Cert.RouteIdeal.nD Cert.RouteIdeal.τ).loc Cert.RouteIdeal.main_v10_0) = v0 c
          ∧ r.2.mem ((c.tc : Thread Cert.RouteIdeal.nD Cert.RouteIdeal.τ).loc Cert.RouteIdeal.main_v10_1) = v1 c
          ∧ r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
          ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
          ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
          ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3)
          ∧ r.2.mem ((c.tc : Thread Cert.RouteIdeal.nD Cert.RouteIdeal.τ).loc Cert.RouteIdeal.main_arg4) = m ((c.tc : Thread Cert.RouteIdeal.nD Cert.RouteIdeal.τ).loc Cert.RouteIdeal.main_arg4))
      ∧ θ_run (Cert.RouteRefIdeal.defs (F := Ideal)) (onTc (τ := Cert.RouteRefIdeal.τ) (Cert.RouteRefIdeal.main (F := Ideal))) ⟨m', fun _ => 0, g'⟩ (fun r => ∀ c : Dev Cert.RouteRefIdeal.nD,
          r.2.mem ((c.tc : Thread Cert.RouteRefIdeal.nD Cert.RouteRefIdeal.τ).loc Cert.RouteRefIdeal.main_v26) = v0 c
          ∧ r.2.mem ((c.tc : Thread Cert.RouteRefIdeal.nD Cert.RouteRefIdeal.τ).loc Cert.RouteRefIdeal.main_v28) = v1 c
          ∧ r.2.mem ((c.tc : Thread Cert.RouteRefIdeal.nD Cert.RouteRefIdeal.τ).loc Cert.RouteRefIdeal.main_arg0) = m' ((c.tc : Thread Cert.RouteRefIdeal.nD Cert.RouteRefIdeal.τ).loc Cert.RouteRefIdeal.main_arg0)
          ∧ r.2.mem ((c.tc : Thread Cert.RouteRefIdeal.nD Cert.RouteRefIdeal.τ).loc Cert.RouteRefIdeal.main_arg1) = m' ((c.tc : Thread Cert.RouteRefIdeal.nD Cert.RouteRefIdeal.τ).loc Cert.RouteRefIdeal.main_arg1)
          ∧ r.2.mem ((c.tc : Thread Cert.RouteRefIdeal.nD Cert.RouteRefIdeal.τ).loc Cert.RouteRefIdeal.main_arg2) = m' ((c.tc : Thread Cert.RouteRefIdeal.nD Cert.RouteRefIdeal.τ).loc Cert.RouteRefIdeal.main_arg2)
          ∧ r.2.mem ((c.tc : Thread Cert.RouteRefIdeal.nD Cert.RouteRefIdeal.τ).loc Cert.RouteRefIdeal.main_arg3) = m' ((c.tc : Thread Cert.RouteRefIdeal.nD Cert.RouteRefIdeal.τ).loc Cert.RouteRefIdeal.main_arg3)
          ∧ r.2.mem ((c.tc : Thread Cert.RouteRefIdeal.nD Cert.RouteRefIdeal.τ).loc Cert.RouteRefIdeal.main_arg4) = m' ((c.tc : Thread Cert.RouteRefIdeal.nD Cert.RouteRefIdeal.τ).loc Cert.RouteRefIdeal.main_arg4))

def Claim : Prop :=
  ∃ (hKernel : Cert.Kernel.Facts) (hKernelIdeal : Cert.KernelIdeal.Facts) (hReferenceIdeal : Cert.ReferenceIdeal.Facts) (hGlu : Cert.Glu.Facts) (hGluIdeal : Cert.GluIdeal.Facts) (hGluRefIdeal : Cert.GluRefIdeal.Facts) (hGates : Cert.Gates.Facts) (hGatesIdeal : Cert.GatesIdeal.Facts) (hGatesRefIdeal : Cert.GatesRefIdeal.Facts) (hKv : Cert.Kv.Facts) (hKvIdeal : Cert.KvIdeal.Facts) (hKvRefIdeal : Cert.KvRefIdeal.Facts) (hGmlp : Cert.Gmlp.Facts) (hGmlpIdeal : Cert.GmlpIdeal.Facts) (hGmlpRefIdeal : Cert.GmlpRefIdeal.Facts) (hConvSample : Cert.ConvSample.Facts) (hConvSampleIdeal : Cert.ConvSampleIdeal.Facts) (hConvSampleRefIdeal : Cert.ConvSampleRefIdeal.Facts) (hGmlpSample : Cert.GmlpSample.Facts) (hGmlpSampleIdeal : Cert.GmlpSampleIdeal.Facts) (hGmlpSampleRefIdeal : Cert.GmlpSampleRefIdeal.Facts) (hRoute : Cert.Route.Facts) (hRouteIdeal : Cert.RouteIdeal.Facts) (hRouteRefIdeal : Cert.RouteRefIdeal.Facts),
    quiescent_Kernel (hKernel := hKernel)
    ∧ quiescent_KernelIdeal (hKernelIdeal := hKernelIdeal)
    ∧ quiescent_ReferenceIdeal (hReferenceIdeal := hReferenceIdeal)
    ∧ quiescent_Glu (hGlu := hGlu)
    ∧ quiescent_GluIdeal (hGluIdeal := hGluIdeal)
    ∧ quiescent_GluRefIdeal (hGluRefIdeal := hGluRefIdeal)
    ∧ quiescent_Gates (hGates := hGates)
    ∧ quiescent_GatesIdeal (hGatesIdeal := hGatesIdeal)
    ∧ quiescent_GatesRefIdeal (hGatesRefIdeal := hGatesRefIdeal)
    ∧ quiescent_Kv (hKv := hKv)
    ∧ quiescent_KvIdeal (hKvIdeal := hKvIdeal)
    ∧ quiescent_KvRefIdeal (hKvRefIdeal := hKvRefIdeal)
    ∧ quiescent_Gmlp (hGmlp := hGmlp)
    ∧ quiescent_GmlpIdeal (hGmlpIdeal := hGmlpIdeal)
    ∧ quiescent_GmlpRefIdeal (hGmlpRefIdeal := hGmlpRefIdeal)
    ∧ quiescent_ConvSample (hConvSample := hConvSample)
    ∧ quiescent_ConvSampleIdeal (hConvSampleIdeal := hConvSampleIdeal)
    ∧ quiescent_ConvSampleRefIdeal (hConvSampleRefIdeal := hConvSampleRefIdeal)
    ∧ quiescent_GmlpSample (hGmlpSample := hGmlpSample)
    ∧ quiescent_GmlpSampleIdeal (hGmlpSampleIdeal := hGmlpSampleIdeal)
    ∧ quiescent_GmlpSampleRefIdeal (hGmlpSampleRefIdeal := hGmlpSampleRefIdeal)
    ∧ quiescent_Route (hRoute := hRoute)
    ∧ quiescent_RouteIdeal (hRouteIdeal := hRouteIdeal)
    ∧ quiescent_RouteRefIdeal (hRouteRefIdeal := hRouteRefIdeal)
    ∧ preserves_Kernel_KernelIdeal
    ∧ algebraic_KernelIdeal_ReferenceIdeal (hKernelIdeal := hKernelIdeal) (hReferenceIdeal := hReferenceIdeal)
    ∧ preserves_Glu_GluIdeal
    ∧ algebraic_GluIdeal_GluRefIdeal (hGluIdeal := hGluIdeal) (hGluRefIdeal := hGluRefIdeal)
    ∧ preserves_Gates_GatesIdeal
    ∧ algebraic_GatesIdeal_GatesRefIdeal (hGatesIdeal := hGatesIdeal) (hGatesRefIdeal := hGatesRefIdeal)
    ∧ preserves_Kv_KvIdeal
    ∧ algebraic_KvIdeal_KvRefIdeal (hKvIdeal := hKvIdeal) (hKvRefIdeal := hKvRefIdeal)
    ∧ preserves_Gmlp_GmlpIdeal
    ∧ algebraic_GmlpIdeal_GmlpRefIdeal (hGmlpIdeal := hGmlpIdeal) (hGmlpRefIdeal := hGmlpRefIdeal)
    ∧ preserves_ConvSample_ConvSampleIdeal
    ∧ algebraic_ConvSampleIdeal_ConvSampleRefIdeal (hConvSampleIdeal := hConvSampleIdeal) (hConvSampleRefIdeal := hConvSampleRefIdeal)
    ∧ preserves_GmlpSample_GmlpSampleIdeal
    ∧ algebraic_GmlpSampleIdeal_GmlpSampleRefIdeal (hGmlpSampleIdeal := hGmlpSampleIdeal) (hGmlpSampleRefIdeal := hGmlpSampleRefIdeal)
    ∧ preserves_Route_RouteIdeal
    ∧ algebraic_RouteIdeal_RouteRefIdeal (hRouteIdeal := hRouteIdeal) (hRouteRefIdeal := hRouteRefIdeal)
-- ==== Kernel.lean ====
abbrev S16x4096x1024 : Shape := ⟨3, ![16, 4096, 1024]⟩
abbrev S16x32x1024 : Shape := ⟨3, ![16, 32, 1024]⟩
abbrev S16x4096x3072 : Shape := ⟨3, ![16, 4096, 3072]⟩
abbrev S16x256x1024 : Shape := ⟨3, ![16, 256, 1024]⟩
abbrev S4x128x128 : Shape := ⟨3, ![4, 128, 128]⟩
abbrev S4x128x1 : Shape := ⟨3, ![4, 128, 1]⟩
abbrev S1024x1024 : Shape := ⟨2, ![1024, 1024]⟩
abbrev S31x1024 : Shape := ⟨2, ![31, 1024]⟩
abbrev S1x1024 : Shape := ⟨2, ![1, 1024]⟩
abbrev S1x256x1024 : Shape := ⟨3, ![1, 256, 1024]⟩
abbrev S1x32x1024 : Shape := ⟨3, ![1, 32, 1024]⟩
abbrev S1x256x3072 : Shape := ⟨3, ![1, 256, 3072]⟩
abbrev S288x1024 : Shape := ⟨2, ![288, 1024]⟩
abbrev S256x1024 : Shape := ⟨2, ![256, 1024]⟩
abbrev S32x1024 : Shape := ⟨2, ![32, 1024]⟩
abbrev S256 : Shape := ⟨1, ![256]⟩
abbrev S256x1 : Shape := ⟨2, ![256, 1]⟩
abbrev S128x128 : Shape := ⟨2, ![128, 128]⟩
abbrev S1x128x128 : Shape := ⟨3, ![1, 128, 128]⟩
abbrev S1x128x256 : Shape := ⟨3, ![1, 128, 256]⟩
abbrev S128x256 : Shape := ⟨2, ![128, 256]⟩
abbrev S1x128x1 : Shape := ⟨3, ![1, 128, 1]⟩
abbrev S128x1 : Shape := ⟨2, ![128, 1]⟩
abbrev S1x256x256 : Shape := ⟨3, ![1, 256, 256]⟩
abbrev S256x256 : Shape := ⟨2, ![256, 256]⟩

abbrev nBuf : Space → Nat
  | .hbm => 20
  | .vmem => 34
  | .smem => 0
  | _ => 0

abbrev bufTy : (tb : Table) → Fin (tcTables nBuf tb) → BufTy
  | .hbm, ⟨0, _⟩ => ⟨S16x4096x1024, .f32⟩
  | .hbm, ⟨1, _⟩ => ⟨S16x4096x1024, .bf16⟩
  | .hbm, ⟨2, _⟩ => ⟨S16x4096x1024, .f32⟩
  | .hbm, ⟨3, _⟩ => ⟨S16x4096x1024, .f32⟩
  | .hbm, ⟨4, _⟩ => ⟨S16x32x1024, .f32⟩
  | .hbm, ⟨5, _⟩ => ⟨S16x4096x1024, .bf16⟩
  | .hbm, ⟨6, _⟩ => ⟨S16x4096x3072, .bf16⟩
  | .hbm, ⟨7, _⟩ => ⟨S16x256x1024, .f32⟩
  | .hbm, ⟨8, _⟩ => ⟨S16x256x1024, .f32⟩
  | .hbm, ⟨9, _⟩ => ⟨S4x128x128, .f32⟩
  | .hbm, ⟨10, _⟩ => ⟨S4x128x1, .f32⟩
  | .hbm, ⟨11, _⟩ => ⟨S1024x1024, .bf16⟩
  | .hbm, ⟨12, _⟩ => ⟨S31x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1024x1024, .bf16⟩
  | .hbm, ⟨17, _⟩ => ⟨S1024x1024, .bf16⟩
  | .hbm, ⟨18, _⟩ => ⟨S1024x1024, .bf16⟩
  | .hbm, ⟨19, _⟩ => ⟨S16x4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x32x1024, .f32⟩
  | .local _ .vmem, ⟨9, _⟩ => ⟨S1x32x1024, .f32⟩
  | .local _ .vmem, ⟨10, _⟩ => ⟨S1x32x1024, .f32⟩
  | .local _ .vmem, ⟨11, _⟩ => ⟨S1x32x1024, .f32⟩
  | .local _ .vmem, ⟨12, _⟩ => ⟨S1x256x1024, .bf16⟩
  | .local _ .vmem, ⟨13, _⟩ => ⟨S1x256x1024, .bf16⟩
  | .local _ .vmem, ⟨14, _⟩ => ⟨S1x256x3072, .bf16⟩
  | .local _ .vmem, ⟨15, _⟩ => ⟨S1x256x3072, .bf16⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | .local _ .vmem, ⟨19, _⟩ => ⟨S1x256x1024, .f32⟩
  | .local _ .vmem, ⟨20, _⟩ => ⟨S4x128x128, .f32⟩
  | .local _ .vmem, ⟨21, _⟩ => ⟨S4x128x1, .f32⟩
  | .local _ .vmem, ⟨22, _⟩ => ⟨S1024x1024, .bf16⟩
  | .local _ .vmem, ⟨23, _⟩ => ⟨S31x1024, .f32⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | .local _ .vmem, ⟨27, _⟩ => ⟨S1024x1024, .bf16⟩
  | .local _ .vmem, ⟨28, _⟩ => ⟨S1024x1024, .bf16⟩
  | .local _ .vmem, ⟨29, _⟩ => ⟨S1024x1024, .bf16⟩
  | .local _ .vmem, ⟨30, _⟩ => ⟨S1x256x1024, .f32⟩
  | .local _ .vmem, ⟨31, _⟩ => ⟨S1x256x1024, .f32⟩
  | .local _ .vmem, ⟨32, _⟩ => ⟨S288x1024, .f32⟩
  | .local _ .vmem, ⟨33, _⟩ => ⟨S256x1024, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg19_0 : Ref sig .tc := ⟨.vmem, 29, rfl⟩
abbrev cc0_stg20_0 : Ref sig .tc := ⟨.vmem, 30, rfl⟩
abbrev cc0_stg20_1 : Ref sig .tc := ⟨.vmem, 31, rfl⟩
abbrev cc0_scratch0 : Ref sig .tc := ⟨.vmem, 32, rfl⟩
abbrev cc0_scratch1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem17_0 : DmaSem sig := 27
abbrev cc0_sem18_0 : DmaSem sig := 28
abbrev cc0_sem19_0 : DmaSem sig := 29
abbrev cc0_sem20_0 : DmaSem sig := 30
abbrev cc0_sem20_1 : DmaSem sig := 31

abbrev nD : Nat := 1
abbrev τ : Topo := Topo.v7x

variable {F : FTy → Type} [FloatOps F]

abbrev grid0 : Pipeline.Grid := ⟨2, ![16, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S4x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S4x128x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S31x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1024x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1024x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1024x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 2 → Memref sig .tc .vmem S1x256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== ReferenceIdeal.lean ====
abbrev S16x4096x1024 : Shape := ⟨3, ![16, 4096, 1024]⟩
abbrev S16x32x1024 : Shape := ⟨3, ![16, 32, 1024]⟩
abbrev S16x4096x3072 : Shape := ⟨3, ![16, 4096, 3072]⟩
abbrev S16x256x1024 : Shape := ⟨3, ![16, 256, 1024]⟩
abbrev S4x128x128 : Shape := ⟨3, ![4, 128, 128]⟩
abbrev S4x128x1 : Shape := ⟨3, ![4, 128, 1]⟩
abbrev S1024x1024 : Shape := ⟨2, ![1024, 1024]⟩
abbrev S31x1024 : Shape := ⟨2, ![31, 1024]⟩
abbrev S1x1024 : Shape := ⟨2, ![1, 1024]⟩
abbrev S4x128 : Shape := ⟨2, ![4, 128]⟩
abbrev S128 : Shape := ⟨1, ![128]⟩
abbrev S1x128 : Shape := ⟨2, ![1, 128]⟩
abbrev S_ : Shape := ⟨0, ![]⟩
abbrev S128x1 : Shape := ⟨2, ![128, 1]⟩
abbrev S128x128 : Shape := ⟨2, ![128, 128]⟩
abbrev S1x128x128 : Shape := ⟨3, ![1, 128, 128]⟩
abbrev S16x32x128x4x256 : Shape := ⟨5, ![16, 32, 128, 4, 256]⟩
abbrev S4x16x32x256x128 : Shape := ⟨5, ![4, 16, 32, 256, 128]⟩
abbrev S128x4 : Shape := ⟨2, ![128, 4]⟩
abbrev S1x1x128x4x1 : Shape := ⟨5, ![1, 1, 128, 4, 1]⟩
abbrev S16x30x1024 : Shape := ⟨3, ![16, 30, 1024]⟩
abbrev S16x4126x1024 : Shape := ⟨3, ![16, 4126, 1024]⟩
abbrev S1024 : Shape := ⟨1, ![1024]⟩
abbrev S1x1x1024 : Shape := ⟨3, ![1, 1, 1024]⟩
abbrev S16x4096 : Shape := ⟨2, ![16, 4096]⟩
abbrev S16x4096x1 : Shape := ⟨3, ![16, 4096, 1]⟩
abbrev S16x4096x4x256 : Shape := ⟨4, ![16, 4096, 4, 256]⟩
abbrev S16x256x4x256 : Shape := ⟨4, ![16, 256, 4, 256]⟩
abbrev S16x4x4096x256 : Shape := ⟨4, ![16, 4, 4096, 256]⟩
abbrev S16x4x4096 : Shape := ⟨3, ![16, 4, 4096]⟩
abbrev S16x4x4096x1 : Shape := ⟨4, ![16, 4, 4096, 1]⟩
abbrev S16x4x256x4096 : Shape := ⟨4, ![16, 4, 256, 4096]⟩
abbrev S16x4096x3x1024 : Shape := ⟨4, ![16, 4096, 3, 1024]⟩
abbrev S16x4096x1x1024 : Shape := ⟨4, ![16, 4096, 1, 1024]⟩

abbrev nBuf : Space → Nat
  | .hbm => 385
  | .vmem => 0
  | .smem => 0
  | _ => 0

abbrev hbmTy0_0 (i : Nat) : BufTy := match i % 128 with
  | 0 => ⟨S16x4096x1024, .f32⟩
  | 1 => ⟨S16x4096x1024, .bf16⟩
  | 2 => ⟨S16x4096x1024, .f32⟩
  | 3 => ⟨S16x4096x1024, .f32⟩
  | 4 => ⟨S16x32x1024, .f32⟩
  | 5 => ⟨S16x4096x1024, .bf16⟩
  | 6 => ⟨S16x4096x3072, .bf16⟩
  | 7 => ⟨S16x256x1024, .f32⟩
  | 8 => ⟨S16x256x1024, .f32⟩
  | 9 => ⟨S4x128x128, .f32⟩
  | 10 => ⟨S4x128x1, .f32⟩
  | 11 => ⟨S1024x1024, .bf16⟩
  | 12 => ⟨S31x1024, .f32⟩
  | 13 => ⟨S1x1024, .f32⟩
  | 14 => ⟨S1x1024, .f32⟩
  | 15 => ⟨S1x1024, .f32⟩
  | 16 => ⟨S1024x1024, .bf16⟩
  | 17 => ⟨S1024x1024, .bf16⟩
  | 18 => ⟨S1024x1024, .bf16⟩
  | 19 => ⟨S16x4096x1024, .f32⟩
  | 20 => ⟨S16x4096x1024, .f32⟩
  | 21 => ⟨S16x4096x3072, .f32⟩
  | 22 => ⟨S1024x1024, .f32⟩
  | 23 => ⟨S1024x1024, .f32⟩
  | 24 => ⟨S1024x1024, .f32⟩
  | 25 => ⟨S1024x1024, .f32⟩
  | 26 => ⟨S4x128, .f32⟩
  | 27 => ⟨S128, .i32⟩
  | 28 => ⟨S1x128, .i32⟩
  | 29 => ⟨S_, .i32⟩
  | 30 => ⟨S_, .i32⟩
  | 31 => ⟨S1x128, .i32⟩
  | 32 => ⟨S1x128, .i32⟩
  | 33 => ⟨S1x128, .i32⟩
  | 34 => ⟨S_, .i32⟩
  | 35 => ⟨S1x128, .i32⟩
  | 36 => ⟨S1x128, .i1⟩
  | 37 => ⟨S1x128, .i32⟩
  | 38 => ⟨S1x128, .i32⟩
  | 39 => ⟨S_, .i32⟩
  | 40 => ⟨S1x128, .i32⟩
  | 41 => ⟨S1x128, .i1⟩
  | 42 => ⟨S1x128, .i1⟩
  | 43 => ⟨S_, .i32⟩
  | 44 => ⟨S1x128, .i32⟩
  | 45 => ⟨S1x128, .i32⟩
  | 46 => ⟨S1x128, .i32⟩
  | 47 => ⟨S128x1, .i32⟩
  | 48 => ⟨S_, .i32⟩
  | 49 => ⟨S_, .i32⟩
  | 50 => ⟨S128x1, .i32⟩
  | 51 => ⟨S128x1, .i32⟩
  | 52 => ⟨S128x1, .i32⟩
  | 53 => ⟨S_, .i32⟩
  | 54 => ⟨S128x1, .i32⟩
  | 55 => ⟨S128x1, .i1⟩
  | 56 => ⟨S128x1, .i32⟩
  | 57 => ⟨S128x1, .i32⟩
  | 58 => ⟨S_, .i32⟩
  | 59 => ⟨S128x1, .i32⟩
  | 60 => ⟨S128x1, .i1⟩
  | 61 => ⟨S128x1, .i1⟩
  | 62 => ⟨S_, .i32⟩
  | 63 => ⟨S128x1, .i32⟩
  | 64 => ⟨S128x1, .i32⟩
  | 65 => ⟨S128x1, .i32⟩
  | 66 => ⟨S128x128, .i32⟩
  | 67 => ⟨S128x128, .i32⟩
  | 68 => ⟨S128x128, .i1⟩
  | 69 => ⟨S128x128, .f32⟩
  | 70 => ⟨S1x128x128, .f32⟩
  | 71 => ⟨S4x128x128, .f32⟩
  | 72 => ⟨S4x128x128, .f32⟩
  | 73 => ⟨S16x32x128x4x256, .f32⟩
  | 74 => ⟨S4x16x32x256x128, .f32⟩
  | 75 => ⟨S16x32x128x4x256, .f32⟩
  | 76 => ⟨S128x4, .f32⟩
  | 77 => ⟨S1x1x128x4x1, .f32⟩
  | 78 => ⟨S16x32x128x4x256, .f32⟩
  | 79 => ⟨S16x32x128x4x256, .f32⟩
  | 80 => ⟨S16x4096x1024, .f32⟩
  | 81 => ⟨S16x4096x1024, .f32⟩
  | 82 => ⟨S16x4096x1024, .f32⟩
  | 83 => ⟨S16x30x1024, .f32⟩
  | 84 => ⟨S16x4126x1024, .f32⟩
  | 85 => ⟨S1024, .f32⟩
  | 86 => ⟨S16x4096x1024, .f32⟩
  | 87 => ⟨S1x1024, .f32⟩
  | 88 => ⟨S1024, .f32⟩
  | 89 => ⟨S1x1x1024, .f32⟩
  | 90 => ⟨S16x4096x1024, .f32⟩
  | 91 => ⟨S16x4096x1024, .f32⟩
  | 92 => ⟨S16x4096x1024, .f32⟩
  | 93 => ⟨S1x1024, .f32⟩
  | 94 => ⟨S1024, .f32⟩
  | 95 => ⟨S1x1x1024, .f32⟩
  | 96 => ⟨S16x4096x1024, .f32⟩
  | 97 => ⟨S16x4096x1024, .f32⟩
  | 98 => ⟨S16x4096x1024, .f32⟩
  | 99 => ⟨S16x4096x1024, .f32⟩
  | 100 => ⟨S1x1024, .f32⟩
  | 101 => ⟨S1024, .f32⟩
  | 102 => ⟨S1x1x1024, .f32⟩
  | 103 => ⟨S16x4096x1024, .f32⟩
  | 104 => ⟨S16x4096x1024, .f32⟩
  | 105 => ⟨S16x4096x1024, .f32⟩
  | 106 => ⟨S16x4096x1024, .f32⟩
  | 107 => ⟨S1x1024, .f32⟩
  | 108 => ⟨S1024, .f32⟩
  | 109 => ⟨S1x1x1024, .f32⟩
  | 110 => ⟨S16x4096x1024, .f32⟩
  | 111 => ⟨S16x4096x1024, .f32⟩
  | 112 => ⟨S16x4096x1024, .f32⟩
  | 113 => ⟨S16x4096x1024, .f32⟩
  | 114 => ⟨S1x1024, .f32⟩
  | 115 => ⟨S1024, .f32⟩
  | 116 => ⟨S1x1x1024, .f32⟩
  | 117 => ⟨S16x4096x1024, .f32⟩
  | 118 => ⟨S16x4096x1024, .f32⟩
  | 119 => ⟨S16x4096x1024, .f32⟩
  | 120 => ⟨S16x4096x1024, .f32⟩
  | 121 => ⟨S1x1024, .f32⟩
  | 122 => ⟨S1024, .f32⟩
  | 123 => ⟨S1x1x1024, .f32⟩
  | 124 => ⟨S16x4096x1024, .f32⟩
  | 125 => ⟨S16x4096x1024, .f32⟩
  | 126 => ⟨S16x4096x1024, .f32⟩
  | 127 => ⟨S16x4096x1024, .f32⟩
  | _ => ⟨S16x4096x1024, .f32⟩

abbrev hbmTy0_1 (i : Nat) : BufTy := match i % 128 with
  | 0 => ⟨S1x1024, .f32⟩
  | 1 => ⟨S1024, .f32⟩
  | 2 => ⟨S1x1x1024, .f32⟩
  | 3 => ⟨S16x4096x1024, .f32⟩
  | 4 => ⟨S16x4096x1024, .f32⟩
  | 5 => ⟨S16x4096x1024, .f32⟩
  | 6 => ⟨S16x4096x1024, .f32⟩
  | 7 => ⟨S1x1024, .f32⟩
  | 8 => ⟨S1024, .f32⟩
  | 9 => ⟨S1x1x1024, .f32⟩
  | 10 => ⟨S16x4096x1024, .f32⟩
  | 11 => ⟨S16x4096x1024, .f32⟩
  | 12 => ⟨S16x4096x1024, .f32⟩
  | 13 => ⟨S16x4096x1024, .f32⟩
  | 14 => ⟨S1x1024, .f32⟩
  | 15 => ⟨S1024, .f32⟩
  | 16 => ⟨S1x1x1024, .f32⟩
  | 17 => ⟨S16x4096x1024, .f32⟩
  | 18 => ⟨S16x4096x1024, .f32⟩
  | 19 => ⟨S16x4096x1024, .f32⟩
  | 20 => ⟨S16x4096x1024, .f32⟩
  | 21 => ⟨S1x1024, .f32⟩
  | 22 => ⟨S1024, .f32⟩
  | 23 => ⟨S1x1x1024, .f32⟩
  | 24 => ⟨S16x4096x1024, .f32⟩
  | 25 => ⟨S16x4096x1024, .f32⟩
  | 26 => ⟨S16x4096x1024, .f32⟩
  | 27 => ⟨S16x4096x1024, .f32⟩
  | 28 => ⟨S1x1024, .f32⟩
  | 29 => ⟨S1024, .f32⟩
  | 30 => ⟨S1x1x1024, .f32⟩
  | 31 => ⟨S16x4096x1024, .f32⟩
  | 32 => ⟨S16x4096x1024, .f32⟩
  | 33 => ⟨S16x4096x1024, .f32⟩
  | 34 => ⟨S16x4096x1024, .f32⟩
  | 35 => ⟨S1x1024, .f32⟩
  | 36 => ⟨S1024, .f32⟩
  | 37 => ⟨S1x1x1024, .f32⟩
  | 38 => ⟨S16x4096x1024, .f32⟩
  | 39 => ⟨S16x4096x1024, .f32⟩
  | 40 => ⟨S16x4096x1024, .f32⟩
  | 41 => ⟨S16x4096x1024, .f32⟩
  | 42 => ⟨S1x1024, .f32⟩
  | 43 => ⟨S1024, .f32⟩
  | 44 => ⟨S1x1x1024, .f32⟩
  | 45 => ⟨S16x4096x1024, .f32⟩
  | 46 => ⟨S16x4096x1024, .f32⟩
  | 47 => ⟨S16x4096x1024, .f32⟩
  | 48 => ⟨S16x4096x1024, .f32⟩
  | 49 => ⟨S1x1024, .f32⟩
  | 50 => ⟨S1024, .f32⟩
  | 51 => ⟨S1x1x1024, .f32⟩
  | 52 => ⟨S16x4096x1024, .f32⟩
  | 53 => ⟨S16x4096x1024, .f32⟩
  | 54 => ⟨S16x4096x1024, .f32⟩
  | 55 => ⟨S16x4096x1024, .f32⟩
  | 56 => ⟨S1x1024, .f32⟩
  | 57 => ⟨S1024, .f32⟩
  | 58 => ⟨S1x1x1024, .f32⟩
  | 59 => ⟨S16x4096x1024, .f32⟩
  | 60 => ⟨S16x4096x1024, .f32⟩
  | 61 => ⟨S16x4096x1024, .f32⟩
  | 62 => ⟨S16x4096x1024, .f32⟩
  | 63 => ⟨S1x1024, .f32⟩
  | 64 => ⟨S1024, .f32⟩
  | 65 => ⟨S1x1x1024, .f32⟩
  | 66 => ⟨S16x4096x1024, .f32⟩
  | 67 => ⟨S16x4096x1024, .f32⟩
  | 68 => ⟨S16x4096x1024, .f32⟩
  | 69 => ⟨S16x4096x1024, .f32⟩
  | 70 => ⟨S1x1024, .f32⟩
  | 71 => ⟨S1024, .f32⟩
  | 72 => ⟨S1x1x1024, .f32⟩
  | 73 => ⟨S16x4096x1024, .f32⟩
  | 74 => ⟨S16x4096x1024, .f32⟩
  | 75 => ⟨S16x4096x1024, .f32⟩
  | 76 => ⟨S16x4096x1024, .f32⟩
  | 77 => ⟨S1x1024, .f32⟩
  | 78 => ⟨S1024, .f32⟩
  | 79 => ⟨S1x1x1024, .f32⟩
  | 80 => ⟨S16x4096x1024, .f32⟩
  | 81 => ⟨S16x4096x1024, .f32⟩
  | 82 => ⟨S16x4096x1024, .f32⟩
  | 83 => ⟨S16x4096x1024, .f32⟩
  | 84 => ⟨S1x1024, .f32⟩
  | 85 => ⟨S1024, .f32⟩
  | 86 => ⟨S1x1x1024, .f32⟩
  | 87 => ⟨S16x4096x1024, .f32⟩
  | 88 => ⟨S16x4096x1024, .f32⟩
  | 89 => ⟨S16x4096x1024, .f32⟩
  | 90 => ⟨S16x4096x1024, .f32⟩
  | 91 => ⟨S1x1024, .f32⟩
  | 92 => ⟨S1024, .f32⟩
  | 93 => ⟨S1x1x1024, .f32⟩
  | 94 => ⟨S16x4096x1024, .f32⟩
  | 95 => ⟨S16x4096x1024, .f32⟩
  | 96 => ⟨S16x4096x1024, .f32⟩
  | 97 => ⟨S16x4096x1024, .f32⟩
  | 98 => ⟨S1x1024, .f32⟩
  | 99 => ⟨S1024, .f32⟩
  | 100 => ⟨S1x1x1024, .f32⟩
  | 101 => ⟨S16x4096x1024, .f32⟩
  | 102 => ⟨S16x4096x1024, .f32⟩
  | 103 => ⟨S16x4096x1024, .f32⟩
  | 104 => ⟨S16x4096x1024, .f32⟩
  | 105 => ⟨S1x1024, .f32⟩
  | 106 => ⟨S1024, .f32⟩
  | 107 => ⟨S1x1x1024, .f32⟩
  | 108 => ⟨S16x4096x1024, .f32⟩
  | 109 => ⟨S16x4096x1024, .f32⟩
  | 110 => ⟨S16x4096x1024, .f32⟩
  | 111 => ⟨S16x4096x1024, .f32⟩
  | 112 => ⟨S1x1024, .f32⟩
  | 113 => ⟨S1024, .f32⟩
  | 114 => ⟨S1x1x1024, .f32⟩
  | 115 => ⟨S16x4096x1024, .f32⟩
  | 116 => ⟨S16x4096x1024, .f32⟩
  | 117 => ⟨S16x4096x1024, .f32⟩
  | 118 => ⟨S16x4096x1024, .f32⟩
  | 119 => ⟨S1x1024, .f32⟩
  | 120 => ⟨S1024, .f32⟩
  | 121 => ⟨S1x1x1024, .f32⟩
  | 122 => ⟨S16x4096x1024, .f32⟩
  | 123 => ⟨S16x4096x1024, .f32⟩
  | 124 => ⟨S16x4096x1024, .f32⟩
  | 125 => ⟨S16x4096x1024, .f32⟩
  | 126 => ⟨S1x1024, .f32⟩
  | 127 => ⟨S1024, .f32⟩
  | _ => ⟨S16x4096x1024, .f32⟩

abbrev hbmTy0_2 (i : Nat) : BufTy := match i % 128 with
  | 0 => ⟨S1x1x1024, .f32⟩
  | 1 => ⟨S16x4096x1024, .f32⟩
  | 2 => ⟨S16x4096x1024, .f32⟩
  | 3 => ⟨S16x4096x1024, .f32⟩
  | 4 => ⟨S16x4096x1024, .f32⟩
  | 5 => ⟨S1x1024, .f32⟩
  | 6 => ⟨S1024, .f32⟩
  | 7 => ⟨S1x1x1024, .f32⟩
  | 8 => ⟨S16x4096x1024, .f32⟩
  | 9 => ⟨S16x4096x1024, .f32⟩
  | 10 => ⟨S16x4096x1024, .f32⟩
  | 11 => ⟨S16x4096x1024, .f32⟩
  | 12 => ⟨S1x1024, .f32⟩
  | 13 => ⟨S1024, .f32⟩
  | 14 => ⟨S1x1x1024, .f32⟩
  | 15 => ⟨S16x4096x1024, .f32⟩
  | 16 => ⟨S16x4096x1024, .f32⟩
  | 17 => ⟨S16x4096x1024, .f32⟩
  | 18 => ⟨S16x4096x1024, .f32⟩
  | 19 => ⟨S1x1024, .f32⟩
  | 20 => ⟨S1024, .f32⟩
  | 21 => ⟨S1x1x1024, .f32⟩
  | 22 => ⟨S16x4096x1024, .f32⟩
  | 23 => ⟨S16x4096x1024, .f32⟩
  | 24 => ⟨S16x4096x1024, .f32⟩
  | 25 => ⟨S16x4096x1024, .f32⟩
  | 26 => ⟨S1x1024, .f32⟩
  | 27 => ⟨S1024, .f32⟩
  | 28 => ⟨S1x1x1024, .f32⟩
  | 29 => ⟨S16x4096x1024, .f32⟩
  | 30 => ⟨S16x4096x1024, .f32⟩
  | 31 => ⟨S16x4096x1024, .f32⟩
  | 32 => ⟨S16x4096x1024, .f32⟩
  | 33 => ⟨S1x1024, .f32⟩
  | 34 => ⟨S1024, .f32⟩
  | 35 => ⟨S1x1x1024, .f32⟩
  | 36 => ⟨S16x4096x1024, .f32⟩
  | 37 => ⟨S16x4096x1024, .f32⟩
  | 38 => ⟨S16x4096x1024, .f32⟩
  | 39 => ⟨S16x4096x1024, .f32⟩
  | 40 => ⟨S1x1024, .f32⟩
  | 41 => ⟨S1024, .f32⟩
  | 42 => ⟨S1x1x1024, .f32⟩
  | 43 => ⟨S16x4096x1024, .f32⟩
  | 44 => ⟨S16x4096x1024, .f32⟩
  | 45 => ⟨S16x4096x1024, .f32⟩
  | 46 => ⟨S1x1x1024, .f32⟩
  | 47 => ⟨S16x4096x1024, .f32⟩
  | 48 => ⟨S16x4096x1024, .f32⟩
  | 49 => ⟨S1024, .f32⟩
  | 50 => ⟨S1024, .f32⟩
  | 51 => ⟨S_, .f32⟩
  | 52 => ⟨S16x4096, .f32⟩
  | 53 => ⟨S16x4096x1, .f32⟩
  | 54 => ⟨S_, .f32⟩
  | 55 => ⟨S16x4096x1, .f32⟩
  | 56 => ⟨S16x4096x1, .f32⟩
  | 57 => ⟨S16x4096x1024, .f32⟩
  | 58 => ⟨S16x4096x1024, .f32⟩
  | 59 => ⟨S16x4096x1024, .f32⟩
  | 60 => ⟨S_, .f32⟩
  | 61 => ⟨S16x4096, .f32⟩
  | 62 => ⟨S16x4096x1, .f32⟩
  | 63 => ⟨S_, .f32⟩
  | 64 => ⟨S16x4096x1, .f32⟩
  | 65 => ⟨S16x4096x1, .f32⟩
  | 66 => ⟨S16x4096x1024, .f32⟩
  | 67 => ⟨S16x4096x1024, .f32⟩
  | 68 => ⟨S_, .f32⟩
  | 69 => ⟨S16x4096x1, .f32⟩
  | 70 => ⟨S16x4096x1, .f32⟩
  | 71 => ⟨S16x4096x1, .f32⟩
  | 72 => ⟨S16x4096x1024, .f32⟩
  | 73 => ⟨S16x4096x1024, .f32⟩
  | 74 => ⟨S1x1x1024, .f32⟩
  | 75 => ⟨S16x4096x1024, .f32⟩
  | 76 => ⟨S16x4096x1024, .f32⟩
  | 77 => ⟨S1x1x1024, .f32⟩
  | 78 => ⟨S16x4096x1024, .f32⟩
  | 79 => ⟨S16x4096x1024, .f32⟩
  | 80 => ⟨S16x4096x1024, .f32⟩
  | 81 => ⟨S16x4096x1024, .f32⟩
  | 82 => ⟨S_, .f32⟩
  | 83 => ⟨S16x4096x1024, .f32⟩
  | 84 => ⟨S16x4096x1024, .f32⟩
  | 85 => ⟨S_, .f32⟩
  | 86 => ⟨S16x4096x1024, .f32⟩
  | 87 => ⟨S16x4096x1024, .f32⟩
  | 88 => ⟨S16x4096x1024, .f32⟩
  | 89 => ⟨S16x4096x1024, .f32⟩
  | 90 => ⟨S16x4096x4x256, .f32⟩
  | 91 => ⟨S16x256x4x256, .f32⟩
  | 92 => ⟨S16x256x4x256, .f32⟩
  | 93 => ⟨S16x4x4096x256, .f32⟩
  | 94 => ⟨S_, .f32⟩
  | 95 => ⟨S16x4x4096x256, .f32⟩
  | 96 => ⟨S16x4x4096x256, .f32⟩
  | 97 => ⟨S_, .f32⟩
  | 98 => ⟨S16x4x4096, .f32⟩
  | 99 => ⟨S_, .f32⟩
  | 100 => ⟨S16x4x4096, .f32⟩
  | 101 => ⟨S16x4x4096, .f32⟩
  | 102 => ⟨S16x4x4096x1, .f32⟩
  | 103 => ⟨S16x4x4096x256, .f32⟩
  | 104 => ⟨S16x4x4096x256, .f32⟩
  | 105 => ⟨S16x4x4096x256, .f32⟩
  | 106 => ⟨S_, .f32⟩
  | 107 => ⟨S16x4x4096, .f32⟩
  | 108 => ⟨S16x4x4096x1, .f32⟩
  | 109 => ⟨S16x4x4096x256, .f32⟩
  | 110 => ⟨S16x4x4096x256, .f32⟩
  | 111 => ⟨S16x4x256x4096, .f32⟩
  | 112 => ⟨S16x4096x4x256, .f32⟩
  | 113 => ⟨S16x4096x1024, .f32⟩
  | 114 => ⟨S16x4096x1024, .f32⟩
  | 115 => ⟨S16x4096x3x1024, .f32⟩
  | 116 => ⟨S16x4096x1x1024, .f32⟩
  | 117 => ⟨S16x4096x1024, .f32⟩
  | 118 => ⟨S16x4096x1024, .f32⟩
  | 119 => ⟨S16x4096x1x1024, .f32⟩
  | 120 => ⟨S16x4096x1024, .f32⟩
  | 121 => ⟨S16x4096x1024, .f32⟩
  | 122 => ⟨S16x4096x1024, .f32⟩
  | 123 => ⟨S16x4096x1x1024, .f32⟩
  | 124 => ⟨S16x4096x1024, .f32⟩
  | 125 => ⟨S16x4096x1024, .f32⟩
  | 126 => ⟨S16x4096x1024, .f32⟩
  | 127 => ⟨S16x4096x1024, .f32⟩
  | _ => ⟨S16x4096x1024, .f32⟩

abbrev hbmTy0_3 (i : Nat) : BufTy := match i % 128 with
  | 0 => ⟨S16x4096x1024, .f32⟩
  | _ => ⟨S16x4096x1024, .f32⟩

abbrev hbmTy (i : Nat) : BufTy := match i / 128 with
  | 0 => hbmTy0_0 i
  | 1 => hbmTy0_1 i
  | 2 => hbmTy0_2 i
  | 3 => hbmTy0_3 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_c : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_c : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_c_0 : Ref sig .tc := ⟨.hbm, 43, rfl⟩
abbrev main_call0_v12 : Ref sig .tc := ⟨.hbm, 44, rfl⟩
abbrev main_call0_v13 : Ref sig .tc := ⟨.hbm, 45, rfl⟩
abbrev main_v10 : Ref sig .tc := ⟨.hbm, 46, rfl⟩
abbrev main_v11 : Ref sig .tc := ⟨.hbm, 47, rfl⟩
abbrev main_c_0 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_c : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_0 : Ref sig .tc := ⟨.hbm, 62, rfl⟩
abbrev main_call1_v12 : Ref sig .tc := ⟨.hbm, 63, rfl⟩
abbrev main_call1_v13 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_v200 : Ref sig .tc := ⟨.hbm, 253, rfl⟩
abbrev main_v201 : Ref sig .tc := ⟨.hbm, 254, rfl⟩
abbrev main_v202 : Ref sig .tc := ⟨.hbm, 255, rfl⟩
abbrev main_v203 : Ref sig .tc := ⟨.hbm, 256, rfl⟩
abbrev main_v204 : Ref sig .tc := ⟨.hbm, 257, rfl⟩
abbrev main_v205 : Ref sig .tc := ⟨.hbm, 258, rfl⟩
abbrev main_v206 : Ref sig .tc := ⟨.hbm, 259, rfl⟩
abbrev main_v207 : Ref sig .tc := ⟨.hbm, 260, rfl⟩
abbrev main_v208 : Ref sig .tc := ⟨.hbm, 261, rfl⟩
abbrev main_v209 : Ref sig .tc := ⟨.hbm, 262, rfl⟩
abbrev main_v210 : Ref sig .tc := ⟨.hbm, 263, rfl⟩
abbrev main_v211 : Ref sig .tc := ⟨.hbm, 264, rfl⟩
abbrev main_v212 : Ref sig .tc := ⟨.hbm, 265, rfl⟩
abbrev main_v213 : Ref sig .tc := ⟨.hbm, 266, rfl⟩
abbrev main_v214 : Ref sig .tc := ⟨.hbm, 267, rfl⟩
abbrev main_v215 : Ref sig .tc := ⟨.hbm, 268, rfl⟩
abbrev main_v216 : Ref sig .tc := ⟨.hbm, 269, rfl⟩
abbrev main_v217 : Ref sig .tc := ⟨.hbm, 270, rfl⟩
abbrev main_v218 : Ref sig .tc := ⟨.hbm, 271, rfl⟩
abbrev main_v219 : Ref sig .tc := ⟨.hbm, 272, rfl⟩
abbrev main_v220 : Ref sig .tc := ⟨.hbm, 273, rfl⟩
abbrev main_v221 : Ref sig .tc := ⟨.hbm, 274, rfl⟩
abbrev main_v222 : Ref sig .tc := ⟨.hbm, 275, rfl⟩
abbrev main_v223 : Ref sig .tc := ⟨.hbm, 276, rfl⟩
abbrev main_v224 : Ref sig .tc := ⟨.hbm, 277, rfl⟩
abbrev main_v225 : Ref sig .tc := ⟨.hbm, 278, rfl⟩
abbrev main_v226 : Ref sig .tc := ⟨.hbm, 279, rfl⟩
abbrev main_v227 : Ref sig .tc := ⟨.hbm, 280, rfl⟩
abbrev main_v228 : Ref sig .tc := ⟨.hbm, 281, rfl⟩
abbrev main_v229 : Ref sig .tc := ⟨.hbm, 282, rfl⟩
abbrev main_v230 : Ref sig .tc := ⟨.hbm, 283, rfl⟩
abbrev main_v231 : Ref sig .tc := ⟨.hbm, 284, rfl⟩
abbrev main_v232 : Ref sig .tc := ⟨.hbm, 285, rfl⟩
abbrev main_v233 : Ref sig .tc := ⟨.hbm, 286, rfl⟩
abbrev main_v234 : Ref sig .tc := ⟨.hbm, 287, rfl⟩
abbrev main_v235 : Ref sig .tc := ⟨.hbm, 288, rfl⟩
abbrev main_v236 : Ref sig .tc := ⟨.hbm, 289, rfl⟩
abbrev main_v237 : Ref sig .tc := ⟨.hbm, 290, rfl⟩
abbrev main_v238 : Ref sig .tc := ⟨.hbm, 291, rfl⟩
abbrev main_v239 : Ref sig .tc := ⟨.hbm, 292, rfl⟩
abbrev main_v240 : Ref sig .tc := ⟨.hbm, 293, rfl⟩
abbrev main_v241 : Ref sig .tc := ⟨.hbm, 294, rfl⟩
abbrev main_v242 : Ref sig .tc := ⟨.hbm, 295, rfl⟩
abbrev main_v243 : Ref sig .tc := ⟨.hbm, 296, rfl⟩
abbrev main_v244 : Ref sig .tc := ⟨.hbm, 297, rfl⟩
abbrev main_v245 : Ref sig .tc := ⟨.hbm, 298, rfl⟩
abbrev main_v246 : Ref sig .tc := ⟨.hbm, 299, rfl⟩
abbrev main_v247 : Ref sig .tc := ⟨.hbm, 300, rfl⟩
abbrev main_v248 : Ref sig .tc := ⟨.hbm, 301, rfl⟩
abbrev main_v249 : Ref sig .tc := ⟨.hbm, 302, rfl⟩
abbrev main_v250 : Ref sig .tc := ⟨.hbm, 303, rfl⟩
abbrev main_v251 : Ref sig .tc := ⟨.hbm, 304, rfl⟩
abbrev main_v252 : Ref sig .tc := ⟨.hbm, 305, rfl⟩
abbrev main_v253 : Ref sig .tc := ⟨.hbm, 306, rfl⟩
abbrev main_cst : Ref sig .tc := ⟨.hbm, 307, rfl⟩
abbrev main_v254 : Ref sig .tc := ⟨.hbm, 308, rfl⟩
abbrev main_v255 : Ref sig .tc := ⟨.hbm, 309, rfl⟩
abbrev main_cst_1 : Ref sig .tc := ⟨.hbm, 310, rfl⟩
abbrev main_v256 : Ref sig .tc := ⟨.hbm, 311, rfl⟩
abbrev main_v257 : Ref sig .tc := ⟨.hbm, 312, rfl⟩
abbrev main_v258 : Ref sig .tc := ⟨.hbm, 313, rfl⟩
abbrev main_v259 : Ref sig .tc := ⟨.hbm, 314, rfl⟩
abbrev main_v260 : Ref sig .tc := ⟨.hbm, 315, rfl⟩
abbrev main_cst_2 : Ref sig .tc := ⟨.hbm, 316, rfl⟩
abbrev main_v261 : Ref sig .tc := ⟨.hbm, 317, rfl⟩
abbrev main_v262 : Ref sig .tc := ⟨.hbm, 318, rfl⟩
abbrev main_cst_3 : Ref sig .tc := ⟨.hbm, 319, rfl⟩
abbrev main_v263 : Ref sig .tc := ⟨.hbm, 320, rfl⟩
abbrev main_v264 : Ref sig .tc := ⟨.hbm, 321, rfl⟩
abbrev main_v265 : Ref sig .tc := ⟨.hbm, 322, rfl⟩
abbrev main_v266 : Ref sig .tc := ⟨.hbm, 323, rfl⟩
abbrev main_cst_4 : Ref sig .tc := ⟨.hbm, 324, rfl⟩
abbrev main_v267 : Ref sig .tc := ⟨.hbm, 325, rfl⟩
abbrev main_v268 : Ref sig .tc := ⟨.hbm, 326, rfl⟩
abbrev main_v269 : Ref sig .tc := ⟨.hbm, 327, rfl⟩
abbrev main_v270 : Ref sig .tc := ⟨.hbm, 328, rfl⟩
abbrev main_v271 : Ref sig .tc := ⟨.hbm, 329, rfl⟩
abbrev main_v272 : Ref sig .tc := ⟨.hbm, 330, rfl⟩
abbrev main_v273 : Ref sig .tc := ⟨.hbm, 331, rfl⟩
abbrev main_v274 : Ref sig .tc := ⟨.hbm, 332, rfl⟩
abbrev main_v275 : Ref sig .tc := ⟨.hbm, 333, rfl⟩
abbrev main_v276 : Ref sig .tc := ⟨.hbm, 334, rfl⟩
abbrev main_v277 : Ref sig .tc := ⟨.hbm, 335, rfl⟩
abbrev main_call2_v0 : Ref sig .tc := ⟨.hbm, 336, rfl⟩
abbrev main_call2_v1 : Ref sig .tc := ⟨.hbm, 337, rfl⟩
abbrev main_call2_cst : Ref sig .tc := ⟨.hbm, 338, rfl⟩
abbrev main_call2_v2 : Ref sig .tc := ⟨.hbm, 339, rfl⟩
abbrev main_call2_v3 : Ref sig .tc := ⟨.hbm, 340, rfl⟩
abbrev main_call2_cst_0 : Ref sig .tc := ⟨.hbm, 341, rfl⟩
abbrev main_call2_v4 : Ref sig .tc := ⟨.hbm, 342, rfl⟩
abbrev main_call2_v5 : Ref sig .tc := ⟨.hbm, 343, rfl⟩
abbrev main_v278 : Ref sig .tc := ⟨.hbm, 344, rfl⟩
abbrev main_v279 : Ref sig .tc := ⟨.hbm, 345, rfl⟩
abbrev main_v280 : Ref sig .tc := ⟨.hbm, 346, rfl⟩
abbrev main_v281 : Ref sig .tc := ⟨.hbm, 347, rfl⟩
abbrev main_v282 : Ref sig .tc := ⟨.hbm, 348, rfl⟩
abbrev main_v283 : Ref sig .tc := ⟨.hbm, 349, rfl⟩
abbrev main_cst_5 : Ref sig .tc := ⟨.hbm, 350, rfl⟩
abbrev main_v284 : Ref sig .tc := ⟨.hbm, 351, rfl⟩
abbrev main_v285 : Ref sig .tc := ⟨.hbm, 352, rfl⟩
abbrev main_cst_6 : Ref sig .tc := ⟨.hbm, 353, rfl⟩
abbrev main_v286 : Ref sig .tc := ⟨.hbm, 354, rfl⟩
abbrev main_cst_7 : Ref sig .tc := ⟨.hbm, 355, rfl⟩
abbrev main_v287 : Ref sig .tc := ⟨.hbm, 356, rfl⟩
abbrev main_v288 : Ref sig .tc := ⟨.hbm, 357, rfl⟩
abbrev main_v289 : Ref sig .tc := ⟨.hbm, 358, rfl⟩
abbrev main_v290 : Ref sig .tc := ⟨.hbm, 359, rfl⟩
abbrev main_v291 : Ref sig .tc := ⟨.hbm, 360, rfl⟩
abbrev main_v292 : Ref sig .tc := ⟨.hbm, 361, rfl⟩
abbrev main_cst_8 : Ref sig .tc := ⟨.hbm, 362, rfl⟩
abbrev main_v293 : Ref sig .tc := ⟨.hbm, 363, rfl⟩
abbrev main_v294 : Ref sig .tc := ⟨.hbm, 364, rfl⟩
abbrev main_v295 : Ref sig .tc := ⟨.hbm, 365, rfl⟩
abbrev main_v296 : Ref sig .tc := ⟨.hbm, 366, rfl⟩
abbrev main_v297 : Ref sig .tc := ⟨.hbm, 367, rfl⟩
abbrev main_v298 : Ref sig .tc := ⟨.hbm, 368, rfl⟩
abbrev main_v299 : Ref sig .tc := ⟨.hbm, 369, rfl⟩
abbrev main_v300 : Ref sig .tc := ⟨.hbm, 370, rfl⟩
abbrev main_v301 : Ref sig .tc := ⟨.hbm, 371, rfl⟩
abbrev main_v302 : Ref sig .tc := ⟨.hbm, 372, rfl⟩
abbrev main_v303 : Ref sig .tc := ⟨.hbm, 373, rfl⟩
abbrev main_v304 : Ref sig .tc := ⟨.hbm, 374, rfl⟩
abbrev main_v305 : Ref sig .tc := ⟨.hbm, 375, rfl⟩
abbrev main_v306 : Ref sig .tc := ⟨.hbm, 376, rfl⟩
abbrev main_v307 : Ref sig .tc := ⟨.hbm, 377, rfl⟩
abbrev main_v308 : Ref sig .tc := ⟨.hbm, 378, rfl⟩
abbrev main_v309 : Ref sig .tc := ⟨.hbm, 379, rfl⟩
abbrev main_v310 : Ref sig .tc := ⟨.hbm, 380, rfl⟩
abbrev main_v311 : Ref sig .tc := ⟨.hbm, 381, rfl⟩
abbrev main_v312 : Ref sig .tc := ⟨.hbm, 382, rfl⟩
abbrev main_v313 : Ref sig .tc := ⟨.hbm, 383, rfl⟩
abbrev main_v314 : Ref sig .tc := ⟨.hbm, 384, rfl⟩

abbrev nD : Nat := 1
abbrev τ : Topo := Topo.v7x

variable {F : FTy → Type} [FloatOps F]
-- ==== Glu.lean ====
abbrev S16x4096x1024 : Shape := ⟨3, ![16, 4096, 1024]⟩
abbrev S1x1024 : Shape := ⟨2, ![1, 1024]⟩
abbrev S1x1024x8192 : Shape := ⟨3, ![1, 1024, 8192]⟩
abbrev S1024x8192 : Shape := ⟨2, ![1024, 8192]⟩
abbrev S65536x1024 : Shape := ⟨2, ![65536, 1024]⟩
abbrev S1024 : Shape := ⟨1, ![1024]⟩
abbrev S1024x2048 : Shape := ⟨2, ![1024, 2048]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩
abbrev S16x30x1024 : Shape := ⟨3, ![16, 30, 1024]⟩
abbrev S1x16x30x1024 : Shape := ⟨4, ![1, 16, 30, 1024]⟩

abbrev nBuf : Space → Nat
  | .hbm => 13
  | .vmem => 6
  | .smem => 0
  | _ => 0

abbrev bufTy : (tb : Table) → Fin (tcTables nBuf tb) → BufTy
  | .hbm, ⟨0, _⟩ => ⟨S16x4096x1024, .f32⟩
  | .hbm, ⟨1, _⟩ => ⟨S1x1024, .f32⟩
  | .hbm, ⟨2, _⟩ => ⟨S1x1024x8192, .f32⟩
  | .hbm, ⟨3, _⟩ => ⟨S1024x8192, .f32⟩
  | .hbm, ⟨4, _⟩ => ⟨S1024x8192, .bf16⟩
  | .hbm, ⟨5, _⟩ => ⟨S65536x1024, .f32⟩
  | .hbm, ⟨6, _⟩ => ⟨S1024, .f32⟩
  | .hbm, ⟨7, _⟩ => ⟨S1x1024, .f32⟩
  | .hbm, ⟨8, _⟩ => ⟨S1024x2048, .bf16⟩
  | .hbm, ⟨9, _⟩ => ⟨S65536x1024, .f32⟩
  | .hbm, ⟨10, _⟩ => ⟨S16x4096x1024, .f32⟩
  | .hbm, ⟨11, _⟩ => ⟨S16x30x1024, .f32⟩
  | .hbm, ⟨12, _⟩ => ⟨S1x16x30x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S512x1024, .f32⟩
  | .local _ .vmem, ⟨5, _⟩ => ⟨S512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GluRefIdeal.lean ====
abbrev S16x4096x1024 : Shape := ⟨3, ![16, 4096, 1024]⟩
abbrev S1x1024 : Shape := ⟨2, ![1, 1024]⟩
abbrev S1x1024x8192 : Shape := ⟨3, ![1, 1024, 8192]⟩
abbrev S1024 : Shape := ⟨1, ![1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S1024x8192 : Shape := ⟨2, ![1024, 8192]⟩
abbrev S16x4096x8192 : Shape := ⟨3, ![16, 4096, 8192]⟩
abbrev S16x4096x2048 : Shape := ⟨3, ![16, 4096, 2048]⟩
abbrev S16x30x1024 : Shape := ⟨3, ![16, 30, 1024]⟩
abbrev S16x4126x1024 : Shape := ⟨3, ![16, 4126, 1024]⟩
abbrev S65536x1024 : Shape := ⟨2, ![65536, 1024]⟩
abbrev S1x16x30x1024 : Shape := ⟨4, ![1, 16, 30, 1024]⟩

abbrev nBuf : Space → Nat
  | .hbm => 40
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1x1024, .f32⟩
  | .hbm, ⟨2, _⟩ => ⟨S1x1024x8192, .f32⟩
  | .hbm, ⟨3, _⟩ => ⟨S1024, .f32⟩
  | .hbm, ⟨4, _⟩ => ⟨S16x4096x1024, .f32⟩
  | .hbm, ⟨5, _⟩ => ⟨S_, .f32⟩
  | .hbm, ⟨6, _⟩ => ⟨S16x4096, .f32⟩
  | .hbm, ⟨7, _⟩ => ⟨S16x4096x1, .f32⟩
  | .hbm, ⟨8, _⟩ => ⟨S_, .f32⟩
  | .hbm, ⟨9, _⟩ => ⟨S16x4096x1, .f32⟩
  | .hbm, ⟨10, _⟩ => ⟨S16x4096x1, .f32⟩
  | .hbm, ⟨11, _⟩ => ⟨S_, .f32⟩
  | .hbm, ⟨12, _⟩ => ⟨S16x4096x1, .f32⟩
  | .hbm, ⟨13, _⟩ => ⟨S16x4096x1, .f32⟩
  | .hbm, ⟨14, _⟩ => ⟨S16x4096x1, .f32⟩
  | .hbm, ⟨15, _⟩ => ⟨S16x4096x1024, .f32⟩
  | .hbm, ⟨16, _⟩ => ⟨S16x4096x1024, .f32⟩
  | .hbm, ⟨17, _⟩ => ⟨S1x1x1024, .f32⟩
  | .hbm, ⟨18, _⟩ => ⟨S16x4096x1024, .f32⟩
  | .hbm, ⟨19, _⟩ => ⟨S16x4096x1024, .f32⟩
  | .hbm, ⟨20, _⟩ => ⟨S1024x8192, .f32⟩
  | .hbm, ⟨21, _⟩ => ⟨S16x4096x8192, .f32⟩
  | .hbm, ⟨22, _⟩ => ⟨S16x4096x2048, .f32⟩
  | .hbm, ⟨23, _⟩ => ⟨S16x4096x1024, .f32⟩
  | .hbm, ⟨24, _⟩ => ⟨S16x4096x1024, .f32⟩
  | .hbm, ⟨25, _⟩ => ⟨S16x4096x1024, .f32⟩
  | .hbm, ⟨26, _⟩ => ⟨S16x4096x1024, .f32⟩
  | .hbm, ⟨27, _⟩ => ⟨S_, .f32⟩
  | .hbm, ⟨28, _⟩ => ⟨S16x4096x1024, .f32⟩
  | .hbm, ⟨29, _⟩ => ⟨S16x4096x1024, .f32⟩
  | .hbm, ⟨30, _⟩ => ⟨S_, .f32⟩
  | .hbm, ⟨31, _⟩ => ⟨S16x4096x1024, .f32⟩
  | .hbm, ⟨32, _⟩ => ⟨S16x4096x1024, .f32⟩
  | .hbm, ⟨33, _⟩ => ⟨S16x4096x1024, .f32⟩
  | .hbm, ⟨34, _⟩ => ⟨S_, .f32⟩
  | .hbm, ⟨35, _⟩ => ⟨S16x30x1024, .f32⟩
  | .hbm, ⟨36, _⟩ => ⟨S16x4126x1024, .f32⟩
  | .hbm, ⟨37, _⟩ => ⟨S65536x1024, .f32⟩
  | .hbm, ⟨38, _⟩ => ⟨S16x30x1024, .f32⟩
  | .hbm, ⟨39, _⟩ => ⟨S1x16x30x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== Gates.lean ====
abbrev S16x4096x1024 : Shape := ⟨3, ![16, 4096, 1024]⟩
abbrev S1x1024 : Shape := ⟨2, ![1, 1024]⟩
abbrev S1x1024x8192 : Shape := ⟨3, ![1, 1024, 8192]⟩
abbrev S1x3072 : Shape := ⟨2, ![1, 3072]⟩
abbrev S1024x8192 : Shape := ⟨2, ![1024, 8192]⟩
abbrev S65536x1024 : Shape := ⟨2, ![65536, 1024]⟩
abbrev S1024 : Shape := ⟨1, ![1024]⟩
abbrev S1024x4096 : Shape := ⟨2, ![1024, 4096]⟩
abbrev S3072 : Shape := ⟨1, ![3072]⟩
abbrev S65536x3072 : Shape := ⟨2, ![65536, 3072]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩
abbrev S1024x1024 : Shape := ⟨2, ![1024, 1024]⟩

abbrev nBuf : Space → Nat
  | .hbm => 14
  | .vmem => 9
  | .smem => 0
  | _ => 0

abbrev bufTy : (tb : Table) → Fin (tcTables nBuf tb) → BufTy
  | .hbm, ⟨0, _⟩ => ⟨S16x4096x1024, .f32⟩
  | .hbm, ⟨1, _⟩ => ⟨S1x1024, .f32⟩
  | .hbm, ⟨2, _⟩ => ⟨S1x1024x8192, .f32⟩
  | .hbm, ⟨3, _⟩ => ⟨S1x3072, .f32⟩
  | .hbm, ⟨4, _⟩ => ⟨S1024x8192, .f32⟩
  | .hbm, ⟨5, _⟩ => ⟨S1024x8192, .bf16⟩
  | .hbm, ⟨6, _⟩ => ⟨S65536x1024, .f32⟩
  | .hbm, ⟨7, _⟩ => ⟨S1024, .f32⟩
  | .hbm, ⟨8, _⟩ => ⟨S1x1024, .f32⟩
  | .hbm, ⟨9, _⟩ => ⟨S1024x4096, .bf16⟩
  | .hbm, ⟨10, _⟩ => ⟨S3072, .f32⟩
  | .hbm, ⟨11, _⟩ => ⟨S1x3072, .f32⟩
  | .hbm, ⟨12, _⟩ => ⟨S65536x1024, .bf16⟩
  | .hbm, ⟨13, _⟩ => ⟨S65536x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S1x3072, .f32⟩
  | .local _ .vmem, ⟨5, _⟩ => ⟨S512x1024, .bf16⟩
  | .local _ .vmem, ⟨6, _⟩ => ⟨S512x1024, .bf16⟩
  | .local _ .vmem, ⟨7, _⟩ => ⟨S512x3072, .bf16⟩
  | .local _ .vmem, ⟨8, _⟩ => ⟨S512x3072, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GatesRefIdeal.lean ====
abbrev S16x4096x1024 : Shape := ⟨3, ![16, 4096, 1024]⟩
abbrev S1x1024 : Shape := ⟨2, ![1, 1024]⟩
abbrev S1x1024x8192 : Shape := ⟨3, ![1, 1024, 8192]⟩
abbrev S1x3072 : Shape := ⟨2, ![1, 3072]⟩
abbrev S1024 : Shape := ⟨1, ![1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S1024x8192 : Shape := ⟨2, ![1024, 8192]⟩
abbrev S16x4096x8192 : Shape := ⟨3, ![16, 4096, 8192]⟩
abbrev S16x4096x3072 : Shape := ⟨3, ![16, 4096, 3072]⟩
abbrev S3072 : Shape := ⟨1, ![3072]⟩
abbrev S1x1x3072 : Shape := ⟨3, ![1, 1, 3072]⟩
abbrev S65536x1024 : Shape := ⟨2, ![65536, 1024]⟩
abbrev S65536x3072 : Shape := ⟨2, ![65536, 3072]⟩

abbrev nBuf : Space → Nat
  | .hbm => 41
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1x1024, .f32⟩
  | .hbm, ⟨2, _⟩ => ⟨S1x1024x8192, .f32⟩
  | .hbm, ⟨3, _⟩ => ⟨S1x3072, .f32⟩
  | .hbm, ⟨4, _⟩ => ⟨S1024, .f32⟩
  | .hbm, ⟨5, _⟩ => ⟨S16x4096x1024, .f32⟩
  | .hbm, ⟨6, _⟩ => ⟨S_, .f32⟩
  | .hbm, ⟨7, _⟩ => ⟨S16x4096, .f32⟩
  | .hbm, ⟨8, _⟩ => ⟨S16x4096x1, .f32⟩
  | .hbm, ⟨9, _⟩ => ⟨S_, .f32⟩
  | .hbm, ⟨10, _⟩ => ⟨S16x4096x1, .f32⟩
  | .hbm, ⟨11, _⟩ => ⟨S16x4096x1, .f32⟩
  | .hbm, ⟨12, _⟩ => ⟨S_, .f32⟩
  | .hbm, ⟨13, _⟩ => ⟨S16x4096x1, .f32⟩
  | .hbm, ⟨14, _⟩ => ⟨S16x4096x1, .f32⟩
  | .hbm, ⟨15, _⟩ => ⟨S16x4096x1, .f32⟩
  | .hbm, ⟨16, _⟩ => ⟨S16x4096x1024, .f32⟩
  | .hbm, ⟨17, _⟩ => ⟨S16x4096x1024, .f32⟩
  | .hbm, ⟨18, _⟩ => ⟨S1x1x1024, .f32⟩
  | .hbm, ⟨19, _⟩ => ⟨S16x4096x1024, .f32⟩
  | .hbm, ⟨20, _⟩ => ⟨S16x4096x1024, .f32⟩
  | .hbm, ⟨21, _⟩ => ⟨S1024x8192, .f32⟩
  | .hbm, ⟨22, _⟩ => ⟨S16x4096x8192, .f32⟩
  | .hbm, ⟨23, _⟩ => ⟨S16x4096x1024, .f32⟩
  | .hbm, ⟨24, _⟩ => ⟨S16x4096x3072, .f32⟩
  | .hbm, ⟨25, _⟩ => ⟨S3072, .f32⟩
  | .hbm, ⟨26, _⟩ => ⟨S1x1x3072, .f32⟩
  | .hbm, ⟨27, _⟩ => ⟨S16x4096x3072, .f32⟩
  | .hbm, ⟨28, _⟩ => ⟨S16x4096x3072, .f32⟩
  | .hbm, ⟨29, _⟩ => ⟨S16x4096x3072, .f32⟩
  | .hbm, ⟨30, _⟩ => ⟨S16x4096x3072, .f32⟩
  | .hbm, ⟨31, _⟩ => ⟨S_, .f32⟩
  | .hbm, ⟨32, _⟩ => ⟨S16x4096x3072, .f32⟩
  | .hbm, ⟨33, _⟩ => ⟨S16x4096x3072, .f32⟩
  | .hbm, ⟨34, _⟩ => ⟨S_, .f32⟩
  | .hbm, ⟨35, _⟩ => ⟨S16x4096x3072, .f32⟩
  | .hbm, ⟨36, _⟩ => ⟨S16x4096x3072, .f32⟩
  | .hbm, ⟨37, _⟩ => ⟨S65536x1024, .f32⟩
  | .hbm, ⟨38, _⟩ => ⟨S65536x1024, .bf16⟩
  | .hbm, ⟨39, _⟩ => ⟨S65536x3072, .f32⟩
  | .hbm, ⟨40, _⟩ => ⟨S65536x3072, .bf16⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== Kv.lean ====
abbrev S16x256x1024 : Shape := ⟨3, ![16, 256, 1024]⟩
abbrev S1x1024 : Shape := ⟨2, ![1, 1024]⟩
abbrev S1x1024x2048 : Shape := ⟨3, ![1, 1024, 2048]⟩
abbrev S4096x1024 : Shape := ⟨2, ![4096, 1024]⟩
abbrev S1024 : Shape := ⟨1, ![1024]⟩
abbrev S1024x2048 : Shape := ⟨2, ![1024, 2048]⟩
abbrev S4096x2048 : Shape := ⟨2, ![4096, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S16x256x2048 : Shape := ⟨3, ![16, 256, 2048]⟩
abbrev S16x256x4x256 : Shape := ⟨4, ![16, 256, 4, 256]⟩
abbrev S1x16x256x4x256 : Shape := ⟨5, ![1, 16, 256, 4, 256]⟩

abbrev nBuf : Space → Nat
  | .hbm => 16
  | .vmem => 6
  | .smem => 0
  | _ => 0

abbrev bufTy : (tb : Table) → Fin (tcTables nBuf tb) → BufTy
  | .hbm, ⟨0, _⟩ => ⟨S16x256x1024, .f32⟩
  | .hbm, ⟨1, _⟩ => ⟨S1x1024, .f32⟩
  | .hbm, ⟨2, _⟩ => ⟨S1x1024x2048, .f32⟩
  | .hbm, ⟨3, _⟩ => ⟨S4096x1024, .f32⟩
  | .hbm, ⟨4, _⟩ => ⟨S1024, .f32⟩
  | .hbm, ⟨5, _⟩ => ⟨S1x1024, .f32⟩
  | .hbm, ⟨6, _⟩ => ⟨S1024x2048, .f32⟩
  | .hbm, ⟨7, _⟩ => ⟨S1024x2048, .bf16⟩
  | .hbm, ⟨8, _⟩ => ⟨S4096x2048, .f32⟩
  | .hbm, ⟨9, _⟩ => ⟨S16x256x2048, .f32⟩
  | .hbm, ⟨10, _⟩ => ⟨S16x256x1024, .f32⟩
  | .hbm, ⟨11, _⟩ => ⟨S16x256x1024, .f32⟩
  | .hbm, ⟨12, _⟩ => ⟨S16x256x4x256, .f32⟩
  | .hbm, ⟨13, _⟩ => ⟨S1x16x256x4x256, .f32⟩
  | .hbm, ⟨14, _⟩ => ⟨S16x256x4x256, .f32⟩
  | .hbm, ⟨15, _⟩ => ⟨S1x16x256x4x256, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S512x2048, .f32⟩
  | .local _ .vmem, ⟨5, _⟩ => ⟨S512x2048, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KvRefIdeal.lean ====
abbrev S16x256x1024 : Shape := ⟨3, ![16, 256, 1024]⟩
abbrev S1x1024 : Shape := ⟨2, ![1, 1024]⟩
abbrev S1x1024x2048 : Shape := ⟨3, ![1, 1024, 2048]⟩
abbrev S1024 : Shape := ⟨1, ![1024]⟩
abbrev S_ : Shape := ⟨0, ![]⟩
abbrev S16x256 : Shape := ⟨2, ![16, 256]⟩
abbrev S16x256x1 : Shape := ⟨3, ![16, 256, 1]⟩
abbrev S1x1x1024 : Shape := ⟨3, ![1, 1, 1024]⟩
abbrev S1024x2048 : Shape := ⟨2, ![1024, 2048]⟩
abbrev S16x256x2048 : Shape := ⟨3, ![16, 256, 2048]⟩
abbrev S16x256x2x4x256 : Shape := ⟨5, ![16, 256, 2, 4, 256]⟩
abbrev S16x256x1x4x256 : Shape := ⟨5, ![16, 256, 1, 4, 256]⟩
abbrev S16x256x4x256 : Shape := ⟨4, ![16, 256, 4, 256]⟩
abbrev S1x16x256x4x256 : Shape := ⟨5, ![1, 16, 256, 4, 256]⟩

abbrev nBuf : Space → Nat
  | .hbm => 29
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S1x1024, .f32⟩
  | .hbm, ⟨2, _⟩ => ⟨S1x1024x2048, .f32⟩
  | .hbm, ⟨3, _⟩ => ⟨S1024, .f32⟩
  | .hbm, ⟨4, _⟩ => ⟨S16x256x1024, .f32⟩
  | .hbm, ⟨5, _⟩ => ⟨S_, .f32⟩
  | .hbm, ⟨6, _⟩ => ⟨S16x256, .f32⟩
  | .hbm, ⟨7, _⟩ => ⟨S16x256x1, .f32⟩
  | .hbm, ⟨8, _⟩ => ⟨S_, .f32⟩
  | .hbm, ⟨9, _⟩ => ⟨S16x256x1, .f32⟩
  | .hbm, ⟨10, _⟩ => ⟨S16x256x1, .f32⟩
  | .hbm, ⟨11, _⟩ => ⟨S_, .f32⟩
  | .hbm, ⟨12, _⟩ => ⟨S16x256x1, .f32⟩
  | .hbm, ⟨13, _⟩ => ⟨S16x256x1, .f32⟩
  | .hbm, ⟨14, _⟩ => ⟨S16x256x1, .f32⟩
  | .hbm, ⟨15, _⟩ => ⟨S16x256x1024, .f32⟩
  | .hbm, ⟨16, _⟩ => ⟨S16x256x1024, .f32⟩
  | .hbm, ⟨17, _⟩ => ⟨S1x1x1024, .f32⟩
  | .hbm, ⟨18, _⟩ => ⟨S16x256x1024, .f32⟩
  | .hbm, ⟨19, _⟩ => ⟨S16x256x1024, .f32⟩
  | .hbm, ⟨20, _⟩ => ⟨S1024x2048, .f32⟩
  | .hbm, ⟨21, _⟩ => ⟨S16x256x2048, .f32⟩
  | .hbm, ⟨22, _⟩ => ⟨S16x256x2x4x256, .f32⟩
  | .hbm, ⟨23, _⟩ => ⟨S16x256x1x4x256, .f32⟩
  | .hbm, ⟨24, _⟩ => ⟨S16x256x4x256, .f32⟩
  | .hbm, ⟨25, _⟩ => ⟨S1x16x256x4x256, .f32⟩
  | .hbm, ⟨26, _⟩ => ⟨S16x256x1x4x256, .f32⟩
  | .hbm, ⟨27, _⟩ => ⟨S16x256x4x256, .f32⟩
  | .hbm, ⟨28, _⟩ => ⟨S1x16x256x4x256, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Gmlp.lean ====
abbrev S16x4096x1024 : Shape := ⟨3, ![16, 4096, 1024]⟩
abbrev S1x1024 : Shape := ⟨2, ![1, 1024]⟩
abbrev S1x1024x8192 : Shape := ⟨3, ![1, 1024, 8192]⟩
abbrev S1024x8192 : Shape := ⟨2, ![1024, 8192]⟩
abbrev S65536x1024 : Shape := ⟨2, ![65536, 1024]⟩
abbrev S1024 : Shape := ⟨1, ![1024]⟩
abbrev S1024x2048 : Shape := ⟨2, ![1024, 2048]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 17
  | .vmem => 10
  | .smem => 0
  | _ => 0

abbrev bufTy : (tb : Table) → Fin (tcTables nBuf tb) → BufTy
  | .hbm, ⟨0, _⟩ => ⟨S16x4096x1024, .f32⟩
  | .hbm, ⟨1, _⟩ => ⟨S1x1024, .f32⟩
  | .hbm, ⟨2, _⟩ => ⟨S1x1024x8192, .f32⟩
  | .hbm, ⟨3, _⟩ => ⟨S1x1024, .f32⟩
  | .hbm, ⟨4, _⟩ => ⟨S1x1024, .f32⟩
  | .hbm, ⟨5, _⟩ => ⟨S1024x8192, .f32⟩
  | .hbm, ⟨6, _⟩ => ⟨S1024x8192, .bf16⟩
  | .hbm, ⟨7, _⟩ => ⟨S65536x1024, .f32⟩
  | .hbm, ⟨8, _⟩ => ⟨S1024, .f32⟩
  | .hbm, ⟨9, _⟩ => ⟨S1x1024, .f32⟩
  | .hbm, ⟨10, _⟩ => ⟨S1024x2048, .bf16⟩
  | .hbm, ⟨11, _⟩ => ⟨S1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S65536x1024, .bf16⟩
  | .hbm, ⟨16, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S1x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GmlpIdeal.lean ====
variable {F : FTy → Type} [FloatOps F] [Named F]
def κ : String → Option EReal := fun
  | "root_cube" => some ((80338380498831 / 2251799813685248 : ℝ) : EReal)
  | _ => none
-- ==== GmlpRefIdeal.lean ====
abbrev S16x4096x1024 : Shape := ⟨3, ![16, 4096, 1024]⟩
abbrev S1x1024 : Shape := ⟨2, ![1, 1024]⟩
abbrev S1x1024x8192 : Shape := ⟨3, ![1, 1024, 8192]⟩
abbrev S1024 : Shape := ⟨1, ![1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S1024x8192 : Shape := ⟨2, ![1024, 8192]⟩
abbrev S16x4096x8192 : Shape := ⟨3, ![16, 4096, 8192]⟩
abbrev S16x4096x2048 : Shape := ⟨3, ![16, 4096, 2048]⟩
abbrev S65536x1024 : Shape := ⟨2, ![65536, 1024]⟩

abbrev nBuf : Space → Nat
  | .hbm => 78
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1x1024, .f32⟩
  | .hbm, ⟨2, _⟩ => ⟨S1x1024x8192, .f32⟩
  | .hbm, ⟨3, _⟩ => ⟨S1x1024, .f32⟩
  | .hbm, ⟨4, _⟩ => ⟨S1x1024, .f32⟩
  | .hbm, ⟨5, _⟩ => ⟨S1024, .f32⟩
  | .hbm, ⟨6, _⟩ => ⟨S16x4096x1024, .f32⟩
  | .hbm, ⟨7, _⟩ => ⟨S_, .f32⟩
  | .hbm, ⟨8, _⟩ => ⟨S16x4096, .f32⟩
  | .hbm, ⟨9, _⟩ => ⟨S16x4096x1, .f32⟩
  | .hbm, ⟨10, _⟩ => ⟨S_, .f32⟩
  | .hbm, ⟨11, _⟩ => ⟨S16x4096x1, .f32⟩
  | .hbm, ⟨12, _⟩ => ⟨S16x4096x1, .f32⟩
  | .hbm, ⟨13, _⟩ => ⟨S_, .f32⟩
  | .hbm, ⟨14, _⟩ => ⟨S16x4096x1, .f32⟩
  | .hbm, ⟨15, _⟩ => ⟨S16x4096x1, .f32⟩
  | .hbm, ⟨16, _⟩ => ⟨S16x4096x1, .f32⟩
  | .hbm, ⟨17, _⟩ => ⟨S16x4096x1024, .f32⟩
  | .hbm, ⟨18, _⟩ => ⟨S16x4096x1024, .f32⟩
  | .hbm, ⟨19, _⟩ => ⟨S1x1x1024, .f32⟩
  | .hbm, ⟨20, _⟩ => ⟨S16x4096x1024, .f32⟩
  | .hbm, ⟨21, _⟩ => ⟨S16x4096x1024, .f32⟩
  | .hbm, ⟨22, _⟩ => ⟨S1024x8192, .f32⟩
  | .hbm, ⟨23, _⟩ => ⟨S16x4096x8192, .f32⟩
  | .hbm, ⟨24, _⟩ => ⟨S16x4096x2048, .f32⟩
  | .hbm, ⟨25, _⟩ => ⟨S16x4096x2048, .f32⟩
  | .hbm, ⟨26, _⟩ => ⟨S16x4096x2048, .f32⟩
  | .hbm, ⟨27, _⟩ => ⟨S_, .f32⟩
  | .hbm, ⟨28, _⟩ => ⟨S16x4096x2048, .f32⟩
  | .hbm, ⟨29, _⟩ => ⟨S16x4096x2048, .f32⟩
  | .hbm, ⟨30, _⟩ => ⟨S16x4096x2048, .f32⟩
  | .hbm, ⟨31, _⟩ => ⟨S_, .f32⟩
  | .hbm, ⟨32, _⟩ => ⟨S16x4096x2048, .f32⟩
  | .hbm, ⟨33, _⟩ => ⟨S16x4096x2048, .f32⟩
  | .hbm, ⟨34, _⟩ => ⟨S16x4096x2048, .f32⟩
  | .hbm, ⟨35, _⟩ => ⟨S_, .f32⟩
  | .hbm, ⟨36, _⟩ => ⟨S16x4096x2048, .f32⟩
  | .hbm, ⟨37, _⟩ => ⟨S16x4096x2048, .f32⟩
  | .hbm, ⟨38, _⟩ => ⟨S_, .f32⟩
  | .hbm, ⟨39, _⟩ => ⟨S16x4096x2048, .f32⟩
  | .hbm, ⟨40, _⟩ => ⟨S16x4096x2048, .f32⟩
  | .hbm, ⟨41, _⟩ => ⟨S16x4096x2048, .f32⟩
  | .hbm, ⟨42, _⟩ => ⟨S16x4096x1024, .f32⟩
  | .hbm, ⟨43, _⟩ => ⟨S16x4096x1024, .f32⟩
  | .hbm, ⟨44, _⟩ => ⟨S1024, .f32⟩
  | .hbm, ⟨45, _⟩ => ⟨S1024, .f32⟩
  | .hbm, ⟨46, _⟩ => ⟨S_, .f32⟩
  | .hbm, ⟨47, _⟩ => ⟨S16x4096, .f32⟩
  | .hbm, ⟨48, _⟩ => ⟨S16x4096x1, .f32⟩
  | .hbm, ⟨49, _⟩ => ⟨S_, .f32⟩
  | .hbm, ⟨50, _⟩ => ⟨S16x4096x1, .f32⟩
  | .hbm, ⟨51, _⟩ => ⟨S16x4096x1, .f32⟩
  | .hbm, ⟨52, _⟩ => ⟨S16x4096x1024, .f32⟩
  | .hbm, ⟨53, _⟩ => ⟨S16x4096x1024, .f32⟩
  | .hbm, ⟨54, _⟩ => ⟨S16x4096x1024, .f32⟩
  | .hbm, ⟨55, _⟩ => ⟨S_, .f32⟩
  | .hbm, ⟨56, _⟩ => ⟨S16x4096, .f32⟩
  | .hbm, ⟨57, _⟩ => ⟨S16x4096x1, .f32⟩
  | .hbm, ⟨58, _⟩ => ⟨S_, .f32⟩
  | .hbm, ⟨59, _⟩ => ⟨S16x4096x1, .f32⟩
  | .hbm, ⟨60, _⟩ => ⟨S16x4096x1, .f32⟩
  | .hbm, ⟨61, _⟩ => ⟨S16x4096x1024, .f32⟩
  | .hbm, ⟨62, _⟩ => ⟨S16x4096x1024, .f32⟩
  | .hbm, ⟨63, _⟩ => ⟨S_, .f32⟩
  | .hbm, ⟨64, _⟩ => ⟨S16x4096x1, .f32⟩
  | .hbm, ⟨65, _⟩ => ⟨S16x4096x1, .f32⟩
  | .hbm, ⟨66, _⟩ => ⟨S16x4096x1, .f32⟩
  | .hbm, ⟨67, _⟩ => ⟨S16x4096x1024, .f32⟩
  | .hbm, ⟨68, _⟩ => ⟨S16x4096x1024, .f32⟩
  | .hbm, ⟨69, _⟩ => ⟨S1x1x1024, .f32⟩
  | .hbm, ⟨70, _⟩ => ⟨S16x4096x1024, .f32⟩
  | .hbm, ⟨71, _⟩ => ⟨S16x4096x1024, .f32⟩
  | .hbm, ⟨72, _⟩ => ⟨S1x1x1024, .f32⟩
  | .hbm, ⟨73, _⟩ => ⟨S16x4096x1024, .f32⟩
  | .hbm, ⟨74, _⟩ => ⟨S16x4096x1024, .f32⟩
  | .hbm, ⟨75, _⟩ => ⟨S65536x1024, .f32⟩
  | .hbm, ⟨76, _⟩ => ⟨S65536x1024, .bf16⟩
  | .hbm, ⟨77, _⟩ => ⟨S65536x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩
abbrev main_cst_9 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_10 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩

abbrev nD : Nat := 1
abbrev τ : Topo := Topo.v7x

variable {F : FTy → Type} [FloatOps F]
-- ==== ConvSample.lean ====
abbrev S8x16x1024 : Shape := ⟨3, ![8, 16, 1024]⟩
abbrev S1x8x30x1024 : Shape := ⟨4, ![1, 8, 30, 1024]⟩
abbrev S1x1024 : Shape := ⟨2, ![1, 1024]⟩
abbrev S1x1024x8192 : Shape := ⟨3, ![1, 1024, 8192]⟩
abbrev S_ : Shape := ⟨0, ![]⟩
abbrev S8x128x1024 : Shape := ⟨3, ![8, 128, 1024]⟩
abbrev S1024x8192 : Shape := ⟨2, ![1024, 8192]⟩
abbrev S1024x1024 : Shape := ⟨2, ![1024, 1024]⟩
abbrev S1024 : Shape := ⟨1, ![1024]⟩
abbrev S1024x2048 : Shape := ⟨2, ![1024, 2048]⟩
abbrev S512x1024 : Shape := ⟨2, ![512, 1024]⟩
abbrev S512 : Shape := ⟨1, ![512]⟩
abbrev S512x1 : Shape := ⟨2, ![512, 1]⟩
abbrev S8x30x1024 : Shape := ⟨3, ![8, 30, 1024]⟩
abbrev S8x14x1024 : Shape := ⟨3, ![8, 14, 1024]⟩

abbrev nBuf : Space → Nat
  | .hbm => 20
  | .vmem => 6
  | .smem => 0
  | _ => 0

abbrev bufTy : (tb : Table) → Fin (tcTables nBuf tb) → BufTy
  | .hbm, ⟨0, _⟩ => ⟨S8x16x1024, .f32⟩
  | .hbm, ⟨1, _⟩ => ⟨S1x8x30x1024, .f32⟩
  | .hbm, ⟨2, _⟩ => ⟨S1x1024, .f32⟩
  | .hbm, ⟨3, _⟩ => ⟨S1x1024x8192, .f32⟩
  | .hbm, ⟨4, _⟩ => ⟨S_, .i32⟩
  | .hbm, ⟨5, _⟩ => ⟨S_, .f32⟩
  | .hbm, ⟨6, _⟩ => ⟨S8x128x1024, .f32⟩
  | .hbm, ⟨7, _⟩ => ⟨S1024x8192, .f32⟩
  | .hbm, ⟨8, _⟩ => ⟨S1024x8192, .bf16⟩
  | .hbm, ⟨9, _⟩ => ⟨S1024x1024, .f32⟩
  | .hbm, ⟨10, _⟩ => ⟨S1024, .f32⟩
  | .hbm, ⟨11, _⟩ => ⟨S1x1024, .f32⟩
  | .hbm, ⟨12, _⟩ => ⟨S1024x2048, .bf16⟩
  | .hbm, ⟨13, _⟩ => ⟨S1024x1024, .f32⟩
  | .hbm, ⟨14, _⟩ => ⟨S8x128x1024, .f32⟩
  | .hbm, ⟨15, _⟩ => ⟨S8x30x1024, .f32⟩
  | .hbm, ⟨16, _⟩ => ⟨S8x14x1024, .f32⟩
  | .hbm, ⟨17, _⟩ => ⟨S8x16x1024, .f32⟩
  | .hbm, ⟨18, _⟩ => ⟨S8x30x1024, .f32⟩
  | .hbm, ⟨19, _⟩ => ⟨S1x8x30x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S512x1024, .f32⟩
  | .local _ .vmem, ⟨5, _⟩ => ⟨S512x1024, .f32⟩
  | _, _ => ⟨S8x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ConvSampleRefIdeal.lean ====
abbrev S8x16x1024 : Shape := ⟨3, ![8, 16, 1024]⟩
abbrev S1x8x30x1024 : Shape := ⟨4, ![1, 8, 30, 1024]⟩
abbrev S1x1024 : Shape := ⟨2, ![1, 1024]⟩
abbrev S1x1024x8192 : Shape := ⟨3, ![1, 1024, 8192]⟩
abbrev S1024 : Shape := ⟨1, ![1024]⟩
abbrev S_ : Shape := ⟨0, ![]⟩
abbrev S8x16 : Shape := ⟨2, ![8, 16]⟩
abbrev S8x16x1 : Shape := ⟨3, ![8, 16, 1]⟩
abbrev S1x1x1024 : Shape := ⟨3, ![1, 1, 1024]⟩
abbrev S1024x8192 : Shape := ⟨2, ![1024, 8192]⟩
abbrev S8x16x8192 : Shape := ⟨3, ![8, 16, 8192]⟩
abbrev S8x16x2048 : Shape := ⟨3, ![8, 16, 2048]⟩
abbrev S8x30x1024 : Shape := ⟨3, ![8, 30, 1024]⟩
abbrev S8x46x1024 : Shape := ⟨3, ![8, 46, 1024]⟩

abbrev nBuf : Space → Nat
  | .hbm => 39
  | .vmem => 0
  | .smem => 0
  | _ => 0

abbrev bufTy : (tb : Table) → Fin (tcTables nBuf tb) → BufTy
  | .hbm, ⟨0, _⟩ => ⟨S8x16x1024, .f32⟩
  | .hbm, ⟨1, _⟩ => ⟨S1x8x30x1024, .f32⟩
  | .hbm, ⟨2, _⟩ => ⟨S1x1024, .f32⟩
  | .hbm, ⟨3, _⟩ => ⟨S1x1024x8192, .f32⟩
  | .hbm, ⟨4, _⟩ => ⟨S1024, .f32⟩
  | .hbm, ⟨5, _⟩ => ⟨S8x16x1024, .f32⟩
  | .hbm, ⟨6, _⟩ => ⟨S_, .f32⟩
  | .hbm, ⟨7, _⟩ => ⟨S8x16, .f32⟩
  | .hbm, ⟨8, _⟩ => ⟨S8x16x1, .f32⟩
  | .hbm, ⟨9, _⟩ => ⟨S_, .f32⟩
  | .hbm, ⟨10, _⟩ => ⟨S8x16x1, .f32⟩
  | .hbm, ⟨11, _⟩ => ⟨S8x16x1, .f32⟩
  | .hbm, ⟨12, _⟩ => ⟨S_, .f32⟩
  | .hbm, ⟨13, _⟩ => ⟨S8x16x1, .f32⟩
  | .hbm, ⟨14, _⟩ => ⟨S8x16x1, .f32⟩
  | .hbm, ⟨15, _⟩ => ⟨S8x16x1, .f32⟩
  | .hbm, ⟨16, _⟩ => ⟨S8x16x1024, .f32⟩
  | .hbm, ⟨17, _⟩ => ⟨S8x16x1024, .f32⟩
  | .hbm, ⟨18, _⟩ => ⟨S1x1x1024, .f32⟩
  | .hbm, ⟨19, _⟩ => ⟨S8x16x1024, .f32⟩
  | .hbm, ⟨20, _⟩ => ⟨S8x16x1024, .f32⟩
  | .hbm, ⟨21, _⟩ => ⟨S1024x8192, .f32⟩
  | .hbm, ⟨22, _⟩ => ⟨S8x16x8192, .f32⟩
  | .hbm, ⟨23, _⟩ => ⟨S8x16x2048, .f32⟩
  | .hbm, ⟨24, _⟩ => ⟨S8x16x1024, .f32⟩
  | .hbm, ⟨25, _⟩ => ⟨S8x16x1024, .f32⟩
  | .hbm, ⟨26, _⟩ => ⟨S8x16x1024, .f32⟩
  | .hbm, ⟨27, _⟩ => ⟨S8x16x1024, .f32⟩
  | .hbm, ⟨28, _⟩ => ⟨S_, .f32⟩
  | .hbm, ⟨29, _⟩ => ⟨S8x16x1024, .f32⟩
  | .hbm, ⟨30, _⟩ => ⟨S8x16x1024, .f32⟩
  | .hbm, ⟨31, _⟩ => ⟨S_, .f32⟩
  | .hbm, ⟨32, _⟩ => ⟨S8x16x1024, .f32⟩
  | .hbm, ⟨33, _⟩ => ⟨S8x16x1024, .f32⟩
  | .hbm, ⟨34, _⟩ => ⟨S8x16x1024, .f32⟩
  | .hbm, ⟨35, _⟩ => ⟨S8x30x1024, .f32⟩
  | .hbm, ⟨36, _⟩ => ⟨S8x46x1024, .f32⟩
  | .hbm, ⟨37, _⟩ => ⟨S8x30x1024, .f32⟩
  | .hbm, ⟨38, _⟩ => ⟨S1x8x30x1024, .f32⟩
  | _, _ => ⟨S8x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== GmlpSample.lean ====
abbrev S8x16x1024 : Shape := ⟨3, ![8, 16, 1024]⟩
abbrev S1x1024 : Shape := ⟨2, ![1, 1024]⟩
abbrev S1x1024x8192 : Shape := ⟨3, ![1, 1024, 8192]⟩
abbrev S_ : Shape := ⟨0, ![]⟩
abbrev S8x128x1024 : Shape := ⟨3, ![8, 128, 1024]⟩
abbrev S1024x8192 : Shape := ⟨2, ![1024, 8192]⟩
abbrev S1024x1024 : Shape := ⟨2, ![1024, 1024]⟩
abbrev S1024 : Shape := ⟨1, ![1024]⟩
abbrev S1024x2048 : Shape := ⟨2, ![1024, 2048]⟩
abbrev S512x1024 : Shape := ⟨2, ![512, 1024]⟩
abbrev S512 : Shape := ⟨1, ![512]⟩
abbrev S512x1 : Shape := ⟨2, ![512, 1]⟩
abbrev S1x8x16x1024 : Shape := ⟨4, ![1, 8, 16, 1024]⟩

abbrev nBuf : Space → Nat
  | .hbm => 23
  | .vmem => 10
  | .smem => 0
  | _ => 0

abbrev bufTy : (tb : Table) → Fin (tcTables nBuf tb) → BufTy
  | .hbm, ⟨0, _⟩ => ⟨S8x16x1024, .f32⟩
  | .hbm, ⟨1, _⟩ => ⟨S1x1024, .f32⟩
  | .hbm, ⟨2, _⟩ => ⟨S1x1024x8192, .f32⟩
  | .hbm, ⟨3, _⟩ => ⟨S1x1024, .f32⟩
  | .hbm, ⟨4, _⟩ => ⟨S1x1024, .f32⟩
  | .hbm, ⟨5, _⟩ => ⟨S_, .i32⟩
  | .hbm, ⟨6, _⟩ => ⟨S_, .f32⟩
  | .hbm, ⟨7, _⟩ => ⟨S8x128x1024, .f32⟩
  | .hbm, ⟨8, _⟩ => ⟨S1024x8192, .f32⟩
  | .hbm, ⟨9, _⟩ => ⟨S1024x8192, .bf16⟩
  | .hbm, ⟨10, _⟩ => ⟨S1024x1024, .f32⟩
  | .hbm, ⟨11, _⟩ => ⟨S1024, .f32⟩
  | .hbm, ⟨12, _⟩ => ⟨S1x1024, .f32⟩
  | .hbm, ⟨13, _⟩ => ⟨S1024x2048, .bf16⟩
  | .hbm, ⟨14, _⟩ => ⟨S1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S1024x1024, .bf16⟩
  | .hbm, ⟨19, _⟩ => ⟨S1024x1024, .f32⟩
  | .hbm, ⟨20, _⟩ => ⟨S8x128x1024, .f32⟩
  | .hbm, ⟨21, _⟩ => ⟨S8x16x1024, .f32⟩
  | .hbm, ⟨22, _⟩ => ⟨S1x8x16x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S1x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | _, _ => ⟨S8x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GmlpSampleIdeal.lean ====
variable {F : FTy → Type} [FloatOps F] [Named F]
def κ : String → Option EReal := fun
  | "root_cube" => some ((80338380498831 / 2251799813685248 : ℝ) : EReal)
  | _ => none
-- ==== GmlpSampleRefIdeal.lean ====
abbrev S8x16x1024 : Shape := ⟨3, ![8, 16, 1024]⟩
abbrev S1x1024 : Shape := ⟨2, ![1, 1024]⟩
abbrev S1x1024x8192 : Shape := ⟨3, ![1, 1024, 8192]⟩
abbrev S1024 : Shape := ⟨1, ![1024]⟩
abbrev S_ : Shape := ⟨0, ![]⟩
abbrev S8x16 : Shape := ⟨2, ![8, 16]⟩
abbrev S8x16x1 : Shape := ⟨3, ![8, 16, 1]⟩
abbrev S1x1x1024 : Shape := ⟨3, ![1, 1, 1024]⟩
abbrev S1024x8192 : Shape := ⟨2, ![1024, 8192]⟩
abbrev S8x16x8192 : Shape := ⟨3, ![8, 16, 8192]⟩
abbrev S8x16x2048 : Shape := ⟨3, ![8, 16, 2048]⟩
abbrev S1x8x16x1024 : Shape := ⟨4, ![1, 8, 16, 1024]⟩

abbrev nBuf : Space → Nat
  | .hbm => 75
  | .vmem => 0
  | .smem => 0
  | _ => 0

abbrev bufTy : (tb : Table) → Fin (tcTables nBuf tb) → BufTy
  | .hbm, ⟨0, _⟩ => ⟨S8x16x1024, .f32⟩
  | .hbm, ⟨1, _⟩ => ⟨S1x1024, .f32⟩
  | .hbm, ⟨2, _⟩ => ⟨S1x1024x8192, .f32⟩
  | .hbm, ⟨3, _⟩ => ⟨S1x1024, .f32⟩
  | .hbm, ⟨4, _⟩ => ⟨S1x1024, .f32⟩
  | .hbm, ⟨5, _⟩ => ⟨S1024, .f32⟩
  | .hbm, ⟨6, _⟩ => ⟨S8x16x1024, .f32⟩
  | .hbm, ⟨7, _⟩ => ⟨S_, .f32⟩
  | .hbm, ⟨8, _⟩ => ⟨S8x16, .f32⟩
  | .hbm, ⟨9, _⟩ => ⟨S8x16x1, .f32⟩
  | .hbm, ⟨10, _⟩ => ⟨S_, .f32⟩
  | .hbm, ⟨11, _⟩ => ⟨S8x16x1, .f32⟩
  | .hbm, ⟨12, _⟩ => ⟨S8x16x1, .f32⟩
  | .hbm, ⟨13, _⟩ => ⟨S_, .f32⟩
  | .hbm, ⟨14, _⟩ => ⟨S8x16x1, .f32⟩
  | .hbm, ⟨15, _⟩ => ⟨S8x16x1, .f32⟩
  | .hbm, ⟨16, _⟩ => ⟨S8x16x1, .f32⟩
  | .hbm, ⟨17, _⟩ => ⟨S8x16x1024, .f32⟩
  | .hbm, ⟨18, _⟩ => ⟨S8x16x1024, .f32⟩
  | .hbm, ⟨19, _⟩ => ⟨S1x1x1024, .f32⟩
  | .hbm, ⟨20, _⟩ => ⟨S8x16x1024, .f32⟩
  | .hbm, ⟨21, _⟩ => ⟨S8x16x1024, .f32⟩
  | .hbm, ⟨22, _⟩ => ⟨S1024x8192, .f32⟩
  | .hbm, ⟨23, _⟩ => ⟨S8x16x8192, .f32⟩
  | .hbm, ⟨24, _⟩ => ⟨S8x16x2048, .f32⟩
  | .hbm, ⟨25, _⟩ => ⟨S8x16x2048, .f32⟩
  | .hbm, ⟨26, _⟩ => ⟨S8x16x2048, .f32⟩
  | .hbm, ⟨27, _⟩ => ⟨S_, .f32⟩
  | .hbm, ⟨28, _⟩ => ⟨S8x16x2048, .f32⟩
  | .hbm, ⟨29, _⟩ => ⟨S8x16x2048, .f32⟩
  | .hbm, ⟨30, _⟩ => ⟨S8x16x2048, .f32⟩
  | .hbm, ⟨31, _⟩ => ⟨S_, .f32⟩
  | .hbm, ⟨32, _⟩ => ⟨S8x16x2048, .f32⟩
  | .hbm, ⟨33, _⟩ => ⟨S8x16x2048, .f32⟩
  | .hbm, ⟨34, _⟩ => ⟨S8x16x2048, .f32⟩
  | .hbm, ⟨35, _⟩ => ⟨S_, .f32⟩
  | .hbm, ⟨36, _⟩ => ⟨S8x16x2048, .f32⟩
  | .hbm, ⟨37, _⟩ => ⟨S8x16x2048, .f32⟩
  | .hbm, ⟨38, _⟩ => ⟨S_, .f32⟩
  | .hbm, ⟨39, _⟩ => ⟨S8x16x2048, .f32⟩
  | .hbm, ⟨40, _⟩ => ⟨S8x16x2048, .f32⟩
  | .hbm, ⟨41, _⟩ => ⟨S8x16x2048, .f32⟩
  | .hbm, ⟨42, _⟩ => ⟨S8x16x1024, .f32⟩
  | .hbm, ⟨43, _⟩ => ⟨S1024, .f32⟩
  | .hbm, ⟨44, _⟩ => ⟨S1024, .f32⟩
  | .hbm, ⟨45, _⟩ => ⟨S_, .f32⟩
  | .hbm, ⟨46, _⟩ => ⟨S8x16, .f32⟩
  | .hbm, ⟨47, _⟩ => ⟨S8x16x1, .f32⟩
  | .hbm, ⟨48, _⟩ => ⟨S_, .f32⟩
  | .hbm, ⟨49, _⟩ => ⟨S8x16x1, .f32⟩
  | .hbm, ⟨50, _⟩ => ⟨S8x16x1, .f32⟩
  | .hbm, ⟨51, _⟩ => ⟨S8x16x1024, .f32⟩
  | .hbm, ⟨52, _⟩ => ⟨S8x16x1024, .f32⟩
  | .hbm, ⟨53, _⟩ => ⟨S8x16x1024, .f32⟩
  | .hbm, ⟨54, _⟩ => ⟨S_, .f32⟩
  | .hbm, ⟨55, _⟩ => ⟨S8x16, .f32⟩
  | .hbm, ⟨56, _⟩ => ⟨S8x16x1, .f32⟩
  | .hbm, ⟨57, _⟩ => ⟨S_, .f32⟩
  | .hbm, ⟨58, _⟩ => ⟨S8x16x1, .f32⟩
  | .hbm, ⟨59, _⟩ => ⟨S8x16x1, .f32⟩
  | .hbm, ⟨60, _⟩ => ⟨S8x16x1024, .f32⟩
  | .hbm, ⟨61, _⟩ => ⟨S8x16x1024, .f32⟩
  | .hbm, ⟨62, _⟩ => ⟨S_, .f32⟩
  | .hbm, ⟨63, _⟩ => ⟨S8x16x1, .f32⟩
  | .hbm, ⟨64, _⟩ => ⟨S8x16x1, .f32⟩
  | .hbm, ⟨65, _⟩ => ⟨S8x16x1, .f32⟩
  | .hbm, ⟨66, _⟩ => ⟨S8x16x1024, .f32⟩
  | .hbm, ⟨67, _⟩ => ⟨S8x16x1024, .f32⟩
  | .hbm, ⟨68, _⟩ => ⟨S1x1x1024, .f32⟩
  | .hbm, ⟨69, _⟩ => ⟨S8x16x1024, .f32⟩
  | .hbm, ⟨70, _⟩ => ⟨S8x16x1024, .f32⟩
  | .hbm, ⟨71, _⟩ => ⟨S1x1x1024, .f32⟩
  | .hbm, ⟨72, _⟩ => ⟨S8x16x1024, .f32⟩
  | .hbm, ⟨73, _⟩ => ⟨S8x16x1024, .f32⟩
  | .hbm, ⟨74, _⟩ => ⟨S1x8x16x1024, .f32⟩
  | _, _ => ⟨S8x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_10 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩

abbrev nD : Nat := 1
abbrev τ : Topo := Topo.v7x

variable {F : FTy → Type} [FloatOps F]
-- ==== Route.lean ====
abbrev S16x4096x1024 : Shape := ⟨3, ![16, 4096, 1024]⟩
abbrev S1x1024 : Shape := ⟨2, ![1, 1024]⟩
abbrev S1x1024x2048 : Shape := ⟨3, ![1, 1024, 2048]⟩
abbrev S1x128x128 : Shape := ⟨3, ![1, 128, 128]⟩
abbrev S65536x1024 : Shape := ⟨2, ![65536, 1024]⟩
abbrev S1024 : Shape := ⟨1, ![1024]⟩
abbrev S1024x2048 : Shape := ⟨2, ![1024, 2048]⟩
abbrev S2048x1024 : Shape := ⟨2, ![2048, 1024]⟩
abbrev S128x128 : Shape := ⟨2, ![128, 128]⟩
abbrev S1024x65536 : Shape := ⟨2, ![1024, 65536]⟩
abbrev S512x8x128x128 : Shape := ⟨4, ![512, 8, 128, 128]⟩
abbrev S8x128x65536 : Shape := ⟨3, ![8, 128, 65536]⟩
abbrev S256x1024 : Shape := ⟨2, ![256, 1024]⟩
abbrev S1024x256 : Shape := ⟨2, ![1024, 256]⟩
abbrev S2x8x128x128 : Shape := ⟨4, ![2, 8, 128, 128]⟩
abbrev S8x128x256 : Shape := ⟨3, ![8, 128, 256]⟩
abbrev S16x256 : Shape := ⟨2, ![16, 256]⟩
abbrev S256 : Shape := ⟨1, ![256]⟩
abbrev S256x1 : Shape := ⟨2, ![256, 1]⟩
abbrev S2048x256 : Shape := ⟨2, ![2048, 256]⟩
abbrev S128x256 : Shape := ⟨2, ![128, 256]⟩
abbrev S8x256 : Shape := ⟨2, ![8, 256]⟩
abbrev S1x256 : Shape := ⟨2, ![1, 256]⟩
abbrev S1x1x128x128 : Shape := ⟨4, ![1, 1, 128, 128]⟩
abbrev S1x128x256 : Shape := ⟨3, ![1, 128, 256]⟩

abbrev nBuf : Space → Nat
  | .hbm => 19
  | .vmem => 18
  | .smem => 0
  | _ => 0

abbrev bufTy : (tb : Table) → Fin (tcTables nBuf tb) → BufTy
  | .hbm, ⟨0, _⟩ => ⟨S16x4096x1024, .f32⟩
  | .hbm, ⟨1, _⟩ => ⟨S1x1024, .f32⟩
  | .hbm, ⟨2, _⟩ => ⟨S1x1024x2048, .f32⟩
  | .hbm, ⟨3, _⟩ => ⟨S1x128x128, .f32⟩
  | .hbm, ⟨4, _⟩ => ⟨S1x128x128, .f32⟩
  | .hbm, ⟨5, _⟩ => ⟨S65536x1024, .f32⟩
  | .hbm, ⟨6, _⟩ => ⟨S1024, .f32⟩
  | .hbm, ⟨7, _⟩ => ⟨S1x1024, .f32⟩
  | .hbm, ⟨8, _⟩ => ⟨S1024x2048, .f32⟩
  | .hbm, ⟨9, _⟩ => ⟨S2048x1024, .f32⟩
  | .hbm, ⟨10, _⟩ => ⟨S2048x1024, .bf16⟩
  | .hbm, ⟨11, _⟩ => ⟨S128x128, .f32⟩
  | .hbm, ⟨12, _⟩ => ⟨S128x128, .bf16⟩
  | .hbm, ⟨13, _⟩ => ⟨S128x128, .f32⟩
  | .hbm, ⟨14, _⟩ => ⟨S128x128, .bf16⟩
  | .hbm, ⟨15, _⟩ => ⟨S1024x65536, .bf16⟩
  | .hbm, ⟨16, _⟩ => ⟨S512x8x128x128, .f32⟩
  | .hbm, ⟨17, _⟩ => ⟨S8x128x65536, .f32⟩
  | .hbm, ⟨18, _⟩ => ⟨S8x128x65536, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S2048x1024, .bf16⟩
  | .local _ .vmem, ⟨4, _⟩ => ⟨S128x128, .bf16⟩
  | .local _ .vmem, ⟨5, _⟩ => ⟨S128x128, .bf16⟩
  | .local _ .vmem, ⟨6, _⟩ => ⟨S1024x256, .bf16⟩
  | .local _ .vmem, ⟨7, _⟩ => ⟨S1024x256, .bf16⟩
  | .local _ .vmem, ⟨8, _⟩ => ⟨S2x8x128x128, .f32⟩
  | .local _ .vmem, ⟨9, _⟩ => ⟨S2x8x128x128, .f32⟩
  | .local _ .vmem, ⟨10, _⟩ => ⟨S8x128x256, .f32⟩
  | .local _ .vmem, ⟨11, _⟩ => ⟨S8x128x256, .f32⟩
  | .local _ .vmem, ⟨12, _⟩ => ⟨S8x128x256, .f32⟩
  | .local _ .vmem, ⟨13, _⟩ => ⟨S8x128x256, .f32⟩
  | .local _ .vmem, ⟨14, _⟩ => ⟨S16x256, .f32⟩
  | .local _ .vmem, ⟨15, _⟩ => ⟨S16x256, .f32⟩
  | .local _ .vmem, ⟨16, _⟩ => ⟨S16x256, .f32⟩
  | .local _ .vmem, ⟨17, _⟩ => ⟨S16x256, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev main_v10_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x8x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RouteRefIdeal.lean ====
abbrev S16x4096x1024 : Shape := ⟨3, ![16, 4096, 1024]⟩
abbrev S1x1024 : Shape := ⟨2, ![1, 1024]⟩
abbrev S1x1024x2048 : Shape := ⟨3, ![1, 1024, 2048]⟩
abbrev S1x128x128 : Shape := ⟨3, ![1, 128, 128]⟩
abbrev S1024 : Shape := ⟨1, ![1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S65536x1024 : Shape := ⟨2, ![65536, 1024]⟩
abbrev S1024x2048 : Shape := ⟨2, ![1024, 2048]⟩
abbrev S65536x2048 : Shape := ⟨2, ![65536, 2048]⟩
abbrev S65536x8x256 : Shape := ⟨3, ![65536, 8, 256]⟩
abbrev S65536x8x128 : Shape := ⟨3, ![65536, 8, 128]⟩
abbrev S128x128 : Shape := ⟨2, ![128, 128]⟩
abbrev S65536x8 : Shape := ⟨2, ![65536, 8]⟩
abbrev S65536x8x1 : Shape := ⟨3, ![65536, 8, 1]⟩
abbrev S1024x65536 : Shape := ⟨2, ![1024, 65536]⟩
abbrev S512x128x8x128 : Shape := ⟨4, ![512, 128, 8, 128]⟩
abbrev S512x8x128x128 : Shape := ⟨4, ![512, 8, 128, 128]⟩

abbrev nBuf : Space → Nat
  | .hbm => 38
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1x1024, .f32⟩
  | .hbm, ⟨2, _⟩ => ⟨S1x1024x2048, .f32⟩
  | .hbm, ⟨3, _⟩ => ⟨S1x128x128, .f32⟩
  | .hbm, ⟨4, _⟩ => ⟨S1x128x128, .f32⟩
  | .hbm, ⟨5, _⟩ => ⟨S1024, .f32⟩
  | .hbm, ⟨6, _⟩ => ⟨S16x4096x1024, .f32⟩
  | .hbm, ⟨7, _⟩ => ⟨S_, .f32⟩
  | .hbm, ⟨8, _⟩ => ⟨S16x4096, .f32⟩
  | .hbm, ⟨9, _⟩ => ⟨S16x4096x1, .f32⟩
  | .hbm, ⟨10, _⟩ => ⟨S_, .f32⟩
  | .hbm, ⟨11, _⟩ => ⟨S16x4096x1, .f32⟩
  | .hbm, ⟨12, _⟩ => ⟨S16x4096x1, .f32⟩
  | .hbm, ⟨13, _⟩ => ⟨S_, .f32⟩
  | .hbm, ⟨14, _⟩ => ⟨S16x4096x1, .f32⟩
  | .hbm, ⟨15, _⟩ => ⟨S16x4096x1, .f32⟩
  | .hbm, ⟨16, _⟩ => ⟨S16x4096x1, .f32⟩
  | .hbm, ⟨17, _⟩ => ⟨S16x4096x1024, .f32⟩
  | .hbm, ⟨18, _⟩ => ⟨S16x4096x1024, .f32⟩
  | .hbm, ⟨19, _⟩ => ⟨S1x1x1024, .f32⟩
  | .hbm, ⟨20, _⟩ => ⟨S16x4096x1024, .f32⟩
  | .hbm, ⟨21, _⟩ => ⟨S16x4096x1024, .f32⟩
  | .hbm, ⟨22, _⟩ => ⟨S65536x1024, .f32⟩
  | .hbm, ⟨23, _⟩ => ⟨S1024x2048, .f32⟩
  | .hbm, ⟨24, _⟩ => ⟨S65536x2048, .f32⟩
  | .hbm, ⟨25, _⟩ => ⟨S65536x8x256, .f32⟩
  | .hbm, ⟨26, _⟩ => ⟨S65536x8x128, .f32⟩
  | .hbm, ⟨27, _⟩ => ⟨S128x128, .f32⟩
  | .hbm, ⟨28, _⟩ => ⟨S65536x8x128, .f32⟩
  | .hbm, ⟨29, _⟩ => ⟨S_, .f32⟩
  | .hbm, ⟨30, _⟩ => ⟨S65536x8, .f32⟩
  | .hbm, ⟨31, _⟩ => ⟨S65536x8x1, .f32⟩
  | .hbm, ⟨32, _⟩ => ⟨S65536x8x128, .f32⟩
  | .hbm, ⟨33, _⟩ => ⟨S65536x8x128, .f32⟩
  | .hbm, ⟨34, _⟩ => ⟨S1024x65536, .f32⟩
  | .hbm, ⟨35, _⟩ => ⟨S1024x65536, .bf16⟩
  | .hbm, ⟨36, _⟩ => ⟨S512x128x8x128, .f32⟩
  | .hbm, ⟨37, _⟩ => ⟨S512x8x128x128, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Proof.Mixer.Spec.lean ====
/- The mixer of the layer for ONE token, as plain sums over extended reals: what both the kernel's block and the
   reference's arrays are read as. Nothing here mentions tiles, blocks or grid points. -/
module

public import Idealize.ShloMosaic.Lib.Pointwise

@[expose] public section

noncomputable section

open Idealize.ShloMosaic

namespace Cert.Mixer

/-- The mean of the 1024 channels of a row. -/
def mean (f : Fin 1024 → EReal) : EReal := Ideal.div (∑ l, f l) (Ideal.ofBits .f32 0x44800000#32)

/-- Channel `j` of the layer norm of a row, with gain `g` and offset `b`. -/
def layernorm (f g b : Fin 1024 → EReal) (j : Fin 1024) : EReal :=
  (f j - mean f) * Ideal.rsqrt (mean (fun l => (f l - mean f) * (f l - mean f)) + Ideal.ofBits .f32 0x358637BD#32)
    * g j + b j

/-- `z · σ(z)`. -/
def silu (z : EReal) : EReal := z * Ideal.logistic z

/-- Channel `j` of the depthwise convolution: 31 taps `e k` of the channel, weighted, plus the bias. -/
def conv (cb : Fin 1024 → EReal) (cw e : Fin 31 → Fin 1024 → EReal) (j : Fin 1024) : EReal :=
  cb j + ∑ k, cw k j * e k j

/-- One entry of the block-causal spatial mixing of a chunk of 128 positions: row `p` sees the positions `l` of its
    own and of earlier groups of 64. -/
def spatial (w v : Fin 128 → EReal) (b : EReal) (p : Fin 128) : EReal :=
  (∑ l : Fin 128, (if (l : ℕ) / 64 ≤ (p : ℕ) / 64 then w l else 0) * v l) + b

/-- The scaled score of a query against key `m`. -/
def score (q : Fin 256 → EReal) (K : Fin 256 → Fin 256 → EReal) (m : Fin 256) : EReal :=
  (∑ d, q d * K m d) * Ideal.ofBits .f32 0x3D800000#32

/-- The exponential of a score less the largest score. -/
def expScore (s : Fin 256 → EReal) (m : Fin 256) : EReal :=
  Ideal.exp (s m - Finset.univ.fold max (Ideal.ofBits .f32 0xFF800000#32) s)

/-- The softmax-weighted mean of the values: channel `d` of one head's attention. -/
def attend (s : Fin 256 → EReal) (v : Fin 256 → EReal) : EReal :=
  ∑ m, Ideal.div (expScore s m) (∑ m', expScore s m') * v m

/-- Channel `256·h + d` of a row of 1024 channels. -/
def chan (h : Fin 4) (d : Fin 256) : Fin 1024 := ⟨(h : ℕ) * 256 + d, by omega⟩

/-- The group of 256 channels that channel `c` lies in. -/
def grp (c : Fin 1024) : Fin 4 := ⟨(c : ℕ) / 256, by omega⟩

/-- What one token's mixer reads: its own row of each array, its chunk of `vn`, its 31 convolution taps, its batch's
    memory, and the weights. -/
structure Token where
  /-- the residual row -/
  x : Fin 1024 → EReal
  /-- the gMLP gate row -/
  u : Fin 1024 → EReal
  /-- the 128 rows of the token's chunk -/
  vn : Fin 128 → Fin 1024 → EReal
  /-- the position within the chunk -/
  p : Fin 128
  /-- the 31 rows the convolution reads -/
  e : Fin 31 → Fin 1024 → EReal
  /-- the query row -/
  q : Fin 1024 → EReal
  /-- the three gate rows -/
  g : Fin 3 → Fin 1024 → EReal
  /-- the memory's keys -/
  keys : Fin 256 → Fin 1024 → EReal
  /-- the memory's values -/
  vals : Fin 256 → Fin 1024 → EReal

/-- The weights of the mixer. -/
structure Weights where
  /-- spatial weights of the four groups -/
  ws : Fin 4 → Fin 128 → Fin 128 → EReal
  /-- spatial biases -/
  bs : Fin 4 → Fin 128 → EReal
  /-- output projection of the gMLP branch -/
  wa : Fin 1024 → Fin 1024 → EReal
  /-- convolution taps -/
  cw : Fin 31 → Fin 1024 → EReal
  /-- convolution bias -/
  cb : Fin 1024 → EReal
  /-- layer norm gain -/
  lg : Fin 1024 → EReal
  /-- layer norm offset -/
  lb : Fin 1024 → EReal
  /-- output projection of the convolution branch -/
  wb : Fin 1024 → Fin 1024 → EReal
  /-- output projection of the attention branch -/
  wc : Fin 1024 → Fin 1024 → EReal
  /-- the mixer's output projection -/
  wo : Fin 1024 → Fin 1024 → EReal

variable (T : Token) (W : Weights)

/-- Channel `c` of the gated spatial mixing, before its projection. -/
def rowA (c : Fin 1024) : EReal :=
  T.u c * spatial (W.ws (grp c) T.p) (fun l => T.vn l c) (W.bs (grp c) T.p) T.p

/-- Channel `c` of the convolution branch, before its projection. -/
def rowB (c : Fin 1024) : EReal := silu (layernorm (conv W.cb W.cw T.e) W.lg W.lb c)

/-- Channel `c` of the cross attention, before its projection. -/
def rowC (c : Fin 1024) : EReal :=
  attend (score (fun d => T.q (chan (grp c) d)) (fun m d => T.keys m (chan (grp c) d))) (fun m => T.vals m c)

/-- Channel `k` of the gated sum of the three projected branches. -/
def merged (k : Fin 1024) : EReal :=
  T.g 0 k * (∑ c, rowA T W c * W.wa c k) + T.g 1 k * (∑ c, rowB T W c * W.wb c k)
    + T.g 2 k * (∑ c, rowC T c * W.wc c k)

/-- Channel `j` of the token's row after the mixer. -/
def out (j : Fin 1024) : EReal := T.x j + ∑ k, merged T W k * W.wo k j

/-- A sum over 31 taps, written out in order. -/
theorem sum31 (f : Fin 31 → EReal) : ∑ k, f k
    = f 0 + f 1 + f 2 + f 3 + f 4 + f 5 + f 6 + f 7 + f 8 + f 9 + f 10 + f 11 + f 12 + f 13 + f 14 + f 15 + f 16
      + f 17 + f 18 + f 19 + f 20 + f 21 + f 22 + f 23 + f 24 + f 25 + f 26 + f 27 + f 28 + f 29 + f 30 := by
  simp only [Fin.sum_univ_castSucc, Finset.univ_eq_empty, Finset.sum_empty, zero_add]
  rfl

end Cert.Mixer
-- ==== Proof.Mixer.Payloads.lean ====
/- The values the mixer's body stores, read at an index as the plain sums of `Mixer/Spec.lean`: each theorem is about
   one stored value, over variables for what was loaded before it. -/
module

public import proofs.«01_k».proof.Proof.Gen.KernelIdeal.Skeleton
public import proofs.«01_k».proof.Proof.Mixer.Spec

@[expose] public section

set_option maxRecDepth 16384

noncomputable section

open Idealize.ShloMosaic Idealize.ShloMosaic.TcCoe Idealize.SL.Sem

namespace Cert.Mixer

open Cert.KernelIdeal Cert.KernelIdeal.Gen

/-- The block-causal mask over a chunk of 128 positions: row and column groups of 64, as shifts compared. -/
theorem mask_val : ∀ p l : Fin 128,
    IntOp.andi (IntOp.andi (IntOp.cmpi .sle (IntOp.shrsi .vector (BitVec.ofNat 32 (l : ℕ)) 6#32)
      (IntOp.shrsi .vector (BitVec.ofNat 32 (p : ℕ)) 6#32)) (IntOp.cmpi .slt (BitVec.ofNat 32 (p : ℕ)) 128#32))
      (IntOp.cmpi .slt (BitVec.ofNat 32 (l : ℕ)) 128#32) = if (l : ℕ) / 64 ≤ (p : ℕ) / 64 then 1#1 else 0#1 := by
  decide +kernel

/-- Choosing by a bit that spells a condition is the `if` on the condition. -/
theorem select_ite {α : Type} (c : Prop) [Decidable c] (a b : α) :
    Scalar.select (if c then 1#1 else 0#1) a b = if c then a else b := by
  by_cases h : c <;> simp [Scalar.select, h]

/-- The column numbers of a 128×128 tile. -/
def cols : IVec S128x128 32 := iota .tc S128x128 32 [1] iota_S128x128_d1_w32

/-- The tile's mask as the body computes it. -/
def maskV : IVec S128x128 1 := k0_pay13 cols k0_pay12

theorem maskV_at (p l : Fin 128) : maskV (ix2 p l) = if (l : ℕ) / 64 ≤ (p : ℕ) / 64 then 1#1 else 0#1 := by
  rw [← mask_val]; pointwise [maskV, cols, k0_pay13, k0_pay12]

/-- Storing the gated spatial mix of one tile: rows of a chunk, 256 channels of one group. -/
theorem pay15_at (w : FVec Ideal S1x128x128 .f32) (v : FVec Ideal S1x128x256 .f32) (b : FVec Ideal S1x128x1 .f32)
    (u : FVec Ideal S1x128x256 .bf16) (p : Fin 128) (j : Fin 256) :
    k0_pay15 (F := Ideal) cols k0_pay12 w v b u (ix2 p j)
      = u (ix3 0 p j) * spatial (fun l => w (ix3 0 p l)) (fun l => v (ix3 0 l j)) (b (ix3 0 p 0)) p := by
  have hm : ∀ l : Fin 128, maskV (ix2 p l) = _ := fun l => maskV_at p l
  unfold maskV at hm
  pointwise [k0_pay15, k0_pay14, hm, select_ite, spatial]

theorem pay17_at (w : FVec Ideal S1x128x128 .f32) (v : FVec Ideal S1x128x256 .f32) (b : FVec Ideal S1x128x1 .f32)
    (u : FVec Ideal S1x128x256 .bf16) (p : Fin 128) (j : Fin 256) :
    k0_pay17 (F := Ideal) (k0_pay16 cols k0_pay12 w v b) u (ix2 p j)
      = u (ix3 0 p j) * spatial (fun l => w (ix3 0 p l)) (fun l => v (ix3 0 l j)) (b (ix3 0 p 0)) p := by
  have hm : ∀ l : Fin 128, maskV (ix2 p l) = _ := fun l => maskV_at p l
  unfold maskV at hm
  pointwise [k0_pay17, k0_pay16, k0_pay14, hm, select_ite, spatial]

theorem pay19_at (w : FVec Ideal S1x128x128 .f32) (v : FVec Ideal S1x128x256 .f32) (b : FVec Ideal S1x128x1 .f32)
    (u : FVec Ideal S1x128x256 .bf16) (p : Fin 128) (j : Fin 256) :
    k0_pay19 (F := Ideal) maskV w v b u (ix2 p j)
      = u (ix3 0 p j) * spatial (fun l => w (ix3 0 p l)) (fun l => v (ix3 0 l j)) (b (ix3 0 p 0)) p := by
  pointwise [k0_pay19, k0_pay18, maskV_at, select_ite, spatial]

theorem pay21_at (w : FVec Ideal S1x128x128 .f32) (v : FVec Ideal S1x128x256 .f32) (b : FVec Ideal S1x128x1 .f32)
    (u : FVec Ideal S1x128x256 .bf16) (p : Fin 128) (j : Fin 256) :
    k0_pay21 (F := Ideal) (k0_pay20 maskV w v) b u (ix2 p j)
      = u (ix3 0 p j) * spatial (fun l => w (ix3 0 p l)) (fun l => v (ix3 0 l j)) (b (ix3 0 p 0)) p := by
  pointwise [k0_pay21, k0_pay20, k0_pay18, maskV_at, select_ite, spatial]

theorem pay23_at (w : FVec Ideal S1x128x128 .f32) (v : FVec Ideal S1x128x256 .f32) (b : FVec Ideal S1x128x1 .f32)
    (u : FVec Ideal S1x128x256 .bf16) (p : Fin 128) (j : Fin 256) :
    k0_pay23 (F := Ideal) maskV w v b u (ix2 p j)
      = u (ix3 0 p j) * spatial (fun l => w (ix3 0 p l)) (fun l => v (ix3 0 l j)) (b (ix3 0 p 0)) p := by
  pointwise [k0_pay23, k0_pay22, maskV_at, select_ite, spatial]

theorem pay24_at (w : FVec Ideal S1x128x128 .f32) (v : FVec Ideal S1x128x256 .f32) (b : FVec Ideal S1x128x1 .f32)
    (u : FVec Ideal S1x128x256 .bf16) (p : Fin 128) (j : Fin 256) :
    k0_pay24 (F := Ideal) (k0_pay22 maskV w) v b u (ix2 p j)
      = u (ix3 0 p j) * spatial (fun l => w (ix3 0 p l)) (fun l => v (ix3 0 l j)) (b (ix3 0 p 0)) p := by
  pointwise [k0_pay24, k0_pay22, maskV_at, select_ite, spatial]

theorem pay27_at (w : FVec Ideal S1x128x128 .f32) (v : FVec Ideal S1x128x256 .f32) (b : FVec Ideal S1x128x1 .f32)
    (u : FVec Ideal S1x128x256 .bf16) (p : Fin 128) (j : Fin 256) :
    k0_pay27 (F := Ideal) (k0_pay26 maskV w v b u) (ix2 p j)
      = u (ix3 0 p j) * spatial (fun l => w (ix3 0 p l)) (fun l => v (ix3 0 l j)) (b (ix3 0 p 0)) p := by
  pointwise [k0_pay27, k0_pay26, k0_pay25, maskV_at, select_ite, spatial]

theorem pay28_at (w : FVec Ideal S1x128x128 .f32) (v : FVec Ideal S1x128x256 .f32) (b : FVec Ideal S1x128x1 .f32)
    (u : FVec Ideal S1x128x256 .bf16) (p : Fin 128) (j : Fin 256) :
    k0_pay28 (F := Ideal) (k0_pay25 maskV w) v b u (ix2 p j)
      = u (ix3 0 p j) * spatial (fun l => w (ix3 0 p l)) (fun l => v (ix3 0 l j)) (b (ix3 0 p 0)) p := by
  pointwise [k0_pay28, k0_pay25, maskV_at, select_ite, spatial]

/-- Storing one head's attention: query rows against the head's 256 keys, over its values. -/
theorem pay32_at (k v : FVec Ideal S1x256x256 .f32) (q : FVec Ideal S1x256x256 .bf16) (r j : Fin 256) :
    k0_pay32 (F := Ideal) (k0_pay30 v) (k0_pay31 k q) (Scalar.ofBits .f32 0x3D800000#32) (ix2 r j)
      = attend (score (fun d => q (ix3 0 r d)) (fun m d => k (ix3 0 m d))) (fun m => v (ix3 0 m j)) := by
  pointwise [k0_pay32, k0_pay30, k0_pay31, attend, expScore, score]

theorem pay34_at (k v : FVec Ideal S1x256x256 .f32) (q : FVec Ideal S1x256x256 .bf16) (r j : Fin 256) :
    k0_pay34 (F := Ideal) (k0_pay33 k v q) (ix2 r j)
      = attend (score (fun d => q (ix3 0 r d)) (fun m d => k (ix3 0 m d))) (fun m => v (ix3 0 m j)) := by
  pointwise [k0_pay34, k0_pay33, attend, expScore, score]

theorem pay35_at (k v : FVec Ideal S1x256x256 .f32) (q : FVec Ideal S1x256x256 .bf16) (r j : Fin 256) :
    k0_pay35 (F := Ideal) k v q (ix2 r j)
      = attend (score (fun d => q (ix3 0 r d)) (fun m d => k (ix3 0 m d))) (fun m => v (ix3 0 m j)) := by
  pointwise [k0_pay35, attend, expScore, score]

theorem pay38_at (k v : FVec Ideal S1x256x256 .f32) (q : FVec Ideal S1x256x256 .bf16) (r j : Fin 256) :
    k0_pay38 (F := Ideal) (k0_pay36 k) (k0_pay37 v) q (ix2 r j)
      = attend (score (fun d => q (ix3 0 r d)) (fun m d => k (ix3 0 m d))) (fun m => v (ix3 0 m j)) := by
  pointwise [k0_pay38, k0_pay36, k0_pay37, attend, expScore, score]

/-- The convolution branch's projection, from the convolution without its last tap. -/
theorem pay11_at (c : FVec Ideal S256x1024 .f32) (w : FVec Ideal S1x1024 .f32) (e : FVec Ideal S256x1024 .f32)
    (g b : FVec Ideal S1x1024 .f32) (wb : FVec Ideal S1024x1024 .bf16) (r : Fin 256) (j : Fin 1024) :
    k0_pay11 (F := Ideal) c w e g b wb (ix2 r j)
      = ∑ l : Fin 1024, silu (layernorm (fun l => c (ix2 r l) + w (ix2 0 l) * e (ix2 r l)) (fun l => g (ix2 0 l))
          (fun l => b (ix2 0 l)) l) * wb (ix2 l j) := by
  pointwise [k0_pay11]
  rfl

/-- The row the body stores last: residual plus the projected gated sum. -/
theorem pay1_at (a b : FVec Ideal S256x1024 .f32) (c : FVec Ideal S256x1024 .bf16) (x : FVec Ideal S1x256x1024 .f32)
    (w : FVec Ideal S1024x1024 .bf16) (r : Fin 256) (j : Fin 1024) :
    k0_pay1 (F := Ideal) a b c x w (ix3 (0 : Fin 1) r j)
      = x (ix3 0 r j) + ∑ l : Fin 1024, (b (ix2 r l) + c (ix2 r l) * a (ix2 r l)) * w (ix2 l j) := by
  pointwise [k0_pay1]

theorem pay40_at (a b : FVec Ideal S256x1024 .f32) (g h : FVec Ideal S1x256x1024 .bf16) (r : Fin 256) (j : Fin 1024) :
    k0_pay40 (F := Ideal) a b g h (ix2 r j) = g (ix3 0 r j) * b (ix2 r j) + h (ix3 0 r j) * a (ix2 r j) := by
  pointwise [k0_pay40]

theorem pay41_at (g : FVec Ideal S1x256x1024 .bf16) (r : Fin 256) (j : Fin 1024) :
    k0_pay41 (F := Ideal) g (ix2 r j) = g (ix3 0 r j) := by
  pointwise [k0_pay41]

theorem pay39_at (a : FVec Ideal S256x1024 .bf16) (w : FVec Ideal S1024x1024 .bf16) (r : Fin 256) (j : Fin 1024) :
    k0_pay39 (F := Ideal) a w (ix2 r j) = ∑ l : Fin 1024, a (ix2 r l) * w (ix2 l j) := by
  pointwise [k0_pay39]

theorem pay29_at (a : FVec Ideal S256x1024 .bf16) (w : FVec Ideal S1024x1024 .bf16) (r : Fin 256) (j : Fin 1024) :
    k0_pay29 (F := Ideal) a w (ix2 r j) = ∑ l : Fin 1024, a (ix2 r l) * w (ix2 l j) := by
  pointwise [k0_pay29]

end Cert.Mixer
-- ==== Proof.Mixer.Body.lean ====
/- The mixer's body as one expression in what it loads: the two reads of its mixing scratch, the 31 shifted reads
  of its
   extended rows, the weights and gates. At row `r` it is the specification's result for a token, once every load
   agrees with that token's inputs. -/
module

public import proofs.«01_k».proof.Proof.Mixer.Payloads

@[expose] public section

set_option maxRecDepth 16384

noncomputable section

open Idealize.ShloMosaic Idealize.ShloMosaic.TcCoe Idealize.SL.Sem

namespace Cert.Mixer

open Cert.KernelIdeal Cert.KernelIdeal.Gen

/-- The 30 multiply-adds before the last tap, then the last tap: the convolution of the specification. -/
theorem conv_at (cb : FVec Ideal S1x1024 .f32)
    (w0 w1 w2 w3 w4 w5 w6 w7 w8 w9 w10 w11 w12 w13 w14 w15 w16 w17 w18 w19 w20 w21 w22 w23 w24 w25 w26 w27 w28 w29
      w30 : FVec Ideal S1x1024 .f32)
    (e0 e1 e2 e3 e4 e5 e6 e7 e8 e9 e10 e11 e12 e13 e14 e15 e16 e17 e18 e19 e20 e21 e22 e23 e24 e25 e26 e27 e28 e29
      e30 : FVec Ideal S256x1024 .f32)
    (r : Fin 256) (T : Token) (W : Weights) (hcb : ∀ j, cb (ix2 0 j) = W.cb j)
    (he0 : ∀ j, e0 (ix2 r j) = T.e 0 j) (hw0 : ∀ j, w0 (ix2 0 j) = W.cw 0 j)
    (he1 : ∀ j, e1 (ix2 r j) = T.e 1 j) (hw1 : ∀ j, w1 (ix2 0 j) = W.cw 1 j)
    (he2 : ∀ j, e2 (ix2 r j) = T.e 2 j) (hw2 : ∀ j, w2 (ix2 0 j) = W.cw 2 j)
    (he3 : ∀ j, e3 (ix2 r j) = T.e 3 j) (hw3 : ∀ j, w3 (ix2 0 j) = W.cw 3 j)
    (he4 : ∀ j, e4 (ix2 r j) = T.e 4 j) (hw4 : ∀ j, w4 (ix2 0 j) = W.cw 4 j)
    (he5 : ∀ j, e5 (ix2 r j) = T.e 5 j) (hw5 : ∀ j, w5 (ix2 0 j) = W.cw 5 j)
    (he6 : ∀ j, e6 (ix2 r j) = T.e 6 j) (hw6 : ∀ j, w6 (ix2 0 j) = W.cw 6 j)
    (he7 : ∀ j, e7 (ix2 r j) = T.e 7 j) (hw7 : ∀ j, w7 (ix2 0 j) = W.cw 7 j)
    (he8 : ∀ j, e8 (ix2 r j) = T.e 8 j) (hw8 : ∀ j, w8 (ix2 0 j) = W.cw 8 j)
    (he9 : ∀ j, e9 (ix2 r j) = T.e 9 j) (hw9 : ∀ j, w9 (ix2 0 j) = W.cw 9 j)
    (he10 : ∀ j, e10 (ix2 r j) = T.e 10 j) (hw10 : ∀ j, w10 (ix2 0 j) = W.cw 10 j)
    (he11 : ∀ j, e11 (ix2 r j) = T.e 11 j) (hw11 : ∀ j, w11 (ix2 0 j) = W.cw 11 j)
    (he12 : ∀ j, e12 (ix2 r j) = T.e 12 j) (hw12 : ∀ j, w12 (ix2 0 j) = W.cw 12 j)
    (he13 : ∀ j, e13 (ix2 r j) = T.e 13 j) (hw13 : ∀ j, w13 (ix2 0 j) = W.cw 13 j)
    (he14 : ∀ j, e14 (ix2 r j) = T.e 14 j) (hw14 : ∀ j, w14 (ix2 0 j) = W.cw 14 j)
    (he15 : ∀ j, e15 (ix2 r j) = T.e 15 j) (hw15 : ∀ j, w15 (ix2 0 j) = W.cw 15 j)
    (he16 : ∀ j, e16 (ix2 r j) = T.e 16 j) (hw16 : ∀ j, w16 (ix2 0 j) = W.cw 16 j)
    (he17 : ∀ j, e17 (ix2 r j) = T.e 17 j) (hw17 : ∀ j, w17 (ix2 0 j) = W.cw 17 j)
    (he18 : ∀ j, e18 (ix2 r j) = T.e 18 j) (hw18 : ∀ j, w18 (ix2 0 j) = W.cw 18 j)
    (he19 : ∀ j, e19 (ix2 r j) = T.e 19 j) (hw19 : ∀ j, w19 (ix2 0 j) = W.cw 19 j)
    (he20 : ∀ j, e20 (ix2 r j) = T.e 20 j) (hw20 : ∀ j, w20 (ix2 0 j) = W.cw 20 j)
    (he21 : ∀ j, e21 (ix2 r j) = T.e 21 j) (hw21 : ∀ j, w21 (ix2 0 j) = W.cw 21 j)
    (he22 : ∀ j, e22 (ix2 r j) = T.e 22 j) (hw22 : ∀ j, w22 (ix2 0 j) = W.cw 22 j)
    (he23 : ∀ j, e23 (ix2 r j) = T.e 23 j) (hw23 : ∀ j, w23 (ix2 0 j) = W.cw 23 j)
    (he24 : ∀ j, e24 (ix2 r j) = T.e 24 j) (hw24 : ∀ j, w24 (ix2 0 j) = W.cw 24 j)
    (he25 : ∀ j, e25 (ix2 r j) = T.e 25 j) (hw25 : ∀ j, w25 (ix2 0 j) = W.cw 25 j)
    (he26 : ∀ j, e26 (ix2 r j) = T.e 26 j) (hw26 : ∀ j, w26 (ix2 0 j) = W.cw 26 j)
    (he27 : ∀ j, e27 (ix2 r j) = T.e 27 j) (hw27 : ∀ j, w27 (ix2 0 j) = W.cw 27 j)
    (he28 : ∀ j, e28 (ix2 r j) = T.e 28 j) (hw28 : ∀ j, w28 (ix2 0 j) = W.cw 28 j)
    (he29 : ∀ j, e29 (ix2 r j) = T.e 29 j) (hw29 : ∀ j, w29 (ix2 0 j) = W.cw 29 j)
    (he30 : ∀ j, e30 (ix2 r j) = T.e 30 j) (hw30 : ∀ j, w30 (ix2 0 j) = W.cw 30 j)
    (j : Fin 1024) :
    (k0_pay10 (k0_pay9 (k0_pay7 (k0_pay6 (k0_pay5 cb w0 e0 w1 e1 w2 e2) w3 e3 w4 e4 w5 e5 w6 e6 w7 e7 w8 e8 w9 e9)
      w10 e10 w11 e11 w12 e12 w13 e13 w14 e14 w15 e15) e16 (k0_pay8 w16) w17 e17 w18 e18 w19 e19 w20 e20 w21 e21 w22
      e22) w23 e23 w24 e24 w25 e25 w26 e26 w27 e27 w28 e28 w29 e29) (ix2 r j) + w30 (ix2 0 j) * e30 (ix2 r j) = conv
      W.cb W.cw T.e j := by
  unfold conv
  rw [sum31]
  pointwise [k0_pay5, k0_pay6, k0_pay7, k0_pay8, k0_pay9, k0_pay10]
  simp only [hcb, he0, hw0, he1, hw1, he2, hw2, he3, hw3, he4, hw4, he5, hw5, he6, hw6, he7, hw7, he8, hw8, he9,
    hw9, he10, hw10, he11, hw11, he12, hw12, he13, hw13, he14, hw14, he15, hw15, he16, hw16, he17, hw17, he18, hw18,
    he19, hw19, he20, hw20, he21, hw21, he22, hw22, he23, hw23, he24, hw24, he25, hw25, he26, hw26, he27, hw27,
    he28, hw28, he29, hw29, he30, hw30, add_assoc]

/-- The body's result at row `r` of its block is the specification at the row's token. -/
theorem body_at (mixC mixA : FVec Ideal S256x1024 .bf16) (cb lg lb : FVec Ideal S1x1024 .f32)
    (wa wb wc wo : FVec Ideal S1024x1024 .bf16) (g0 g1 g2 : FVec Ideal S1x256x1024 .bf16) (x : FVec Ideal
      S1x256x1024 .f32)
    (w0 w1 w2 w3 w4 w5 w6 w7 w8 w9 w10 w11 w12 w13 w14 w15 w16 w17 w18 w19 w20 w21 w22 w23 w24 w25 w26 w27 w28 w29
      w30 : FVec Ideal S1x1024 .f32)
    (e0 e1 e2 e3 e4 e5 e6 e7 e8 e9 e10 e11 e12 e13 e14 e15 e16 e17 e18 e19 e20 e21 e22 e23 e24 e25 e26 e27 e28 e29
      e30 : FVec Ideal S256x1024 .f32)
    (r : Fin 256) (T : Token) (W : Weights)
    (hmixC : ∀ j, mixC (ix2 r j) = rowC T j) (hmixA : ∀ j, mixA (ix2 r j) = rowA T W j)
    (hcb : ∀ j, cb (ix2 0 j) = W.cb j) (hlg : ∀ j, lg (ix2 0 j) = W.lg j) (hlb : ∀ j, lb (ix2 0 j) = W.lb j)
    (hwa : ∀ k j, wa (ix2 k j) = W.wa k j) (hwb : ∀ k j, wb (ix2 k j) = W.wb k j)
    (hwc : ∀ k j, wc (ix2 k j) = W.wc k j) (hwo : ∀ k j, wo (ix2 k j) = W.wo k j)
    (hg0 : ∀ j, g0 (ix3 0 r j) = T.g 0 j) (hg1 : ∀ j, g1 (ix3 0 r j) = T.g 1 j) (hg2 : ∀ j, g2 (ix3 0 r j) = T.g 2 j)
    (hx : ∀ j, x (ix3 0 r j) = T.x j)
    (he0 : ∀ j, e0 (ix2 r j) = T.e 0 j) (hw0 : ∀ j, w0 (ix2 0 j) = W.cw 0 j)
    (he1 : ∀ j, e1 (ix2 r j) = T.e 1 j) (hw1 : ∀ j, w1 (ix2 0 j) = W.cw 1 j)
    (he2 : ∀ j, e2 (ix2 r j) = T.e 2 j) (hw2 : ∀ j, w2 (ix2 0 j) = W.cw 2 j)
    (he3 : ∀ j, e3 (ix2 r j) = T.e 3 j) (hw3 : ∀ j, w3 (ix2 0 j) = W.cw 3 j)
    (he4 : ∀ j, e4 (ix2 r j) = T.e 4 j) (hw4 : ∀ j, w4 (ix2 0 j) = W.cw 4 j)
    (he5 : ∀ j, e5 (ix2 r j) = T.e 5 j) (hw5 : ∀ j, w5 (ix2 0 j) = W.cw 5 j)
    (he6 : ∀ j, e6 (ix2 r j) = T.e 6 j) (hw6 : ∀ j, w6 (ix2 0 j) = W.cw 6 j)
    (he7 : ∀ j, e7 (ix2 r j) = T.e 7 j) (hw7 : ∀ j, w7 (ix2 0 j) = W.cw 7 j)
    (he8 : ∀ j, e8 (ix2 r j) = T.e 8 j) (hw8 : ∀ j, w8 (ix2 0 j) = W.cw 8 j)
    (he9 : ∀ j, e9 (ix2 r j) = T.e 9 j) (hw9 : ∀ j, w9 (ix2 0 j) = W.cw 9 j)
    (he10 : ∀ j, e10 (ix2 r j) = T.e 10 j) (hw10 : ∀ j, w10 (ix2 0 j) = W.cw 10 j)
    (he11 : ∀ j, e11 (ix2 r j) = T.e 11 j) (hw11 : ∀ j, w11 (ix2 0 j) = W.cw 11 j)
    (he12 : ∀ j, e12 (ix2 r j) = T.e 12 j) (hw12 : ∀ j, w12 (ix2 0 j) = W.cw 12 j)
    (he13 : ∀ j, e13 (ix2 r j) = T.e 13 j) (hw13 : ∀ j, w13 (ix2 0 j) = W.cw 13 j)
    (he14 : ∀ j, e14 (ix2 r j) = T.e 14 j) (hw14 : ∀ j, w14 (ix2 0 j) = W.cw 14 j)
    (he15 : ∀ j, e15 (ix2 r j) = T.e 15 j) (hw15 : ∀ j, w15 (ix2 0 j) = W.cw 15 j)
    (he16 : ∀ j, e16 (ix2 r j) = T.e 16 j) (hw16 : ∀ j, w16 (ix2 0 j) = W.cw 16 j)
    (he17 : ∀ j, e17 (ix2 r j) = T.e 17 j) (hw17 : ∀ j, w17 (ix2 0 j) = W.cw 17 j)
    (he18 : ∀ j, e18 (ix2 r j) = T.e 18 j) (hw18 : ∀ j, w18 (ix2 0 j) = W.cw 18 j)
    (he19 : ∀ j, e19 (ix2 r j) = T.e 19 j) (hw19 : ∀ j, w19 (ix2 0 j) = W.cw 19 j)
    (he20 : ∀ j, e20 (ix2 r j) = T.e 20 j) (hw20 : ∀ j, w20 (ix2 0 j) = W.cw 20 j)
    (he21 : ∀ j, e21 (ix2 r j) = T.e 21 j) (hw21 : ∀ j, w21 (ix2 0 j) = W.cw 21 j)
    (he22 : ∀ j, e22 (ix2 r j) = T.e 22 j) (hw22 : ∀ j, w22 (ix2 0 j) = W.cw 22 j)
    (he23 : ∀ j, e23 (ix2 r j) = T.e 23 j) (hw23 : ∀ j, w23 (ix2 0 j) = W.cw 23 j)
    (he24 : ∀ j, e24 (ix2 r j) = T.e 24 j) (hw24 : ∀ j, w24 (ix2 0 j) = W.cw 24 j)
    (he25 : ∀ j, e25 (ix2 r j) = T.e 25 j) (hw25 : ∀ j, w25 (ix2 0 j) = W.cw 25 j)
    (he26 : ∀ j, e26 (ix2 r j) = T.e 26 j) (hw26 : ∀ j, w26 (ix2 0 j) = W.cw 26 j)
    (he27 : ∀ j, e27 (ix2 r j) = T.e 27 j) (hw27 : ∀ j, w27 (ix2 0 j) = W.cw 27 j)
    (he28 : ∀ j, e28 (ix2 r j) = T.e 28 j) (hw28 : ∀ j, w28 (ix2 0 j) = W.cw 28 j)
    (he29 : ∀ j, e29 (ix2 r j) = T.e 29 j) (hw29 : ∀ j, w29 (ix2 0 j) = W.cw 29 j)
    (he30 : ∀ j, e30 (ix2 r j) = T.e 30 j) (hw30 : ∀ j, w30 (ix2 0 j) = W.cw 30 j)
    (j : Fin 1024) :
    k0_pay1 (F := Ideal) (k0_pay39 mixC wc) (k0_pay40 (k0_pay11 (k0_pay10 (k0_pay9 (k0_pay7 (k0_pay6 (k0_pay5 cb
      w0 e0 w1 e1 w2 e2) w3 e3 w4 e4 w5 e5 w6 e6 w7 e7 w8 e8 w9 e9) w10 e10 w11 e11 w12 e12 w13 e13 w14 e14 w15 e15)
      e16 (k0_pay8 w16) w17 e17 w18 e18 w19 e19 w20 e20 w21 e21 w22 e22) w23 e23 w24 e24 w25 e25 w26 e26 w27 e27 w28
      e28 w29 e29) w30 e30 lg lb wb) (k0_pay29 mixA wa) g0 g1)
      (k0_pay41 g2) x wo (ix3 (0 : Fin 1) r j) = out T W j := by
  have hc := conv_at cb w0 w1 w2 w3 w4 w5 w6 w7 w8 w9 w10 w11 w12 w13 w14 w15 w16 w17 w18 w19 w20 w21 w22 w23 w24
    w25 w26 w27 w28 w29 w30 e0 e1 e2 e3 e4 e5 e6 e7 e8 e9 e10 e11 e12 e13 e14 e15 e16 e17 e18 e19 e20 e21 e22 e23
    e24 e25 e26 e27 e28 e29 e30 r T W hcb he0 hw0 he1 hw1 he2 hw2 he3 hw3 he4 hw4 he5 hw5 he6 hw6 he7 hw7 he8 hw8
    he9 hw9 he10 hw10 he11 hw11 he12 hw12 he13 hw13 he14 hw14 he15 hw15 he16 hw16 he17 hw17 he18 hw18 he19 hw19 he20
    hw20 he21 hw21 he22 hw22 he23 hw23 he24 hw24 he25 hw25 he26 hw26 he27 hw27 he28 hw28 he29 hw29 he30 hw30
  rw [pay1_at]
  simp only [pay39_at, pay40_at, pay41_at, pay29_at, pay11_at, hc, hmixA, hmixC, hlg, hlb, hwa, hwb, hwc, hwo,
    hg0, hg1,
    hg2, hx]
  rfl

end Cert.Mixer
-- ==== Proof.Mixer.Pieces.lean ====
/- A buffer filled by rectangular stores, read at a row and a column: the last store that holds the place decides it. -/
module

public import proofs.«01_k».proof.Proof.Mixer.Payloads
public import Idealize.ShloMosaic.Lib.Pipeline.ValueKit

@[expose] public section

set_option maxRecDepth 16384

noncomputable section

open Idealize.ShloMosaic Idealize.ShloMosaic.TcCoe Idealize.SL.Sem

namespace Cert.Mixer

variable {Val : EltTy → Type} {e : EltTy} {N M n m a b : ℕ} [∀ e, Nonempty (Val e)]

/-- The place is inside the last store: its own element there. -/
theorem canon_hit (inb) (w : (⟨2, ![n, m]⟩ : Shape).Idx → Val e) (L : List (View.Piece Val (⟨2, ![N, M]⟩ : Shape) e))
    (r : Fin N) (c : Fin M) (x : Fin n) (y : Fin m) (hr : (r : ℕ) = a + (x : ℕ)) (hc : (c : ℕ) = b + (y : ℕ)) :
    View.canon ((⟨Rect.unit (s := (⟨2, ![N, M]⟩ : Shape)) ![a, b] ![n, m] inb, w⟩ : View.Piece Val _ e) :: L) (ix2 r c)
      = w (ix2 x y) := by
  have h : ix2 r c = (Rect.unit (s := (⟨2, ![N, M]⟩ : Shape)) ![a, b] ![n, m] inb).emb (ix2 x y) := by
    funext d
    refine Fin.ext ?_
    fin_cases d
    · show (r : ℕ) = a + 1 * (x : ℕ); omega
    · show (c : ℕ) = b + 1 * (y : ℕ); omega
  rw [h]
  exact View.canon_cons_emb (Rect.unit (s := (⟨2, ![N, M]⟩ : Shape)) ![a, b] ![n, m] inb) w L (ix2 x y)

/-- The place is outside the last store: what the earlier stores left. -/
theorem canon_miss (inb) (w : (⟨2, ![n, m]⟩ : Shape).Idx → Val e) (L : List (View.Piece Val (⟨2, ![N, M]⟩ : Shape) e))
    (r : Fin N) (c : Fin M) (h : (r : ℕ) < a ∨ a + n ≤ (r : ℕ) ∨ (c : ℕ) < b ∨ b + m ≤ (c : ℕ)) :
    View.canon ((⟨Rect.unit (s := (⟨2, ![N, M]⟩ : Shape)) ![a, b] ![n, m] inb, w⟩ : View.Piece Val _ e) :: L) (ix2 r c)
      = View.canon L (ix2 r c) := by
  refine View.canon_cons_of_not_mem _ L fun hm => ?_
  obtain ⟨x, hx⟩ := (Rect.unit (s := (⟨2, ![N, M]⟩ : Shape)) ![a, b] ![n, m] inb).exists_idx_of_mem hm
  have h0 : a + 1 * (x 0 : ℕ) = (r : ℕ) := congrArg (fun i : (⟨2, ![N, M]⟩ : Shape).Idx => (i 0 : ℕ)) hx
  have h1 : b + 1 * (x 1 : ℕ) = (c : ℕ) := congrArg (fun i : (⟨2, ![N, M]⟩ : Shape).Idx => (i 1 : ℕ)) hx
  have b0 : (x 0 : ℕ) < n := (x 0).isLt
  have b1 : (x 1 : ℕ) < m := (x 1).isLt
  omega

/-- A load of whole columns from row `o` reads the stores' contents `o` rows further down. -/
theorem read_rows {sig : RefSig} {κ : Kind} {sp : Space} {o : ℕ} (v : View sig κ sp (⟨2, ![N, M]⟩ : Shape) e) (L : List (View.Piece Val (⟨2, ![N, M]⟩ : Shape) e))
    (inb) (r : Fin n) (c : Fin M) (s : Fin N) (hs : (s : ℕ) = o + (r : ℕ)) :
    v.readCov L (Rect.unit (s := (⟨2, ![N, M]⟩ : Shape)) ![o, 0] ![n, M] inb).toLoadRect (ix2 r c) = View.canon L (ix2 s c) := by
  rw [View.readCov_eq_canon']
  show View.canon L _ = _
  refine congrArg (View.canon L) ?_
  funext d
  refine Fin.ext ?_
  fin_cases d
  · show o + 1 * (r : ℕ) = (s : ℕ); omega
  · show 0 + 1 * (c : ℕ) = (c : ℕ); omega

/-- Rows 0–31 of a buffer stored from `B`, rows 32–287 from `A`, read at row `o + r`. -/
theorem ext_read {sig : RefSig} {κ : Kind} {sp : Space} {o : ℕ} (v : View sig κ sp (⟨2, ![288, 1024]⟩ : Shape) e)
    (inb1 inb2) (A : (⟨2, ![256, 1024]⟩ : Shape).Idx → Val e) (B : (⟨2, ![32, 1024]⟩ : Shape).Idx → Val e) (inb)
    (r : Fin 256) (c : Fin 1024) (ho : o ≤ 32) (u : Val e)
    (hB : ∀ s : Fin 32, (s : ℕ) = o + (r : ℕ) → B (ix2 s c) = u)
    (hA : ∀ s : Fin 256, (s : ℕ) + 32 = o + (r : ℕ) → A (ix2 s c) = u) :
    v.readCov [(⟨Rect.unit (s := (⟨2, ![288, 1024]⟩ : Shape)) ![32, 0] ![256, 1024] inb1, A⟩ : View.Piece Val _ e),
        (⟨Rect.unit (s := (⟨2, ![288, 1024]⟩ : Shape)) ![0, 0] ![32, 1024] inb2, B⟩ : View.Piece Val _ e)]
      (Rect.unit (s := (⟨2, ![288, 1024]⟩ : Shape)) ![o, 0] ![256, 1024] inb).toLoadRect (ix2 r c) = u := by
  rw [read_rows v _ inb r c (⟨o + (r : ℕ), by omega⟩ : Fin 288) rfl]
  by_cases h : o + (r : ℕ) < 32
  · rw [canon_miss _ _ _ _ _ (Or.inl h), canon_hit _ _ _ _ _ (⟨o + (r : ℕ), h⟩ : Fin 32) c (by simp) (by simp)]
    exact hB _ rfl
  · rw [canon_hit _ _ _ _ _ (⟨o + (r : ℕ) - 32, by omega⟩ : Fin 256) c (by simp only; omega) (by simp)]
    exact hA _ (by simp only; omega)

/-- A load of part of a two-axis block, at an index. -/
theorem ld2 {o0 o1 : ℕ} (X : (⟨2, ![N, M]⟩ : Shape).Idx → Val e) (inb) (x : Fin n) (y : Fin m) (i0 : Fin N) (i1 : Fin M)
    (h0 : (i0 : ℕ) = o0 + (x : ℕ)) (h1 : (i1 : ℕ) = o1 + (y : ℕ)) :
    View.ld X (Rect.unit (s := (⟨2, ![N, M]⟩ : Shape)) ![o0, o1] ![n, m] inb) (ix2 x y) = X (ix2 i0 i1) := by
  refine congrArg X ?_
  funext d
  refine Fin.ext ?_
  fin_cases d
  · show o0 + 1 * (x : ℕ) = (i0 : ℕ); omega
  · show o1 + 1 * (y : ℕ) = (i1 : ℕ); omega

/-- A load of part of a three-axis block, at an index. -/
theorem ld3 {K k o0 o1 o2 : ℕ} (X : (⟨3, ![K, N, M]⟩ : Shape).Idx → Val e) (inb) (x : Fin k) (y : Fin n) (z : Fin m)
    (i0 : Fin K) (i1 : Fin N) (i2 : Fin M)
    (h0 : (i0 : ℕ) = o0 + (x : ℕ)) (h1 : (i1 : ℕ) = o1 + (y : ℕ)) (h2 : (i2 : ℕ) = o2 + (z : ℕ)) :
    View.ld X (Rect.unit (s := (⟨3, ![K, N, M]⟩ : Shape)) ![o0, o1, o2] ![k, n, m] inb) (ix3 x y z) = X (ix3 i0 i1 i2) := by
  refine congrArg X ?_
  funext d
  refine Fin.ext ?_
  fin_cases d
  · show o0 + 1 * (x : ℕ) = (i0 : ℕ); omega
  · show o1 + 1 * (y : ℕ) = (i1 : ℕ); omega
  · show o2 + 1 * (z : ℕ) = (i2 : ℕ); omega

end Cert.Mixer
-- ==== Proof.Mixer.Arrays.lean ====
/- The mixer's specification at a token of the whole arrays: batch `b`, position `t`. -/
module

public import proofs.«01_k».proof.Proof.Mixer.Spec

@[expose] public section

noncomputable section

open Idealize.ShloMosaic

namespace Cert.Mixer

/-- A three-axis array of extended reals. -/
abbrev Arr3 (a b c : ℕ) : Type := (⟨3, ![a, b, c]⟩ : Shape).Idx → EReal
/-- A two-axis array of extended reals. -/
abbrev Arr2 (a b : ℕ) : Type := (⟨2, ![a, b]⟩ : Shape).Idx → EReal

/-- Row `s` of the convolution's input, the last 30 rows of the history followed by the sequence. -/
def padded (glu : Arr3 16 4096 1024) (hist : Arr3 16 32 1024) (b : Fin 16) (s : Fin 4126) (j : Fin 1024) : EReal :=
  if h : (s : ℕ) < 30 then hist (ix3 b ⟨2 + (s : ℕ), by omega⟩ j) else glu (ix3 b ⟨(s : ℕ) - 30, by omega⟩ j)

/-- What the mixer of the token at batch `b`, position `t` reads of the arrays. -/
def tokenOf (x : Arr3 16 4096 1024) (u vn glu : Arr3 16 4096 1024) (hist : Arr3 16 32 1024)
    (q : Arr3 16 4096 1024) (g : Arr3 16 4096 3072) (mk mv : Arr3 16 256 1024) (b : Fin 16) (t : Fin 4096) : Token where
  x j := x (ix3 b t j)
  u j := u (ix3 b t j)
  vn l j := vn (ix3 b ⟨(t : ℕ) / 128 * 128 + (l : ℕ), by omega⟩ j)
  p := ⟨(t : ℕ) % 128, by omega⟩
  e k j := padded glu hist b ⟨(k : ℕ) + (t : ℕ), by omega⟩ j
  q j := q (ix3 b t j)
  g n j := g (ix3 b t ⟨(n : ℕ) * 1024 + (j : ℕ), by omega⟩)
  keys m j := mk (ix3 b m j)
  vals m j := mv (ix3 b m j)

/-- The weights read off their arrays. -/
def weightsOf (ws : Arr3 4 128 128) (bs : Arr3 4 128 1) (wa : Arr2 1024 1024) (cw : Arr2 31 1024)
    (cb lg lb : Arr2 1 1024) (wb wc wo : Arr2 1024 1024) : Weights where
  ws g p l := ws (ix3 g p l)
  bs g p := bs (ix3 g p 0)
  wa c j := wa (ix2 c j)
  cw k j := cw (ix2 k j)
  cb j := cb (ix2 0 j)
  lg j := lg (ix2 0 j)
  lb j := lb (ix2 0 j)
  wb c j := wb (ix2 c j)
  wc c j := wc (ix2 c j)
  wo c j := wo (ix2 c j)

end Cert.Mixer
-- ==== Proof.Mixer.Kernel.lean ====
/- The mixer kernel's loads, window by window and tile by tile, as the inputs of a block's tokens. -/
module

public import proofs.«01_k».proof.Proof.Gen.KernelIdeal.Value
public import proofs.«01_k».proof.Proof.Mixer.Body
public import proofs.«01_k».proof.Proof.Mixer.Pieces
public import proofs.«01_k».proof.Proof.Mixer.Arrays

@[expose] public section

set_option maxRecDepth 16384

noncomputable section

open Idealize.ShloMosaic Idealize.ShloMosaic.TcCoe Idealize.SL.Sem
open Idealize.ShloMosaic.Pipeline (Dat)

namespace Cert.Mixer

open Cert.KernelIdeal Cert.KernelIdeal.Gen

variable (m : (ℓ : Loc nD τ sig) → Buf (Elt Ideal) ℓ) (c : Dev nD)

/-- Which block of its array each window holds at a grid point: batch `t / 16`, 256 rows from `256 * (t % 16)`. -/
theorem idx : ∀ t : Fin cfg0.N, win0_0.index t = ![t.val / 16, t.val % 16, 0] ∧ win0_1.index t = ![t.val / 16, t.val % 16, 0]
    ∧ win0_2.index t = ![t.val / 16, t.val % 16, 0] ∧ win0_3.index t = ![t.val / 16, t.val % 16, 0]
    ∧ win0_4.index t = ![t.val / 16, t.val % 16 * 8 - 1, 0] ∧ win0_5.index t = ![t.val / 16, 0, 0]
    ∧ win0_6.index t = ![t.val / 16, t.val % 16, 0] ∧ win0_7.index t = ![t.val / 16, t.val % 16, 0]
    ∧ win0_8.index t = ![t.val / 16, 0, 0] ∧ win0_9.index t = ![t.val / 16, 0, 0]
    ∧ win0_10.index t = ![0, 0, 0] ∧ win0_11.index t = ![0, 0, 0] ∧ win0_12.index t = ![0, 0] ∧ win0_13.index t = ![0, 0]
    ∧ win0_14.index t = ![0, 0] ∧ win0_15.index t = ![0, 0] ∧ win0_16.index t = ![0, 0] ∧ win0_17.index t = ![0, 0]
    ∧ win0_18.index t = ![0, 0] ∧ win0_19.index t = ![0, 0] ∧ win0_20.index t = ![t.val / 16, t.val % 16, 0] :=
  (by decide +kernel : ∀ t : Fin grid0.N, _)

theorem lt_N (t : Fin cfg0.N) : t.val < 256 := lt_of_lt_of_eq t.isLt N_0

/-- The batch of a grid point. -/
def batch (t : Fin cfg0.N) : Fin 16 := ⟨t.val / 16, by have := lt_N t; omega⟩
/-- The sequence position of row `r` of a grid point's block. -/
def pos (t : Fin cfg0.N) (r : Fin 256) : Fin 4096 := ⟨t.val % 16 * 256 + (r : ℕ), by omega⟩

/-- The token of row `r` of a grid point's block. -/
def tok (t : Fin cfg0.N) (r : Fin 256) : Token :=
  tokenOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (batch t) (pos t r)

/-- The kernel's weights. -/
def wts : Weights :=
  weightsOf (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))
    (m ((c : Thread nD τ).loc main_arg15)) (m ((c : Thread nD τ).loc main_arg16)) (m ((c : Thread nD τ).loc main_arg17))
    (m ((c : Thread nD τ).loc main_arg18))

/-! ### The windows' blocks read at a row: the token's own inputs -/

theorem x_at (t : Fin cfg0.N) (r : Fin 256) (j : Fin 1024) :
    (iblk m c 0 t : FVec Ideal S1x256x1024 .f32) (ix3 0 r j) = (tok m c t r).x j := by
  show _ = m ((c : Thread nD τ).loc main_arg0) (ix3 (batch t) (pos t r) j)
  unfold batch pos
  blk_ext [iblk, V, idx t]

theorem u_at (t : Fin cfg0.N) (r : Fin 256) (j : Fin 1024) :
    (iblk m c 1 t : FVec Ideal S1x256x1024 .bf16) (ix3 0 r j) = (tok m c t r).u j := by
  show _ = m ((c : Thread nD τ).loc main_arg1) (ix3 (batch t) (pos t r) j)
  unfold batch pos
  blk_ext [iblk, V, idx t]

theorem vn_at (t : Fin cfg0.N) (r l : Fin 256) (k : Fin 128) (hl : (l : ℕ) = (r : ℕ) / 128 * 128 + (k : ℕ)) (j : Fin 1024) :
    (iblk m c 2 t : FVec Ideal S1x256x1024 .f32) (ix3 0 l j) = (tok m c t r).vn k j := by
  show _ = m ((c : Thread nD τ).loc main_arg2) (ix3 (batch t) ⟨(pos t r : ℕ) / 128 * 128 + (k : ℕ), _⟩ j)
  unfold batch pos
  blk_ext [iblk, V, idx t]

theorem q_at (t : Fin cfg0.N) (r : Fin 256) (j : Fin 1024) :
    (iblk m c 6 t : FVec Ideal S1x256x1024 .bf16) (ix3 0 r j) = (tok m c t r).q j := by
  show _ = m ((c : Thread nD τ).loc main_arg5) (ix3 (batch t) (pos t r) j)
  unfold batch pos
  blk_ext [iblk, V, idx t]

theorem g_at (t : Fin cfg0.N) (r : Fin 256) (n : Fin 3) (j : Fin 1024) (k : Fin 3072) (hk : (k : ℕ) = (n : ℕ) * 1024 + (j : ℕ)) :
    (iblk m c 7 t : FVec Ideal S1x256x3072 .bf16) (ix3 0 r k) = (tok m c t r).g n j := by
  show _ = m ((c : Thread nD τ).loc main_arg6) (ix3 (batch t) (pos t r) ⟨(n : ℕ) * 1024 + (j : ℕ), _⟩)
  unfold batch pos
  blk_ext [iblk, V, idx t]

theorem keys_at (t : Fin cfg0.N) (r k : Fin 256) (j : Fin 1024) :
    (iblk m c 8 t : FVec Ideal S1x256x1024 .f32) (ix3 0 k j) = (tok m c t r).keys k j := by
  show _ = m ((c : Thread nD τ).loc main_arg7) (ix3 (batch t) k j)
  unfold batch
  blk_ext [iblk, V, idx t]

theorem vals_at (t : Fin cfg0.N) (r k : Fin 256) (j : Fin 1024) :
    (iblk m c 9 t : FVec Ideal S1x256x1024 .f32) (ix3 0 k j) = (tok m c t r).vals k j := by
  show _ = m ((c : Thread nD τ).loc main_arg8) (ix3 (batch t) k j)
  unfold batch
  blk_ext [iblk, V, idx t]

theorem ws_at (t : Fin cfg0.N) (g : Fin 4) (p l : Fin 128) :
    (iblk m c 10 t : FVec Ideal S4x128x128 .f32) (ix3 g p l) = (wts m c).ws g p l := by
  show _ = m ((c : Thread nD τ).loc main_arg9) (ix3 g p l)
  blk_ext [iblk, V, idx t]

theorem bs_at (t : Fin cfg0.N) (g : Fin 4) (p : Fin 128) :
    (iblk m c 11 t : FVec Ideal S4x128x1 .f32) (ix3 g p 0) = (wts m c).bs g p := by
  show _ = m ((c : Thread nD τ).loc main_arg10) (ix3 g p 0)
  blk_ext [iblk, V, idx t]

theorem wa_at (t : Fin cfg0.N) (k j : Fin 1024) :
    (iblk m c 12 t : FVec Ideal S1024x1024 .bf16) (ix2 k j) = (wts m c).wa k j := by
  show _ = m ((c : Thread nD τ).loc main_arg11) (ix2 k j)
  blk_ext [iblk, V, idx t]

theorem wb_at (t : Fin cfg0.N) (k j : Fin 1024) :
    (iblk m c 17 t : FVec Ideal S1024x1024 .bf16) (ix2 k j) = (wts m c).wb k j := by
  show _ = m ((c : Thread nD τ).loc main_arg16) (ix2 k j)
  blk_ext [iblk, V, idx t]

theorem wc_at (t : Fin cfg0.N) (k j : Fin 1024) :
    (iblk m c 18 t : FVec Ideal S1024x1024 .bf16) (ix2 k j) = (wts m c).wc k j := by
  show _ = m ((c : Thread nD τ).loc main_arg17) (ix2 k j)
  blk_ext [iblk, V, idx t]

theorem wo_at (t : Fin cfg0.N) (k j : Fin 1024) :
    (iblk m c 19 t : FVec Ideal S1024x1024 .bf16) (ix2 k j) = (wts m c).wo k j := by
  show _ = m ((c : Thread nD τ).loc main_arg18) (ix2 k j)
  blk_ext [iblk, V, idx t]

theorem cw_at (t : Fin cfg0.N) (k : Fin 31) (j : Fin 1024) :
    (iblk m c 13 t : FVec Ideal S31x1024 .f32) (ix2 k j) = (wts m c).cw k j := by
  show _ = m ((c : Thread nD τ).loc main_arg12) (ix2 k j)
  blk_ext [iblk, V, idx t]

theorem cb_at (t : Fin cfg0.N) (j : Fin 1024) :
    (iblk m c 14 t : FVec Ideal S1x1024 .f32) (ix2 0 j) = (wts m c).cb j := by
  show _ = m ((c : Thread nD τ).loc main_arg13) (ix2 0 j)
  blk_ext [iblk, V, idx t]

theorem lg_at (t : Fin cfg0.N) (j : Fin 1024) :
    (iblk m c 15 t : FVec Ideal S1x1024 .f32) (ix2 0 j) = (wts m c).lg j := by
  show _ = m ((c : Thread nD τ).loc main_arg14) (ix2 0 j)
  blk_ext [iblk, V, idx t]

theorem lb_at (t : Fin cfg0.N) (j : Fin 1024) :
    (iblk m c 16 t : FVec Ideal S1x1024 .f32) (ix2 0 j) = (wts m c).lb j := by
  show _ = m ((c : Thread nD τ).loc main_arg15) (ix2 0 j)
  blk_ext [iblk, V, idx t]

/-! ### The extended rows: 32 rows of history, or of the tile before, then the tile's own rows -/

theorem pay4_at (a : FVec Ideal S1x256x1024 .f32) (r : Fin 256) (j : Fin 1024) :
    k0_pay4 (F := Ideal) a (ix2 r j) = a (ix3 0 r j) := by pointwise [k0_pay4]
theorem pay2_at (a : FVec Ideal S1x32x1024 .f32) (r : Fin 32) (j : Fin 1024) :
    k0_pay2 (F := Ideal) a (ix2 r j) = a (ix3 0 r j) := by pointwise [k0_pay2]
theorem pay3_at (a : FVec Ideal S1x32x1024 .f32) (r : Fin 32) (j : Fin 1024) :
    k0_pay3 (F := Ideal) a (ix2 r j) = a (ix3 0 r j) := by pointwise [k0_pay3]

/-- Row `s` of the tile is the row that tap `k` of row `r` meets, when it lies in the tile. -/
theorem e_tile (t : Fin cfg0.N) (r s : Fin 256) (k : Fin 31) (j : Fin 1024) (hs : (s : ℕ) + 32 = 2 + (k : ℕ) + (r : ℕ)) :
    k0_pay4 (F := Ideal) (iblk m c 3 t) (ix2 s j) = (tok m c t r).e k j := by
  refine (pay4_at _ s j).trans ?_
  have h : ¬ (k : ℕ) + (pos t r : ℕ) < 30 := by unfold pos; simp only; omega
  have e : (tok m c t r).e k j = m ((c : Thread nD τ).loc main_arg3)
      (ix3 (batch t) ⟨(k : ℕ) + (pos t r : ℕ) - 30, by omega⟩ j) := dif_neg h
  rw [e]
  unfold batch pos
  blk_ext [iblk, V, idx t]

/-- At the first tile of a sequence the rows before the tile are the last rows of the history. -/
theorem e_hist (t : Fin cfg0.N) (h0 : t.val % 16 = 0) (r : Fin 256) (s : Fin 32) (k : Fin 31) (j : Fin 1024)
    (hs : (s : ℕ) = 2 + (k : ℕ) + (r : ℕ)) :
    k0_pay2 (F := Ideal) (iblk m c 5 t) (ix2 s j) = (tok m c t r).e k j := by
  refine (pay2_at _ s j).trans ?_
  have h : (k : ℕ) + (pos t r : ℕ) < 30 := by unfold pos; simp only; omega
  have e : (tok m c t r).e k j = m ((c : Thread nD τ).loc main_arg4)
      (ix3 (batch t) ⟨2 + ((k : ℕ) + (pos t r : ℕ)), by omega⟩ j) := dif_pos h
  rw [e]
  unfold batch pos
  blk_ext [iblk, V, idx t]

/-- At a later tile the rows before the tile are the last rows of the tile before. -/
theorem e_halo (t : Fin cfg0.N) (h0 : ¬ t.val % 16 = 0) (r : Fin 256) (s : Fin 32) (k : Fin 31) (j : Fin 1024)
    (hs : (s : ℕ) = 2 + (k : ℕ) + (r : ℕ)) :
    k0_pay3 (F := Ideal) (iblk m c 4 t) (ix2 s j) = (tok m c t r).e k j := by
  refine (pay3_at _ s j).trans ?_
  have h : ¬ (k : ℕ) + (pos t r : ℕ) < 30 := by unfold pos; simp only; omega
  have e : (tok m c t r).e k j = m ((c : Thread nD τ).loc main_arg3)
      (ix3 (batch t) ⟨(k : ℕ) + (pos t r : ℕ) - 30, by omega⟩ j) := dif_neg h
  rw [e]
  unfold batch pos
  blk_ext [iblk, V, idx t]

/-! ### One stored tile of the mixing scratch -/

/-- A tile of the gated spatial mixing: rows `a + p` of the block, channels `256 g + j`. -/
theorem tile_A (t : Fin cfg0.N) (r : Fin 256) (ch : Fin 1024) (g : Fin 4) (p : Fin 128) (a o : ℕ) (j : Fin 256)
    (hr : (r : ℕ) = a + (p : ℕ)) (ha : a % 128 = 0) (hc : (ch : ℕ) = o + (j : ℕ)) (ho : o = 256 * (g : ℕ))
    (w : FVec Ideal S1x128x128 .f32) (v : FVec Ideal S1x128x256 .f32) (b : FVec Ideal S1x128x1 .f32)
    (u : FVec Ideal S1x128x256 .bf16)
    (hw : ∀ l, w (ix3 0 p l) = (iblk m c 10 t : FVec Ideal S4x128x128 .f32) (ix3 g p l))
    (hv : ∀ l : Fin 128, v (ix3 0 l j) = (iblk m c 2 t : FVec Ideal S1x256x1024 .f32) (ix3 0 ⟨a + (l : ℕ), by omega⟩ ch))
    (hb : b (ix3 0 p 0) = (iblk m c 11 t : FVec Ideal S4x128x1 .f32) (ix3 g p 0))
    (hu : u (ix3 0 p j) = (iblk m c 1 t : FVec Ideal S1x256x1024 .bf16) (ix3 0 r ch)) :
    u (ix3 0 p j) * spatial (fun l => w (ix3 0 p l)) (fun l => v (ix3 0 l j)) (b (ix3 0 p 0)) p
      = rowA (tok m c t r) (wts m c) ch := by
  have hg : grp ch = g := Fin.ext (by show (ch : ℕ) / 256 = (g : ℕ); omega)
  have hp : (tok m c t r).p = p := Fin.ext (by show (t.val % 16 * 256 + (r : ℕ)) % 128 = (p : ℕ); omega)
  have hv' : ∀ l : Fin 128, v (ix3 0 l j) = (tok m c t r).vn l ch := fun l =>
    (hv l).trans (vn_at m c t r _ l (by show a + (l : ℕ) = (r : ℕ) / 128 * 128 + (l : ℕ); omega) ch)
  unfold rowA
  rw [hg, hp, hu, u_at m c t r ch, hb, bs_at m c t g p]
  simp only [hw, ws_at m c t, hv']

/-- A head's tile of the cross attention: channels `256 h + j`. -/
theorem tile_C (t : Fin cfg0.N) (r : Fin 256) (ch : Fin 1024) (h : Fin 4) (o : ℕ) (j : Fin 256)
    (hc : (ch : ℕ) = o + (j : ℕ)) (ho : o = 256 * (h : ℕ)) (k v : FVec Ideal S1x256x256 .f32) (q : FVec Ideal S1x256x256 .bf16)
    (hk : ∀ n d : Fin 256, k (ix3 0 n d) = (iblk m c 8 t : FVec Ideal S1x256x1024 .f32) (ix3 0 n ⟨o + (d : ℕ), by omega⟩))
    (hv : ∀ n : Fin 256, v (ix3 0 n j) = (iblk m c 9 t : FVec Ideal S1x256x1024 .f32) (ix3 0 n ch))
    (hq : ∀ d : Fin 256, q (ix3 0 r d) = (iblk m c 6 t : FVec Ideal S1x256x1024 .bf16) (ix3 0 r ⟨o + (d : ℕ), by omega⟩)) :
    attend (score (fun d => q (ix3 0 r d)) (fun n d => k (ix3 0 n d))) (fun n => v (ix3 0 n j)) = rowC (tok m c t r) ch := by
  have e : ∀ d : Fin 256, (⟨o + (d : ℕ), by omega⟩ : Fin 1024) = chan (grp ch) d := fun d =>
    Fin.ext (by show o + (d : ℕ) = (ch : ℕ) / 256 * 256 + (d : ℕ); omega)
  unfold rowC
  simp only [hk, hv, hq, e, keys_at m c t r, vals_at m c t r, q_at m c t r]

end Cert.Mixer
-- ==== Proof.Mixer.Block.lean ====
/- The mixer kernel's result array is the specification at every token: block by block, then assembled. -/
module

public import proofs.«01_k».proof.Proof.Mixer.Kernel

@[expose] public section

set_option maxRecDepth 16384

noncomputable section

open Idealize.ShloMosaic Idealize.ShloMosaic.TcCoe Idealize.SL.Sem
open Idealize.ShloMosaic.Pipeline (Dat)

namespace Cert.Mixer

open Cert.KernelIdeal Cert.KernelIdeal.Gen

variable (m : (ℓ : Loc nD τ sig) → Buf (Elt Ideal) ℓ) (c : Dev nD)

/-- What a grid point leaves in its block: at row `r`, the specification at the row's token. -/
theorem block (t : Fin cfg0.N) (r : Fin 256) (j : Fin 1024) :
    outsAt0 m c t.val t.isLt (ix3 0 r j) = out (tok m c t r) (wts m c) j := by
  by_cases h0 : t.val % 16 = 0
  · rw [outsAt0_A m c t h0 (by omega)]
    frame_out
    apply body_at (T := tok m c t r) (W := wts m c)
    case hmixC =>
      intro ch
      refine (read_rows _ _ _ r ch r (by simp)).trans ?_
      have hch : (ch : ℕ) < 256 ∨ (256 ≤ (ch : ℕ) ∧ (ch : ℕ) < 512) ∨ (512 ≤ (ch : ℕ) ∧ (ch : ℕ) < 768) ∨ 768 ≤ (ch : ℕ) := by
        omega
      rcases hch with hch | hch | hch | hch
      · repeat refine (canon_miss _ _ _ r ch (by omega)).trans ?_
        refine (canon_hit _ _ _ r ch r (⟨(ch : ℕ) - 0, by omega⟩ : Fin 256)
          (by simp) (by simp only; omega)).trans ?_
        refine (pay32_at _ _ _ _ _).trans ?_
        exact tile_C m c t r ch 0 0 _ (by simp only; omega) rfl _ _ _
          (fun n d => ld3 _ _ _ _ _ 0 n _ (by rfl) (by simp) (by simp))
          (fun n => ld3 _ _ _ _ _ 0 n ch (by rfl) (by simp) (by simp only; omega))
          (fun d => ld3 _ _ _ _ _ 0 r _ (by rfl) (by simp) (by simp))
      · repeat refine (canon_miss _ _ _ r ch (by omega)).trans ?_
        refine (canon_hit _ _ _ r ch r (⟨(ch : ℕ) - 256, by omega⟩ : Fin 256)
          (by simp) (by simp only; omega)).trans ?_
        refine (pay34_at _ _ _ _ _).trans ?_
        exact tile_C m c t r ch 1 256 _ (by simp only; omega) rfl _ _ _
          (fun n d => ld3 _ _ _ _ _ 0 n _ (by rfl) (by simp) (by simp))
          (fun n => ld3 _ _ _ _ _ 0 n ch (by rfl) (by simp) (by simp only; omega))
          (fun d => ld3 _ _ _ _ _ 0 r _ (by rfl) (by simp) (by simp))
      · repeat refine (canon_miss _ _ _ r ch (by omega)).trans ?_
        refine (canon_hit _ _ _ r ch r (⟨(ch : ℕ) - 512, by omega⟩ : Fin 256)
          (by simp) (by simp only; omega)).trans ?_
        refine (pay35_at _ _ _ _ _).trans ?_
        exact tile_C m c t r ch 2 512 _ (by simp only; omega) rfl _ _ _
          (fun n d => ld3 _ _ _ _ _ 0 n _ (by rfl) (by simp) (by simp))
          (fun n => ld3 _ _ _ _ _ 0 n ch (by rfl) (by simp) (by simp only; omega))
          (fun d => ld3 _ _ _ _ _ 0 r _ (by rfl) (by simp) (by simp))
      · repeat refine (canon_miss _ _ _ r ch (by omega)).trans ?_
        refine (canon_hit _ _ _ r ch r (⟨(ch : ℕ) - 768, by omega⟩ : Fin 256)
          (by simp) (by simp only; omega)).trans ?_
        refine (pay38_at _ _ _ _ _).trans ?_
        exact tile_C m c t r ch 3 768 _ (by simp only; omega) rfl _ _ _
          (fun n d => ld3 _ _ _ _ _ 0 n _ (by rfl) (by simp) (by simp))
          (fun n => ld3 _ _ _ _ _ 0 n ch (by rfl) (by simp) (by simp only; omega))
          (fun d => ld3 _ _ _ _ _ 0 r _ (by rfl) (by simp) (by simp))
    case hmixA =>
      intro ch
      refine (read_rows _ _ _ r ch r (by simp)).trans ?_
      have hch : (ch : ℕ) < 256 ∨ (256 ≤ (ch : ℕ) ∧ (ch : ℕ) < 512) ∨ (512 ≤ (ch : ℕ) ∧ (ch : ℕ) < 768) ∨ 768 ≤ (ch : ℕ) := by
        omega
      have hrr : (r : ℕ) < 128 ∨ 128 ≤ (r : ℕ) := by omega
      rcases hch with hch | hch | hch | hch <;> rcases hrr with hrr | hrr
      · repeat refine (canon_miss _ _ _ r ch (by omega)).trans ?_
        refine (canon_hit _ _ _ r ch (⟨(r : ℕ) - 0, by omega⟩ : Fin 128) (⟨(ch : ℕ) - 0, by omega⟩ : Fin 256)
          (by simp only; omega) (by simp only; omega)).trans ?_
        refine (pay15_at _ _ _ _ _ _).trans ?_
        exact tile_A m c t r ch 0 _ 0 0 _ (by simp only; omega) rfl (by simp only; omega) rfl _ _ _ _
          (fun l => ld3 _ _ _ _ _ 0 _ l (by rfl) (by simp) (by simp))
          (fun l => ld3 _ _ _ _ _ 0 _ ch (by rfl) (by simp) (by simp only; omega))
          (ld3 _ _ _ _ _ 0 _ 0 (by rfl) (by simp) (by rfl))
          (ld3 _ _ _ _ _ 0 r ch (by rfl) (by simp only; omega) (by simp only; omega))
      · repeat refine (canon_miss _ _ _ r ch (by omega)).trans ?_
        refine (canon_hit _ _ _ r ch (⟨(r : ℕ) - 128, by omega⟩ : Fin 128) (⟨(ch : ℕ) - 0, by omega⟩ : Fin 256)
          (by simp only; omega) (by simp only; omega)).trans ?_
        refine (pay17_at _ _ _ _ _ _).trans ?_
        exact tile_A m c t r ch 0 _ 128 0 _ (by simp only; omega) rfl (by simp only; omega) rfl _ _ _ _
          (fun l => ld3 _ _ _ _ _ 0 _ l (by rfl) (by simp) (by simp))
          (fun l => ld3 _ _ _ _ _ 0 _ ch (by rfl) (by simp) (by simp only; omega))
          (ld3 _ _ _ _ _ 0 _ 0 (by rfl) (by simp) (by rfl))
          (ld3 _ _ _ _ _ 0 r ch (by rfl) (by simp only; omega) (by simp only; omega))
      · repeat refine (canon_miss _ _ _ r ch (by omega)).trans ?_
        refine (canon_hit _ _ _ r ch (⟨(r : ℕ) - 0, by omega⟩ : Fin 128) (⟨(ch : ℕ) - 256, by omega⟩ : Fin 256)
          (by simp only; omega) (by simp only; omega)).trans ?_
        refine (pay19_at _ _ _ _ _ _).trans ?_
        exact tile_A m c t r ch 1 _ 0 256 _ (by simp only; omega) rfl (by simp only; omega) rfl _ _ _ _
          (fun l => ld3 _ _ _ _ _ 1 _ l (by rfl) (by simp) (by simp))
          (fun l => ld3 _ _ _ _ _ 0 _ ch (by rfl) (by simp) (by simp only; omega))
          (ld3 _ _ _ _ _ 1 _ 0 (by rfl) (by simp) (by rfl))
          (ld3 _ _ _ _ _ 0 r ch (by rfl) (by simp only; omega) (by simp only; omega))
      · repeat refine (canon_miss _ _ _ r ch (by omega)).trans ?_
        refine (canon_hit _ _ _ r ch (⟨(r : ℕ) - 128, by omega⟩ : Fin 128) (⟨(ch : ℕ) - 256, by omega⟩ : Fin 256)
          (by simp only; omega) (by simp only; omega)).trans ?_
        refine (pay21_at _ _ _ _ _ _).trans ?_
        exact tile_A m c t r ch 1 _ 128 256 _ (by simp only; omega) rfl (by simp only; omega) rfl _ _ _ _
          (fun l => ld3 _ _ _ _ _ 1 _ l (by rfl) (by simp) (by simp))
          (fun l => ld3 _ _ _ _ _ 0 _ ch (by rfl) (by simp) (by simp only; omega))
          (ld3 _ _ _ _ _ 1 _ 0 (by rfl) (by simp) (by rfl))
          (ld3 _ _ _ _ _ 0 r ch (by rfl) (by simp only; omega) (by simp only; omega))
      · repeat refine (canon_miss _ _ _ r ch (by omega)).trans ?_
        refine (canon_hit _ _ _ r ch (⟨(r : ℕ) - 0, by omega⟩ : Fin 128) (⟨(ch : ℕ) - 512, by omega⟩ : Fin 256)
          (by simp only; omega) (by simp only; omega)).trans ?_
        refine (pay23_at _ _ _ _ _ _).trans ?_
        exact tile_A m c t r ch 2 _ 0 512 _ (by simp only; omega) rfl (by simp only; omega) rfl _ _ _ _
          (fun l => ld3 _ _ _ _ _ 2 _ l (by rfl) (by simp) (by simp))
          (fun l => ld3 _ _ _ _ _ 0 _ ch (by rfl) (by simp) (by simp only; omega))
          (ld3 _ _ _ _ _ 2 _ 0 (by rfl) (by simp) (by rfl))
          (ld3 _ _ _ _ _ 0 r ch (by rfl) (by simp only; omega) (by simp only; omega))
      · repeat refine (canon_miss _ _ _ r ch (by omega)).trans ?_
        refine (canon_hit _ _ _ r ch (⟨(r : ℕ) - 128, by omega⟩ : Fin 128) (⟨(ch : ℕ) - 512, by omega⟩ : Fin 256)
          (by simp only; omega) (by simp only; omega)).trans ?_
        refine (pay24_at _ _ _ _ _ _).trans ?_
        exact tile_A m c t r ch 2 _ 128 512 _ (by simp only; omega) rfl (by simp only; omega) rfl _ _ _ _
          (fun l => ld3 _ _ _ _ _ 2 _ l (by rfl) (by simp) (by simp))
          (fun l => ld3 _ _ _ _ _ 0 _ ch (by rfl) (by simp) (by simp only; omega))
          (ld3 _ _ _ _ _ 2 _ 0 (by rfl) (by simp) (by rfl))
          (ld3 _ _ _ _ _ 0 r ch (by rfl) (by simp only; omega) (by simp only; omega))
      · repeat refine (canon_miss _ _ _ r ch (by omega)).trans ?_
        refine (canon_hit _ _ _ r ch (⟨(r : ℕ) - 0, by omega⟩ : Fin 128) (⟨(ch : ℕ) - 768, by omega⟩ : Fin 256)
          (by simp only; omega) (by simp only; omega)).trans ?_
        refine (pay27_at _ _ _ _ _ _).trans ?_
        exact tile_A m c t r ch 3 _ 0 768 _ (by simp only; omega) rfl (by simp only; omega) rfl _ _ _ _
          (fun l => ld3 _ _ _ _ _ 3 _ l (by rfl) (by simp) (by simp))
          (fun l => ld3 _ _ _ _ _ 0 _ ch (by rfl) (by simp) (by simp only; omega))
          (ld3 _ _ _ _ _ 3 _ 0 (by rfl) (by simp) (by rfl))
          (ld3 _ _ _ _ _ 0 r ch (by rfl) (by simp only; omega) (by simp only; omega))
      · repeat refine (canon_miss _ _ _ r ch (by omega)).trans ?_
        refine (canon_hit _ _ _ r ch (⟨(r : ℕ) - 128, by omega⟩ : Fin 128) (⟨(ch : ℕ) - 768, by omega⟩ : Fin 256)
          (by simp only; omega) (by simp only; omega)).trans ?_
        refine (pay28_at _ _ _ _ _ _).trans ?_
        exact tile_A m c t r ch 3 _ 128 768 _ (by simp only; omega) rfl (by simp only; omega) rfl _ _ _ _
          (fun l => ld3 _ _ _ _ _ 3 _ l (by rfl) (by simp) (by simp))
          (fun l => ld3 _ _ _ _ _ 0 _ ch (by rfl) (by simp) (by simp only; omega))
          (ld3 _ _ _ _ _ 3 _ 0 (by rfl) (by simp) (by rfl))
          (ld3 _ _ _ _ _ 0 r ch (by rfl) (by simp only; omega) (by simp only; omega))
    case he0 | he1 | he2 | he3 | he4 | he5 | he6 | he7 | he8 | he9 | he10 | he11 | he12 | he13 | he14 | he15 | he16 | he17 | he18 | he19 | he20 | he21 | he22 | he23 | he24 | he25 | he26 | he27 | he28 | he29 | he30 =>
      exact fun j => ext_read _ _ _ _ _ _ r j (by omega) _ (fun s hs => e_hist m c t h0 r s _ j hs) (fun s hs => e_tile m c t r s _ j hs)
    case hw0 | hw1 | hw2 | hw3 | hw4 | hw5 | hw6 | hw7 | hw8 | hw9 | hw10 | hw11 | hw12 | hw13 | hw14 | hw15 | hw16 | hw17 | hw18 | hw19 | hw20 | hw21 | hw22 | hw23 | hw24 | hw25 | hw26 | hw27 | hw28 | hw29 | hw30 => exact fun j => (ld2 _ _ _ _ _ j (by rfl) (by simp)).trans (cw_at m c t _ j)
    case hg0 => exact fun j => (ld3 _ _ _ _ _ 0 r (⟨(j : ℕ), by omega⟩ : Fin 3072) (by rfl) (by simp) (by simp)).trans (g_at m c t r 0 j _ (by simp))
    case hg1 => exact fun j => (ld3 _ _ _ _ _ 0 r (⟨1024 + (j : ℕ), by omega⟩ : Fin 3072) (by rfl) (by simp) (by simp)).trans (g_at m c t r 1 j _ (by simp))
    case hg2 => exact fun j => (ld3 _ _ _ _ _ 0 r (⟨2048 + (j : ℕ), by omega⟩ : Fin 3072) (by rfl) (by simp) (by simp)).trans (g_at m c t r 2 j _ (by simp))
    case hx => exact x_at m c t r
    case hcb => exact cb_at m c t
    case hlg => exact lg_at m c t
    case hlb => exact lb_at m c t
    case hwa => exact wa_at m c t
    case hwb => exact wb_at m c t
    case hwc => exact wc_at m c t
    case hwo => exact wo_at m c t
  · rw [outsAt0_B m c t h0 (by omega)]
    frame_out
    apply body_at (T := tok m c t r) (W := wts m c)
    case hmixC =>
      intro ch
      refine (read_rows _ _ _ r ch r (by simp)).trans ?_
      have hch : (ch : ℕ) < 256 ∨ (256 ≤ (ch : ℕ) ∧ (ch : ℕ) < 512) ∨ (512 ≤ (ch : ℕ) ∧ (ch : ℕ) < 768) ∨ 768 ≤ (ch : ℕ) := by
        omega
      rcases hch with hch | hch | hch | hch
      · repeat refine (canon_miss _ _ _ r ch (by omega)).trans ?_
        refine (canon_hit _ _ _ r ch r (⟨(ch : ℕ) - 0, by omega⟩ : Fin 256)
          (by simp) (by simp only; omega)).trans ?_
        refine (pay32_at _ _ _ _ _).trans ?_
        exact tile_C m c t r ch 0 0 _ (by simp only; omega) rfl _ _ _
          (fun n d => ld3 _ _ _ _ _ 0 n _ (by rfl) (by simp) (by simp))
          (fun n => ld3 _ _ _ _ _ 0 n ch (by rfl) (by simp) (by simp only; omega))
          (fun d => ld3 _ _ _ _ _ 0 r _ (by rfl) (by simp) (by simp))
      · repeat refine (canon_miss _ _ _ r ch (by omega)).trans ?_
        refine (canon_hit _ _ _ r ch r (⟨(ch : ℕ) - 256, by omega⟩ : Fin 256)
          (by simp) (by simp only; omega)).trans ?_
        refine (pay34_at _ _ _ _ _).trans ?_
        exact tile_C m c t r ch 1 256 _ (by simp only; omega) rfl _ _ _
          (fun n d => ld3 _ _ _ _ _ 0 n _ (by rfl) (by simp) (by simp))
          (fun n => ld3 _ _ _ _ _ 0 n ch (by rfl) (by simp) (by simp only; omega))
          (fun d => ld3 _ _ _ _ _ 0 r _ (by rfl) (by simp) (by simp))
      · repeat refine (canon_miss _ _ _ r ch (by omega)).trans ?_
        refine (canon_hit _ _ _ r ch r (⟨(ch : ℕ) - 512, by omega⟩ : Fin 256)
          (by simp) (by simp only; omega)).trans ?_
        refine (pay35_at _ _ _ _ _).trans ?_
        exact tile_C m c t r ch 2 512 _ (by simp only; omega) rfl _ _ _
          (fun n d => ld3 _ _ _ _ _ 0 n _ (by rfl) (by simp) (by simp))
          (fun n => ld3 _ _ _ _ _ 0 n ch (by rfl) (by simp) (by simp only; omega))
          (fun d => ld3 _ _ _ _ _ 0 r _ (by rfl) (by simp) (by simp))
      · repeat refine (canon_miss _ _ _ r ch (by omega)).trans ?_
        refine (canon_hit _ _ _ r ch r (⟨(ch : ℕ) - 768, by omega⟩ : Fin 256)
          (by simp) (by simp only; omega)).trans ?_
        refine (pay38_at _ _ _ _ _).trans ?_
        exact tile_C m c t r ch 3 768 _ (by simp only; omega) rfl _ _ _
          (fun n d => ld3 _ _ _ _ _ 0 n _ (by rfl) (by simp) (by simp))
          (fun n => ld3 _ _ _ _ _ 0 n ch (by rfl) (by simp) (by simp only; omega))
          (fun d => ld3 _ _ _ _ _ 0 r _ (by rfl) (by simp) (by simp))
    case hmixA =>
      intro ch
      refine (read_rows _ _ _ r ch r (by simp)).trans ?_
      have hch : (ch : ℕ) < 256 ∨ (256 ≤ (ch : ℕ) ∧ (ch : ℕ) < 512) ∨ (512 ≤ (ch : ℕ) ∧ (ch : ℕ) < 768) ∨ 768 ≤ (ch : ℕ) := by
        omega
      have hrr : (r : ℕ) < 128 ∨ 128 ≤ (r : ℕ) := by omega
      rcases hch with hch | hch | hch | hch <;> rcases hrr with hrr | hrr
      · repeat refine (canon_miss _ _ _ r ch (by omega)).trans ?_
        refine (canon_hit _ _ _ r ch (⟨(r : ℕ) - 0, by omega⟩ : Fin 128) (⟨(ch : ℕ) - 0, by omega⟩ : Fin 256)
          (by simp only; omega) (by simp only; omega)).trans ?_
        refine (pay15_at _ _ _ _ _ _).trans ?_
        exact tile_A m c t r ch 0 _ 0 0 _ (by simp only; omega) rfl (by simp only; omega) rfl _ _ _ _
          (fun l => ld3 _ _ _ _ _ 0 _ l (by rfl) (by simp) (by simp))
          (fun l => ld3 _ _ _ _ _ 0 _ ch (by rfl) (by simp) (by simp only; omega))
          (ld3 _ _ _ _ _ 0 _ 0 (by rfl) (by simp) (by rfl))
          (ld3 _ _ _ _ _ 0 r ch (by rfl) (by simp only; omega) (by simp only; omega))
      · repeat refine (canon_miss _ _ _ r ch (by omega)).trans ?_
        refine (canon_hit _ _ _ r ch (⟨(r : ℕ) - 128, by omega⟩ : Fin 128) (⟨(ch : ℕ) - 0, by omega⟩ : Fin 256)
          (by simp only; omega) (by simp only; omega)).trans ?_
        refine (pay17_at _ _ _ _ _ _).trans ?_
        exact tile_A m c t r ch 0 _ 128 0 _ (by simp only; omega) rfl (by simp only; omega) rfl _ _ _ _
          (fun l => ld3 _ _ _ _ _ 0 _ l (by rfl) (by simp) (by simp))
          (fun l => ld3 _ _ _ _ _ 0 _ ch (by rfl) (by simp) (by simp only; omega))
          (ld3 _ _ _ _ _ 0 _ 0 (by rfl) (by simp) (by rfl))
          (ld3 _ _ _ _ _ 0 r ch (by rfl) (by simp only; omega) (by simp only; omega))
      · repeat refine (canon_miss _ _ _ r ch (by omega)).trans ?_
        refine (canon_hit _ _ _ r ch (⟨(r : ℕ) - 0, by omega⟩ : Fin 128) (⟨(ch : ℕ) - 256, by omega⟩ : Fin 256)
          (by simp only; omega) (by simp only; omega)).trans ?_
        refine (pay19_at _ _ _ _ _ _).trans ?_
        exact tile_A m c t r ch 1 _ 0 256 _ (by simp only; omega) rfl (by simp only; omega) rfl _ _ _ _
          (fun l => ld3 _ _ _ _ _ 1 _ l (by rfl) (by simp) (by simp))
          (fun l => ld3 _ _ _ _ _ 0 _ ch (by rfl) (by simp) (by simp only; omega))
          (ld3 _ _ _ _ _ 1 _ 0 (by rfl) (by simp) (by rfl))
          (ld3 _ _ _ _ _ 0 r ch (by rfl) (by simp only; omega) (by simp only; omega))
      · repeat refine (canon_miss _ _ _ r ch (by omega)).trans ?_
        refine (canon_hit _ _ _ r ch (⟨(r : ℕ) - 128, by omega⟩ : Fin 128) (⟨(ch : ℕ) - 256, by omega⟩ : Fin 256)
          (by simp only; omega) (by simp only; omega)).trans ?_
        refine (pay21_at _ _ _ _ _ _).trans ?_
        exact tile_A m c t r ch 1 _ 128 256 _ (by simp only; omega) rfl (by simp only; omega) rfl _ _ _ _
          (fun l => ld3 _ _ _ _ _ 1 _ l (by rfl) (by simp) (by simp))
          (fun l => ld3 _ _ _ _ _ 0 _ ch (by rfl) (by simp) (by simp only; omega))
          (ld3 _ _ _ _ _ 1 _ 0 (by rfl) (by simp) (by rfl))
          (ld3 _ _ _ _ _ 0 r ch (by rfl) (by simp only; omega) (by simp only; omega))
      · repeat refine (canon_miss _ _ _ r ch (by omega)).trans ?_
        refine (canon_hit _ _ _ r ch (⟨(r : ℕ) - 0, by omega⟩ : Fin 128) (⟨(ch : ℕ) - 512, by omega⟩ : Fin 256)
          (by simp only; omega) (by simp only; omega)).trans ?_
        refine (pay23_at _ _ _ _ _ _).trans ?_
        exact tile_A m c t r ch 2 _ 0 512 _ (by simp only; omega) rfl (by simp only; omega) rfl _ _ _ _
          (fun l => ld3 _ _ _ _ _ 2 _ l (by rfl) (by simp) (by simp))
          (fun l => ld3 _ _ _ _ _ 0 _ ch (by rfl) (by simp) (by simp only; omega))
          (ld3 _ _ _ _ _ 2 _ 0 (by rfl) (by simp) (by rfl))
          (ld3 _ _ _ _ _ 0 r ch (by rfl) (by simp only; omega) (by simp only; omega))
      · repeat refine (canon_miss _ _ _ r ch (by omega)).trans ?_
        refine (canon_hit _ _ _ r ch (⟨(r : ℕ) - 128, by omega⟩ : Fin 128) (⟨(ch : ℕ) - 512, by omega⟩ : Fin 256)
          (by simp only; omega) (by simp only; omega)).trans ?_
        refine (pay24_at _ _ _ _ _ _).trans ?_
        exact tile_A m c t r ch 2 _ 128 512 _ (by simp only; omega) rfl (by simp only; omega) rfl _ _ _ _
          (fun l => ld3 _ _ _ _ _ 2 _ l (by rfl) (by simp) (by simp))
          (fun l => ld3 _ _ _ _ _ 0 _ ch (by rfl) (by simp) (by simp only; omega))
          (ld3 _ _ _ _ _ 2 _ 0 (by rfl) (by simp) (by rfl))
          (ld3 _ _ _ _ _ 0 r ch (by rfl) (by simp only; omega) (by simp only; omega))
      · repeat refine (canon_miss _ _ _ r ch (by omega)).trans ?_
        refine (canon_hit _ _ _ r ch (⟨(r : ℕ) - 0, by omega⟩ : Fin 128) (⟨(ch : ℕ) - 768, by omega⟩ : Fin 256)
          (by simp only; omega) (by simp only; omega)).trans ?_
        refine (pay27_at _ _ _ _ _ _).trans ?_
        exact tile_A m c t r ch 3 _ 0 768 _ (by simp only; omega) rfl (by simp only; omega) rfl _ _ _ _
          (fun l => ld3 _ _ _ _ _ 3 _ l (by rfl) (by simp) (by simp))
          (fun l => ld3 _ _ _ _ _ 0 _ ch (by rfl) (by simp) (by simp only; omega))
          (ld3 _ _ _ _ _ 3 _ 0 (by rfl) (by simp) (by rfl))
          (ld3 _ _ _ _ _ 0 r ch (by rfl) (by simp only; omega) (by simp only; omega))
      · repeat refine (canon_miss _ _ _ r ch (by omega)).trans ?_
        refine (canon_hit _ _ _ r ch (⟨(r : ℕ) - 128, by omega⟩ : Fin 128) (⟨(ch : ℕ) - 768, by omega⟩ : Fin 256)
          (by simp only; omega) (by simp only; omega)).trans ?_
        refine (pay28_at _ _ _ _ _ _).trans ?_
        exact tile_A m c t r ch 3 _ 128 768 _ (by simp only; omega) rfl (by simp only; omega) rfl _ _ _ _
          (fun l => ld3 _ _ _ _ _ 3 _ l (by rfl) (by simp) (by simp))
          (fun l => ld3 _ _ _ _ _ 0 _ ch (by rfl) (by simp) (by simp only; omega))
          (ld3 _ _ _ _ _ 3 _ 0 (by rfl) (by simp) (by rfl))
          (ld3 _ _ _ _ _ 0 r ch (by rfl) (by simp only; omega) (by simp only; omega))
    case he0 | he1 | he2 | he3 | he4 | he5 | he6 | he7 | he8 | he9 | he10 | he11 | he12 | he13 | he14 | he15 | he16 | he17 | he18 | he19 | he20 | he21 | he22 | he23 | he24 | he25 | he26 | he27 | he28 | he29 | he30 =>
      exact fun j => ext_read _ _ _ _ _ _ r j (by omega) _ (fun s hs => e_halo m c t h0 r s _ j hs) (fun s hs => e_tile m c t r s _ j hs)
    case hw0 | hw1 | hw2 | hw3 | hw4 | hw5 | hw6 | hw7 | hw8 | hw9 | hw10 | hw11 | hw12 | hw13 | hw14 | hw15 | hw16 | hw17 | hw18 | hw19 | hw20 | hw21 | hw22 | hw23 | hw24 | hw25 | hw26 | hw27 | hw28 | hw29 | hw30 => exact fun j => (ld2 _ _ _ _ _ j (by rfl) (by simp)).trans (cw_at m c t _ j)
    case hg0 => exact fun j => (ld3 _ _ _ _ _ 0 r (⟨(j : ℕ), by omega⟩ : Fin 3072) (by rfl) (by simp) (by simp)).trans (g_at m c t r 0 j _ (by simp))
    case hg1 => exact fun j => (ld3 _ _ _ _ _ 0 r (⟨1024 + (j : ℕ), by omega⟩ : Fin 3072) (by rfl) (by simp) (by simp)).trans (g_at m c t r 1 j _ (by simp))
    case hg2 => exact fun j => (ld3 _ _ _ _ _ 0 r (⟨2048 + (j : ℕ), by omega⟩ : Fin 3072) (by rfl) (by simp) (by simp)).trans (g_at m c t r 2 j _ (by simp))
    case hx => exact x_at m c t r
    case hcb => exact cb_at m c t
    case hlg => exact lg_at m c t
    case hlb => exact lb_at m c t
    case hwa => exact wa_at m c t
    case hwb => exact wb_at m c t
    case hwc => exact wc_at m c t
    case hwo => exact wo_at m c t

/-- The result array the specification names: at batch `b`, position `s`, the mixer of that token. -/
def result : FVec Ideal S16x4096x1024 .f32 := fun i =>
  out (tokenOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (i 0) (i 1)) (wts m c) (i 2)

/-- The array the kernel leaves is that array. -/
theorem final : (dats m 0 c).arrAt 20 cfg0.N = result m c := by
  refine (dats m 0 c).arrAt_eq_of_covers 20 (result m c) (by decide +kernel) fun t hf y => ?_
  blk_simp
  rw [after0_20]
  obtain ⟨i0, r, j, rfl⟩ : ∃ (i0 : Fin 1) (r : Fin 256) (j : Fin 1024), y = ix3 i0 r j := ⟨y 0, y 1, y 2, by idx_vars y⟩
  obtain rfl : i0 = 0 := Subsingleton.elim _ _
  refine (block m c t r j).trans ?_
  have hy : (((cfg0.win 20).blk t).view.emb (ix3 0 r j) : S16x4096x1024.Idx) = ix3 (batch t) (pos t r) j := by
    unfold batch pos
    blk_ext [idx t]
  rw [hy]
  rfl

end Cert.Mixer
-- ==== Proof.Mixer.RefConv.lean ====
/- The reference's convolution over the padded sequence, read at a token as one sum over the taps. -/
module

public import proofs.«01_k».proof.Proof.Gen.ReferenceIdeal.Read
public import proofs.«01_k».proof.Proof.Mixer.Arrays

@[expose] public section

set_option maxRecDepth 16384

noncomputable section

open Idealize.ShloMosaic Idealize.ShloMosaic.TcCoe Idealize.SL.Sem

namespace Cert.Mixer.Ref

open Cert.ReferenceIdeal Cert.ReferenceIdeal.Read Cert.ReferenceIdeal.Gen

/-- The padded rows the convolution reads. -/
theorem v31_at (x3 : FVec Ideal S16x4096x1024 .f32) (x4 : FVec Ideal S16x32x1024 .f32) (b : Fin 16) (s : Fin 4126)
    (j : Fin 1024) : val_main_v31 (F := Ideal) x3 x4 (ix3 b s j) = padded x3 x4 b s j := by
  pointwise [val_main_v30, val_main_v31]
  rfl

/-- The convolution's sum over its taps, written out in the order the reference adds them. -/
theorem v248_at (x3 : FVec Ideal S16x4096x1024 .f32) (x4 : FVec Ideal S16x32x1024 .f32) (x12 : FVec Ideal S31x1024 .f32)
    (b : Fin 16) (t : Fin 4096) (j : Fin 1024) : val_main_v248 (F := Ideal) x3 x4 x12 (ix3 b t j)
      = ∑ k : Fin 31, x12 (ix2 k j) * padded x3 x4 b ⟨(k : ℕ) + (t : ℕ), by omega⟩ j := by
  rw [sum31]
  pointwise [
    val_main_v33, val_main_v34, val_main_v35, val_main_v36, val_main_v37, val_main_v38, val_main_v39, val_main_v40,
    val_main_v41, val_main_v42, val_main_v43, val_main_v44, val_main_v45, val_main_v46, val_main_v47, val_main_v48,
    val_main_v49, val_main_v50, val_main_v51, val_main_v52, val_main_v53, val_main_v54, val_main_v55, val_main_v56,
    val_main_v57, val_main_v58, val_main_v59, val_main_v60, val_main_v61, val_main_v62, val_main_v63, val_main_v64,
    val_main_v65, val_main_v66, val_main_v67, val_main_v68, val_main_v69, val_main_v70, val_main_v71, val_main_v72,
    val_main_v73, val_main_v74, val_main_v75, val_main_v76, val_main_v77, val_main_v78, val_main_v79, val_main_v80,
    val_main_v81, val_main_v82, val_main_v83, val_main_v84, val_main_v85, val_main_v86, val_main_v87, val_main_v88,
    val_main_v89, val_main_v90, val_main_v91, val_main_v92, val_main_v93, val_main_v94, val_main_v95, val_main_v96,
    val_main_v97, val_main_v98, val_main_v99, val_main_v100, val_main_v101, val_main_v102, val_main_v103,
    val_main_v104, val_main_v105, val_main_v106, val_main_v107, val_main_v108, val_main_v109, val_main_v110,
    val_main_v111, val_main_v112, val_main_v113, val_main_v114, val_main_v115, val_main_v116, val_main_v117,
    val_main_v118, val_main_v119, val_main_v120, val_main_v121, val_main_v122, val_main_v123, val_main_v124,
    val_main_v125, val_main_v126, val_main_v127, val_main_v128, val_main_v129, val_main_v130, val_main_v131,
    val_main_v132, val_main_v133, val_main_v134, val_main_v135, val_main_v136, val_main_v137, val_main_v138,
    val_main_v139, val_main_v140, val_main_v141, val_main_v142, val_main_v143, val_main_v144, val_main_v145,
    val_main_v146, val_main_v147, val_main_v148, val_main_v149, val_main_v150, val_main_v151, val_main_v152,
    val_main_v153, val_main_v154, val_main_v155, val_main_v156, val_main_v157, val_main_v158, val_main_v159,
    val_main_v160, val_main_v161, val_main_v162, val_main_v163, val_main_v164, val_main_v165, val_main_v166,
    val_main_v167, val_main_v168, val_main_v169, val_main_v170, val_main_v171, val_main_v172, val_main_v173,
    val_main_v174, val_main_v175, val_main_v176, val_main_v177, val_main_v178, val_main_v179, val_main_v180,
    val_main_v181, val_main_v182, val_main_v183, val_main_v184, val_main_v185, val_main_v186, val_main_v187,
    val_main_v188, val_main_v189, val_main_v190, val_main_v191, val_main_v192, val_main_v193, val_main_v194,
    val_main_v195, val_main_v196, val_main_v197, val_main_v198, val_main_v199, val_main_v200, val_main_v201,
    val_main_v202, val_main_v203, val_main_v204, val_main_v205, val_main_v206, val_main_v207, val_main_v208,
    val_main_v209, val_main_v210, val_main_v211, val_main_v212, val_main_v213, val_main_v214, val_main_v215,
    val_main_v216, val_main_v217, val_main_v218, val_main_v219, val_main_v220, val_main_v221, val_main_v222,
    val_main_v223, val_main_v224, val_main_v225, val_main_v226, val_main_v227, val_main_v228, val_main_v229,
    val_main_v230, val_main_v231, val_main_v232, val_main_v233, val_main_v234, val_main_v235, val_main_v236,
    val_main_v237, val_main_v238, val_main_v239, val_main_v240, val_main_v241, val_main_v242, val_main_v243,
    val_main_v244, val_main_v245, val_main_v246, val_main_v247, val_main_v248, v31_at]
  simp only [mul_comm (padded _ _ _ _ _)]

/-- The convolution with its bias. -/
theorem v251_at (x3 : FVec Ideal S16x4096x1024 .f32) (x4 : FVec Ideal S16x32x1024 .f32) (x12 : FVec Ideal S31x1024 .f32)
    (x13 : FVec Ideal S1x1024 .f32) (b : Fin 16) (t : Fin 4096) (j : Fin 1024) :
    val_main_v251 (F := Ideal) x3 x4 x12 x13 (ix3 b t j)
      = conv (fun j => x13 (ix2 0 j)) (fun k j => x12 (ix2 k j))
          (fun k j => padded x3 x4 b ⟨(k : ℕ) + (t : ℕ), by omega⟩ j) j := by
  have h : val_main_v251 (F := Ideal) x3 x4 x12 x13 (ix3 b t j)
      = val_main_v248 (F := Ideal) x3 x4 x12 (ix3 b t j) + x13 (ix2 0 j) := by
    pointwise [val_main_v32, val_main_v249, val_main_v250, val_main_v251]
  rw [h, v248_at, add_comm]
  rfl

end Cert.Mixer.Ref
-- ==== Proof.Mixer.Reference.lean ====
/- The reference's arrays, stage by stage, read at a token as the plain sums of `Mixer/Spec.lean`. -/
module

public import proofs.«01_k».proof.Proof.Gen.ReferenceIdeal.Read
public import proofs.«01_k».proof.Proof.Mixer.RefConv

@[expose] public section

set_option maxRecDepth 16384

noncomputable section

open Idealize.ShloMosaic Idealize.ShloMosaic.TcCoe Idealize.SL.Sem

namespace Cert.Mixer.Ref

open Cert.ReferenceIdeal Cert.ReferenceIdeal.Read Cert.ReferenceIdeal.Gen

/-- A word's quotient by 64, rounded towards minus infinity, as the reference spells it. -/
def fdiv64 (a : BitVec 32) : BitVec 32 :=
  Scalar.select (IntOp.andi (IntOp.cmpi .ne (if a = 0 then 0 else if a.msb = true then (-1 : BitVec 32) else 1)
      (if (64#32) = 0 then 0 else if (64#32).msb = true then (-1 : BitVec 32) else 1))
      (IntOp.cmpi .ne (IntOp.remsi .host a 64#32) 0#32))
    (IntOp.subi (IntOp.divsi .host a 64#32) 1#32) (IntOp.divsi .host a 64#32)

/-- On positions below 128 the mask's bit is the comparison of the groups of 64. -/
theorem mask_bit : ∀ p l : Fin 128, IntOp.cmpi .sle (fdiv64 (BitVec.ofNat 32 (l : ℕ))) (fdiv64 (BitVec.ofNat 32 (p : ℕ)))
    = if (l : ℕ) / 64 ≤ (p : ℕ) / 64 then 1#1 else 0#1 := by
  have d : ∀ a : BitVec 32, IntOp.divsi .host a 64#32 = a.sdiv 64#32 := fun a => by
    unfold IntOp.divsi; rw [if_neg (by simp [IntOp.SDivCorner])]
  have r : ∀ a : BitVec 32, IntOp.remsi .host a 64#32 = a.srem 64#32 := fun a => by
    unfold IntOp.remsi; rw [if_neg (by simp [IntOp.SDivCorner])]
  simp only [fdiv64, d, r]
  decide +kernel

/-- A one-bit word as a number. -/
theorem uitofp_bit (c : Prop) [Decidable c] :
    (FloatOps.uitofp (F := Ideal) .f32 (if c then 1#1 else 0#1) : EReal) = if c then 1 else 0 := by
  show ((((if c then 1#1 else 0#1 : BitVec 1).toNat : ℝ)) : EReal) = _
  by_cases h : c <;> simp [h]

/-- The masked spatial weights. -/
theorem v19_at (x9 : FVec Ideal S4x128x128 .f32) (g : Fin 4) (p l : Fin 128) :
    val_main_v19 (F := Ideal) x9 (ix3 g p l) = if (l : ℕ) / 64 ≤ (p : ℕ) / 64 then x9 (ix3 g p l) else 0 := by
  have h : val_main_v19 (F := Ideal) x9 (ix3 g p l) = x9 (ix3 g p l) * (FloatOps.uitofp (F := Ideal) .f32
      (IntOp.cmpi .sle (fdiv64 (BitVec.ofNat 32 (l : ℕ))) (fdiv64 (BitVec.ofNat 32 (p : ℕ)))) : EReal) := by
    pointwise [
    val_main_v8, val_main_v9, val_main_v10, val_main_v11, val_main_v12, val_main_v13, val_main_v14, val_main_v15,
    val_main_v16, val_main_v17, val_main_v18, val_main_v19, val_main_c, val_main_c_0, val_main_call0_v0,
    val_main_call0_v1, val_main_call0_v2, val_main_call0_v3, val_main_call0_v4, val_main_call0_v5, val_main_call0_v6,
    val_main_call0_v7, val_main_call0_v8, val_main_call0_v9, val_main_call0_v10, val_main_call0_v11,
    val_main_call0_v12, val_main_call0_v13, val_main_call1_v0, val_main_call1_v1, val_main_call1_v2,
    val_main_call1_v3, val_main_call1_v4, val_main_call1_v5, val_main_call1_v6, val_main_call1_v7, val_main_call1_v8,
    val_main_call1_v9, val_main_call1_v10, val_main_call1_v11, val_main_call1_v12, val_main_call1_v13,
    val_main_call0_c, val_main_call0_c_0, val_main_call1_c, val_main_call1_c_0]
    simp only [id_eq, constantI, fdiv64]
    try rfl
  rw [h, mask_bit, uitofp_bit]
  by_cases hc : (l : ℕ) / 64 ≤ (p : ℕ) / 64 <;> simp [hc]

/-- The gated spatial mixing. -/
theorem v28_at (x1 : FVec Ideal S16x4096x1024 .bf16) (x2 : FVec Ideal S16x4096x1024 .f32)
    (x9 : FVec Ideal S4x128x128 .f32) (x10 : FVec Ideal S4x128x1 .f32) (b : Fin 16) (t : Fin 4096) (j : Fin 1024) :
    val_main_v28 (F := Ideal) x1 x2 x9 x10 (ix3 b t j)
      = x1 (ix3 b t j) * spatial (fun l => x9 (ix3 (grp j) ⟨(t : ℕ) % 128, by omega⟩ l))
          (fun l => x2 (ix3 b ⟨(t : ℕ) / 128 * 128 + (l : ℕ), by omega⟩ j))
          (x10 (ix3 (grp j) ⟨(t : ℕ) % 128, by omega⟩ 0)) ⟨(t : ℕ) % 128, by omega⟩ := by
  pointwise [val_main_v0, val_main_v7, val_main_v20, val_main_v21, val_main_v22, val_main_v23, val_main_v24,
    val_main_v25, val_main_v26, val_main_v27, val_main_v28, v19_at, spatial]
  simp only [mul_comm (x2 _)]
  rfl

/-- The convolution branch before its projection. -/
theorem v278_at (x3 : FVec Ideal S16x4096x1024 .f32) (x4 : FVec Ideal S16x32x1024 .f32) (x12 : FVec Ideal S31x1024 .f32)
    (x13 x14 x15 : FVec Ideal S1x1024 .f32) (b : Fin 16) (t : Fin 4096) (j : Fin 1024) :
    val_main_v278 (F := Ideal) x3 x4 x12 x13 x14 x15 (ix3 b t j)
      = silu (layernorm (fun l => val_main_v251 (F := Ideal) x3 x4 x12 x13 (ix3 b t l)) (fun l => x14 (ix2 0 l))
          (fun l => x15 (ix2 0 l)) j) := by
  pointwise [
    val_main_v252, val_main_v253, val_main_v254, val_main_v255, val_main_v256, val_main_v257, val_main_v258,
    val_main_v259, val_main_v260, val_main_v261, val_main_v262, val_main_v263, val_main_v264, val_main_v265,
    val_main_v266, val_main_v267, val_main_v268, val_main_v269, val_main_v270, val_main_v271, val_main_v272,
    val_main_v273, val_main_v274, val_main_v275, val_main_v276, val_main_v277, val_main_v278, val_main_cst,
    val_main_cst_1, val_main_cst_2, val_main_cst_3, val_main_cst_4, val_main_call2_v0, val_main_call2_v1,
    val_main_call2_v2, val_main_call2_v3, val_main_call2_v4, val_main_call2_v5, val_main_call2_cst,
    val_main_call2_cst_0]
  rfl

/-- The scaled scores of a head. -/
theorem v285_at (x5 : FVec Ideal S16x4096x1024 .bf16) (x7 : FVec Ideal S16x256x1024 .f32) (b : Fin 16) (h : Fin 4)
    (t : Fin 4096) (m : Fin 256) : val_main_v285 (F := Ideal) x5 x7 (ix4 b h t m)
      = score (fun d => x5 (ix3 b t (chan h d))) (fun m d => x7 (ix3 b m (chan h d))) m := by
  pointwise [val_main_v1, val_main_v280, val_main_v281, val_main_v283, val_main_cst_5, val_main_v284, val_main_v285]
  rfl

/-- A maximum over the last of four axes. -/
theorem rowMax (x : FVec Ideal S16x4x4096x256 .f32) (h1 : S16x4x4096x256.ReducesTo [3] S16x4x4096) (h2 : 0 < S_.numel)
    (b : Fin 16) (h : Fin 4) (t : Fin 4096) :
    (Host.reduce (FloatOps.maximumf (F := Ideal)) x (constant S_ .f32 0xFF800000#32) h1 h2 : FVec Ideal S16x4x4096 .f32)
      (ix3 b h t) = Finset.univ.fold max (Ideal.ofBits .f32 0xFF800000#32) fun m : Fin 256 => x (ix4 b h t m) := by
  pointwise []

/-- A maximum that starts from a bound is unchanged by that bound. -/
theorem max_fold_self {n : ℕ} (c : EReal) (f : Fin n → EReal) :
    max c (Finset.univ.fold max c f) = Finset.univ.fold max c f := by
  exact max_eq_right (Finset.le_fold_max c |>.2 (Or.inl le_rfl))

/-- The reference's row maximum. -/
theorem v286_at (x5 : FVec Ideal S16x4096x1024 .bf16) (x7 : FVec Ideal S16x256x1024 .f32) (b : Fin 16) (h : Fin 4)
    (t : Fin 4096) : val_main_v286 (F := Ideal) x5 x7 (ix3 b h t)
      = Finset.univ.fold max (Ideal.ofBits .f32 0xFF800000#32) fun m : Fin 256 =>
          val_main_v285 (F := Ideal) x5 x7 (ix4 b h t m) := by
  unfold val_main_v286 val_main_cst_6
  generalize val_main_v285 (F := Ideal) x5 x7 = y
  exact rowMax y reducesTo_S16x4x4096x256_S16x4x4096_d3 h_S_ b h t

/-- The bound below every score that the reference's maximum is taken against. -/
theorem bound_at (b : Fin 16) (h : Fin 4) (t : Fin 4096) :
    val_main_v287 (F := Ideal) (ix3 b h t) = Ideal.ofBits .f32 0xFF800000#32 := by
  pointwise [val_main_v287, val_main_cst_7]

theorem maximumf_eq (a b : EReal) : FloatOps.maximumf (F := Ideal) (φ := .f32) a b = max a b := rfl

/-- The largest score of a row. -/
theorem v288_at (x5 : FVec Ideal S16x4096x1024 .bf16) (x7 : FVec Ideal S16x256x1024 .f32) (b : Fin 16) (h : Fin 4)
    (t : Fin 4096) : val_main_v288 (F := Ideal) x5 x7 (ix3 b h t)
      = Finset.univ.fold max (Ideal.ofBits .f32 0xFF800000#32) fun m : Fin 256 =>
          val_main_v285 (F := Ideal) x5 x7 (ix4 b h t m) := by
  rw [val_main_v288_apply, v286_at, bound_at, maximumf_eq, max_fold_self]

/-- The attention weights of a row. -/
theorem v296_at (x5 : FVec Ideal S16x4096x1024 .bf16) (x7 : FVec Ideal S16x256x1024 .f32) (b : Fin 16) (h : Fin 4)
    (t : Fin 4096) (m : Fin 256) : val_main_v296 (F := Ideal) x5 x7 (ix4 b h t m)
      = Ideal.div (expScore (fun m => val_main_v285 (F := Ideal) x5 x7 (ix4 b h t m)) m)
          (∑ m', expScore (fun m => val_main_v285 (F := Ideal) x5 x7 (ix4 b h t m)) m') := by
  pointwise [val_main_v289, val_main_v290, val_main_v291, val_main_v292, val_main_cst_8, val_main_v293, val_main_v294,
    val_main_v295, val_main_v296, v288_at, expScore]

/-- The cross attention before its projection. -/
theorem v299_at (x5 : FVec Ideal S16x4096x1024 .bf16) (x7 x8 : FVec Ideal S16x256x1024 .f32) (b : Fin 16)
    (t : Fin 4096) (j : Fin 1024) : val_main_v299 (F := Ideal) x5 x7 x8 (ix3 b t j)
      = attend (score (fun d => x5 (ix3 b t (chan (grp j) d))) (fun m d => x7 (ix3 b m (chan (grp j) d))))
          (fun m => x8 (ix3 b m j)) := by
  have h : val_main_v299 (F := Ideal) x5 x7 x8 (ix3 b t j)
      = ∑ m : Fin 256, x8 (ix3 b m j) * val_main_v296 (F := Ideal) x5 x7 (ix4 b (grp j) t m) := by
    pointwise [val_main_v282, val_main_v297, val_main_v298, val_main_v299]
    rfl
  rw [h]
  unfold attend
  refine Finset.sum_congr rfl fun m _ => ?_
  rw [v296_at, mul_comm]
  simp only [v285_at]

/-- The reference's result at a token is the specification at the token. -/
theorem result_at (x0 : FVec Ideal S16x4096x1024 .f32) (x1 : FVec Ideal S16x4096x1024 .bf16)
    (x2 x3 : FVec Ideal S16x4096x1024 .f32) (x4 : FVec Ideal S16x32x1024 .f32) (x5 : FVec Ideal S16x4096x1024 .bf16)
    (x6 : FVec Ideal S16x4096x3072 .bf16) (x7 x8 : FVec Ideal S16x256x1024 .f32) (x9 : FVec Ideal S4x128x128 .f32)
    (x10 : FVec Ideal S4x128x1 .f32) (x11 : FVec Ideal S1024x1024 .bf16) (x12 : FVec Ideal S31x1024 .f32)
    (x13 x14 x15 : FVec Ideal S1x1024 .f32) (x16 x17 x18 : FVec Ideal S1024x1024 .bf16)
    (b : Fin 16) (t : Fin 4096) (j : Fin 1024) :
    val_main_v314 (F := Ideal) x0 x1 x2 x3 x4 x5 x6 x7 x8 x9 x10 x11 x12 x13 x14 x15 x16 x17 x18 (ix3 b t j)
      = out (tokenOf x0 x1 x2 x3 x4 x5 x6 x7 x8 b t) (weightsOf x9 x10 x11 x12 x13 x14 x15 x16 x17 x18) j := by
  pointwise [val_main_v2, val_main_v3, val_main_v4, val_main_v5, val_main_v6, val_main_v29, val_main_v279,
    val_main_v300, val_main_v301, val_main_v302, val_main_v303, val_main_v304, val_main_v305, val_main_v306,
    val_main_v307, val_main_v308, val_main_v309, val_main_v310, val_main_v311, val_main_v312, val_main_v313,
    val_main_v314, v28_at, v278_at, v251_at, v299_at]
  unfold out merged rowA rowB rowC
  have h0 : ∀ k : Fin 1024, (tokenOf x0 x1 x2 x3 x4 x5 x6 x7 x8 b t).g 0 k = x6 (ix3 b t ⟨(k : ℕ), by omega⟩) :=
    fun k => congrArg (fun z => x6 (ix3 b t z)) (Fin.ext (by simp))
  have h1 : ∀ k : Fin 1024, (tokenOf x0 x1 x2 x3 x4 x5 x6 x7 x8 b t).g 1 k = x6 (ix3 b t ⟨1024 + (k : ℕ), by omega⟩) :=
    fun k => congrArg (fun z => x6 (ix3 b t z)) (Fin.ext (by simp))
  have h2 : ∀ k : Fin 1024, (tokenOf x0 x1 x2 x3 x4 x5 x6 x7 x8 b t).g 2 k = x6 (ix3 b t ⟨2048 + (k : ℕ), by omega⟩) :=
    fun k => congrArg (fun z => x6 (ix3 b t z)) (Fin.ext (by simp))
  simp only [h0, h1, h2]
  rfl

end Cert.Mixer.Ref
-- ==== Proof.Mixer.Claim.lean ====
/- The mixer's claims: the three programs run and leave their arguments alone, and the kernel's result is the reference's. -/
module

public import proofs.«01_k».proof.Defs
public import proofs.«01_k».proof.Proof.Gen.Kernel.Frame
public import proofs.«01_k».proof.Proof.Gen.ReferenceIdeal.Run
public import proofs.«01_k».proof.Proof.Mixer.Block
public import proofs.«01_k».proof.Proof.Mixer.Reference
public import Idealize.ShloMosaic.Adequacy
public import Idealize.ShloMosaic.Init
public import Idealize.ShloMosaic.Lib.Quiescent

@[expose] public section

set_option maxRecDepth 16384

noncomputable section

namespace Cert.Mixer

open Idealize.ShloMosaic Idealize.SL.Sem

/-- Each of the three programs runs to its end, the arguments as they were. -/
theorem frame : Cert.quiescent_Kernel (hKernel := Cert.Kernel.Gen.facts) := fun m ρ _ => Cert.Kernel.Gen.frame m ρ
theorem frameIdeal : Cert.quiescent_KernelIdeal (hKernelIdeal := Cert.KernelIdeal.Gen.facts) := fun m ρ _ =>
  Cert.KernelIdeal.Gen.frame m ρ
theorem frameReference : Cert.quiescent_ReferenceIdeal (hReferenceIdeal := Cert.ReferenceIdeal.Gen.facts) := fun m ρ _ =>
  (θ_run _ _ _).mono (fun r h => ⟨fun c => (h c).2, sem_eq_zero_of_no_sems (by decide) r.2⟩) (Cert.ReferenceIdeal.Value.run m ρ)

section
open Cert.ReferenceIdeal

/-- The array the specification names, over the reference's arguments. -/
def refResult (m : (ℓ : Loc nD τ sig) → Buf (Elt Ideal) ℓ) (c : Dev nD) : FVec Ideal S16x4096x1024 .f32 := fun i =>
  out (tokenOf (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) (i 0) (i 1))
    (weightsOf (m ((c.tc : Thread nD τ).loc main_arg9)) (m ((c.tc : Thread nD τ).loc main_arg10)) (m ((c.tc : Thread nD τ).loc main_arg11))
      (m ((c.tc : Thread nD τ).loc main_arg12)) (m ((c.tc : Thread nD τ).loc main_arg13)) (m ((c.tc : Thread nD τ).loc main_arg14))
      (m ((c.tc : Thread nD τ).loc main_arg15)) (m ((c.tc : Thread nD τ).loc main_arg16)) (m ((c.tc : Thread nD τ).loc main_arg17))
      (m ((c.tc : Thread nD τ).loc main_arg18))) (i 2)

/-- The reference leaves the specification's array. -/
theorem refRun (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v314) = refResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) := by
  refine (θ_run _ _ _).mono (fun r h c => ⟨(h c).1.trans ?_, (h c).2⟩) (Cert.ReferenceIdeal.Value.run m ρ)
  refine (Cert.ReferenceIdeal.Read.val_main_v314_eq (F := Ideal) (StableHlo.launchContents m c)).trans ?_
  show Cert.ReferenceIdeal.Read.val_main_v314 (F := Ideal) _ _ _ _ _ _ _ _ _ _ _ _ _ _ _ _ _ _ _ = _
  funext i
  obtain ⟨b, t, j, rfl⟩ : ∃ (b : Fin 16) (t : Fin 4096) (j : Fin 1024), i = ix3 b t j := ⟨i 0, i 1, i 2, by idx_vars i⟩
  exact Ref.result_at _ _ _ _ _ _ _ _ _ _ _ _ _ _ _ _ _ _ _ b t j

end

/-- The kernel's result array is the reference's, element by element over the extended reals. -/
theorem algebraic : Cert.algebraic_KernelIdeal_ReferenceIdeal (hKernelIdeal := Cert.KernelIdeal.Gen.facts)
    (hReferenceIdeal := Cert.ReferenceIdeal.Gen.facts) := by
  pair_intro
  · run_from Cert.KernelIdeal.Value.run_blocks m g
  · run_from refRun m' g'
    rw [final m c]
    obtain ⟨a0, a1, a2, a3, a4, a5, a6, a7, a8, a9, a10, a11, a12, a13, a14, a15, a16, a17, a18⟩ := hagree c
    unfold refResult result wts
    simp only [a0, a1, a2, a3, a4, a5, a6, a7, a8, a9, a10, a11, a12, a13, a14, a15, a16, a17, a18]

end Cert.Mixer
-- ==== Proof.Proj.Spec.lean ====
/- The projections of the layer for ONE row, as plain sums over extended reals: what both the kernels' blocks and the
   references' arrays are read as. -/
module

public import Idealize.ShloMosaic.Lib.Pointwise

@[expose] public section

noncomputable section

open Idealize.ShloMosaic

namespace Cert.Proj

/-- The mean of the 1024 channels of a row. -/
def mean (f : Fin 1024 → EReal) : EReal := Ideal.div (∑ l, f l) (Ideal.ofBits .f32 0x44800000#32)

/-- Channel `k` of the root-mean-square norm of a row `x`, with gain `g`. -/
def rms (x g : Fin 1024 → EReal) (k : Fin 1024) : EReal :=
  x k * Ideal.rsqrt (mean (fun l => x l * x l) + Ideal.ofBits .f32 0x358637BD#32) * g k

/-- The normed row against a column `w` of a weight. -/
def proj (x g w : Fin 1024 → EReal) : EReal := ∑ k, rms x g k * w k

/-- Channel `j` of the layer norm of a row, with gain `g` and offset `b`. -/
def layernorm (f g b : Fin 1024 → EReal) (j : Fin 1024) : EReal :=
  (f j - mean f) * Ideal.rsqrt (mean (fun l => (f l - mean f) * (f l - mean f)) + Ideal.ofBits .f32 0x358637BD#32)
    * g j + b j

/-- The tanh form of gelu, its constants the float literals of √(2/π) and 0.044715. -/
def gelu (z : EReal) : EReal :=
  z * (Ideal.ofBits .f32 0x3F000000#32
    * (1 + Ideal.tanh (Ideal.ofBits .f32 0x3F4C422A#32 * (z + Ideal.ofBits .f32 0x3D372713#32 * (z * z * z)))))

/-- What those two literals are, and their product. -/
def root : ℝ := 6693141 / 8388608
def cube : ℝ := 12003091 / 268435456
def rootCube : ℝ := 80338380498831 / 2251799813685248

theorem ofBits_root : Ideal.ofBits .f32 0x3F4C422A#32 = (root : EReal) := by
  unfold root
  simp [Ideal.ofBits, Ideal.ieee, -EReal.coe_mul]; norm_num
theorem ofBits_cube : Ideal.ofBits .f32 0x3D372713#32 = (cube : EReal) := by
  unfold cube
  simp [Ideal.ofBits, Ideal.ieee, -EReal.coe_mul]; norm_num
theorem root_mul_cube : rootCube = root * cube := by unfold rootCube root cube; norm_num

/-- The form that multiplies the root into both terms and takes `z` out. -/
def geluOut (z : EReal) : EReal :=
  Ideal.ofBits .f32 0x3F000000#32 * z
    * (1 + Ideal.tanh (z * (Ideal.ofBits .f32 0x3F4C422A#32 + (rootCube : EReal) * (z * z))))

/-- The two forms are equal at every extended real: at a real number by ring arithmetic, and at the two infinities the
    arguments of the tanh are the same infinity. -/
theorem geluOut_eq (z : EReal) : geluOut z = gelu z := by
  have hr : 0 < root := by unfold root; norm_num
  have hc : 0 < cube := by unfold cube; norm_num
  have hrc : 0 < rootCube := by unfold rootCube; norm_num
  have h : z * ((root : EReal) + (rootCube : EReal) * (z * z)) = (root : EReal) * (z + (cube : EReal) * (z * z * z)) := by
    induction z using EReal.rec with
    | bot => simp only [EReal.bot_mul_bot, EReal.top_mul_bot, EReal.coe_mul_top_of_pos hrc, EReal.coe_mul_bot_of_pos hc,
        EReal.coe_mul_bot_of_pos hr, EReal.coe_add_top, EReal.bot_mul_top, EReal.bot_add]
    | top => simp only [EReal.top_mul_top, EReal.coe_mul_top_of_pos hrc, EReal.coe_mul_top_of_pos hc,
        EReal.coe_mul_top_of_pos hr, EReal.coe_add_top, EReal.top_add_top]
    | coe r =>
      simp only [root_mul_cube, ← EReal.coe_mul, ← EReal.coe_add]
      exact congrArg _ (by ring)
  unfold geluOut gelu
  rw [ofBits_root, ofBits_cube, h, mul_comm (Ideal.ofBits .f32 0x3F000000#32) z, mul_assoc]

/-- Row `r` of all the tokens, 4096 to a batch. -/
def tokenRow (x : FVec Ideal ⟨3, ![16, 4096, 1024]⟩ .f32) (r : Fin 65536) (k : Fin 1024) : EReal :=
  x (ix3 (⟨(r : ℕ) / 4096, by omega⟩ : Fin 16) (⟨(r : ℕ) % 4096, Nat.mod_lt _ (by decide)⟩ : Fin 4096) k)

/-- The gain of the norm. -/
def gain (g : FVec Ideal ⟨2, ![1, 1024]⟩ .f32) (k : Fin 1024) : EReal := g (ix2 0 k)

/-- Column `c` of the input projection's weight. -/
def column (w : FVec Ideal ⟨3, ![1, 1024, 8192]⟩ .f32) (c : Fin 8192) (k : Fin 1024) : EReal := w (ix3 0 k c)

end Cert.Proj

end
-- ==== Proof.Proj.Glu.lean ====
/- The gated linear unit before the convolution and the convolution's new state: the kernel's arrays and the reference's, read
   at a row and a column. -/
module

public import proofs.«01_k».proof.Defs
public import proofs.«01_k».proof.Proof.Gen.Glu.Frame
public import proofs.«01_k».proof.Proof.Gen.GluIdeal.Frame
public import proofs.«01_k».proof.Proof.Gen.GluRefIdeal.Run
public import proofs.«01_k».proof.Proof.Gen.GluRefIdeal.Read
public import proofs.«01_k».proof.Proof.Proj.Spec
public import proofs.«01_k».proof.Proof.Mixer.Pieces
public import Idealize.ShloMosaic.Lib.Pipeline.ValueKit
public import Idealize.ShloMosaic.Adequacy
public import Idealize.ShloMosaic.Init
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Proj.Glu

/-- Row `r`, column `j` of the result: the projection to column `2048 + j`, gated by the one to column `3072 + j`. -/
def result (x : FVec Ideal ⟨3, ![16, 4096, 1024]⟩ .f32) (g : FVec Ideal ⟨2, ![1, 1024]⟩ .f32)
    (w : FVec Ideal ⟨3, ![1, 1024, 8192]⟩ .f32) : FVec Ideal ⟨2, ![65536, 1024]⟩ .f32 := fun i =>
  proj (tokenRow x (i 0)) (gain g) (column w ⟨2048 + (i 1 : ℕ), by have : (i 1 : ℕ) < 1024 := (i 1).isLt; omega⟩)
    * Ideal.logistic (proj (tokenRow x (i 0)) (gain g)
        (column w ⟨2048 + (1024 + (i 1 : ℕ)), by have : (i 1 : ℕ) < 1024 := (i 1).isLt; omega⟩))

/-- The convolution's new state: the unit of each sequence's last 30 tokens. -/
def state (x : FVec Ideal ⟨3, ![16, 4096, 1024]⟩ .f32) (g : FVec Ideal ⟨2, ![1, 1024]⟩ .f32)
    (w : FVec Ideal ⟨3, ![1, 1024, 8192]⟩ .f32) : FVec Ideal ⟨4, ![1, 16, 30, 1024]⟩ .f32 := fun i =>
  result x g w (ix2 (⟨(i 1 : ℕ) * 4096 + (4066 + (i 2 : ℕ)), by
    have : (i 1 : ℕ) < 16 := (i 1).isLt; have : (i 2 : ℕ) < 30 := (i 2).isLt; omega⟩ : Fin 65536)
    (⟨i 3, (i 3).isLt⟩ : Fin 1024))

section Kernel

open Cert.GluIdeal Cert.GluIdeal.Gen

variable (m : (ℓ : Loc nD τ sig) → Buf (Elt Ideal) ℓ) (c : Dev nD)

/-- What the body stores, read at a row and a column. -/
theorem pay_at (x : FVec Ideal S512x1024 .f32) (g : FVec Ideal S1x1024 .f32) (a b : FVec Ideal S1024x1024 .bf16)
    (r : Fin 512) (j : Fin 1024) : k0_pay1 (F := Ideal) x g a b (ix2 r j)
      = proj (fun k => x (ix2 r k)) (fun k => g (ix2 0 k)) (fun k => a (ix2 k j))
        * Ideal.logistic (proj (fun k => x (ix2 r k)) (fun k => g (ix2 0 k)) (fun k => b (ix2 k j))) := by
  pointwise [k0_pay1, proj, rms, mean]

/-- Which block of its array each window holds at a grid point. -/
theorem idx : ∀ t : Fin cfg0.N, win0_0.index t = ![t.val, 0] ∧ win0_1.index t = ![0, 0] ∧ win0_2.index t = ![0, 0]
    ∧ win0_3.index t = ![t.val, 0] :=
  (by decide +kernel : ∀ t : Fin grid0.N, _)

/-- Row `r` of block `t`, among all the rows. -/
def rowOf (t : Fin cfg0.N) (r : Fin 512) : Fin 65536 :=
  ⟨512 * t.val + r.val, by have : t.val < 128 := lt_of_lt_of_eq t.isLt N_0; omega⟩

/-- What the host hands over: the tokens' rows, the gain, the columns of the weight from 2048 on. -/
theorem entry_rows (r : Fin 65536) (k : Fin 1024) : V m c main_v2 (ix2 r k)
    = tokenRow (m ((c : Thread nD τ).loc main_arg0)) r k := by
  unfold tokenRow
  unfold V V0
  simp only [hostOps0, List.flatten_cons, List.flatten_nil, List.append_nil]
  after_results
  pointwise
theorem entry_gain (k : Fin 1024) : V m c main_v4 (ix2 (0 : Fin 1) k) = gain (m ((c : Thread nD τ).loc main_arg1)) k := by
  unfold gain
  unfold V V0
  simp only [hostOps0, List.flatten_cons, List.flatten_nil, List.append_nil]
  after_results
  pointwise
theorem entry_weight (k : Fin 1024) (j : Fin 2048) : V m c main_v5 (ix2 k j)
    = column (m ((c : Thread nD τ).loc main_arg2)) ⟨2048 + j.val, by omega⟩ k := by
  unfold column
  unfold V V0
  simp only [hostOps0, List.flatten_cons, List.flatten_nil, List.append_nil]
  after_results
  pointwise

/-- Row `r` of block `t` of the tokens is row `512 t + r` of all of them; every point reads the whole gain, and the same
    columns of the weight. -/
theorem x_at (t : Fin cfg0.N) (r : Fin 512) (k : Fin 1024) : (iblk m c 0 t : FVec Ideal S512x1024 .f32) (ix2 r k)
    = tokenRow (m ((c : Thread nD τ).loc main_arg0)) (rowOf t r) k := by
  have e : ((cfg0.win 0).blk t).view.emb (ix2 r k) = ix2 (rowOf t r) k := by unfold rowOf; blk_ext [idx t]
  exact (congrArg (V m c main_v2) e).trans (entry_rows m c _ k)
theorem g_at (t : Fin cfg0.N) (k : Fin 1024) : (iblk m c 1 t : FVec Ideal S1x1024 .f32) (ix2 0 k)
    = gain (m ((c : Thread nD τ).loc main_arg1)) k := by
  have e : ((cfg0.win 1).blk t).view.emb (ix2 0 k) = ix2 (0 : Fin 1) k := by blk_ext [idx t]
  exact (congrArg (V m c main_v4) e).trans (entry_gain m c k)
theorem w_at (t : Fin cfg0.N) (k : Fin 1024) (j : Fin 2048) : (iblk m c 2 t : FVec Ideal S1024x2048 .bf16) (ix2 k j)
    = column (m ((c : Thread nD τ).loc main_arg2)) ⟨2048 + j.val, by omega⟩ k := by
  have e : ((cfg0.win 2).blk t).view.emb (ix2 k j) = ix2 k j := by blk_ext [idx t]
  exact (congrArg (V m c main_v5) e).trans (entry_weight m c k j)

/-- The kernel's result array. -/
theorem final : (dats m 0 c).arrAt 3 cfg0.N = result (m ((c : Thread nD τ).loc main_arg0))
    (m ((c : Thread nD τ).loc main_arg1)) (m ((c : Thread nD τ).loc main_arg2)) := by
  refine (dats m 0 c).arrAt_eq_of_covers 3 _ (by decide +kernel) fun t _ y => ?_
  blk_simp
  rw [after0_3]
  frame_out
  obtain ⟨r, j, rfl⟩ : ∃ (r : Fin 512) (j : Fin 1024), y = ix2 r j := ⟨y 0, y 1, by idx_vars y⟩
  refine (pay_at _ _ _ _ r j).trans ?_
  have e : ((cfg0.win 3).blk t).view.emb (ix2 r j) = ix2 (rowOf t r) j := by unfold rowOf; blk_ext [idx t]
  have ha (k : Fin 1024) : View.ld (iblk m c 2 t) r0_2 (ix2 k j) = column (m ((c : Thread nD τ).loc main_arg2))
      ⟨2048 + j.val, by omega⟩ k :=
    (Cert.Mixer.ld2 _ _ k j k (⟨j.val, by omega⟩ : Fin 2048) (by simp) (by simp)).trans (w_at m c t k _)
  have hb (k : Fin 1024) : View.ld (iblk m c 2 t) r0_3 (ix2 k j) = column (m ((c : Thread nD τ).loc main_arg2))
      ⟨2048 + (1024 + j.val), by omega⟩ k :=
    (Cert.Mixer.ld2 _ _ k j k (⟨1024 + j.val, by omega⟩ : Fin 2048) (by simp) (by simp)).trans (w_at m c t k _)
  rw [e]
  simp only [x_at, g_at, ha, hb]
  rfl

/-- The host's last lines keep each sequence's last 30 rows of it. -/
theorem tail : Pipeline.afterTail₀ cfgs (dats m) 0 (V0 m) [hostOps1] c main_v9
    = state (m ((c : Thread nD τ).loc main_arg0)) (m ((c : Thread nD τ).loc main_arg1)) (m ((c : Thread nD τ).loc main_arg2)) := by
  unfold Pipeline.afterTail₀
  unfold_abbrev_sides
  simp only [List.flatten_cons, List.flatten_nil, List.append_nil]
  after_results
  have e := (Pipeline.withArrays_arr (cfgs 0).spec (by decide) c (V0 m c) (fun w => (dats m 0 c).arrAt w (cfgs 0).N) 3).trans
    (final m c)
  erw [e]
  funext i
  obtain ⟨b, p, j, rfl⟩ : ∃ (b : Fin 16) (p : Fin 30) (j : Fin 1024), i = ix4 0 b p j :=
    ⟨i 1, i 2, i 3, by idx_vars i; blk_ext⟩
  pointwise [state]

end Kernel

section Reference

open Cert.GluRefIdeal Cert.GluRefIdeal.Read

/-- The reference's unit at a token. -/
theorem unit_at (x : FVec Ideal S16x4096x1024 .f32) (g : FVec Ideal S1x1024 .f32) (w : FVec Ideal S1x1024x8192 .f32)
    (b : Fin 16) (p : Fin 4096) (j : Fin 1024) : val_main_v25 (F := Ideal) x g w (ix3 b p j)
      = result x g w (ix2 (⟨b.val * 4096 + p.val, by omega⟩ : Fin 65536) j) := by
  have e1 : (b.val * 4096 + p.val) / 4096 = b.val := by omega
  have e2 : (b.val * 4096 + p.val) % 4096 = p.val := by omega
  pointwise [result, proj, rms, mean, tokenRow, gain, column, Ideal.logistic, e1, e2, val_main_v25, val_main_v24,
    val_main_v23, val_main_v22, val_main_v21, val_main_v20, val_main_v19, val_main_v18, val_main_v17, val_main_v16,
    val_main_v15, val_main_v14, val_main_v13, val_main_v12, val_main_v11, val_main_v10, val_main_v9, val_main_v8,
    val_main_v7, val_main_v6, val_main_v5, val_main_v4, val_main_v3, val_main_v2, val_main_v1, val_main_v0,
    val_main_cst, val_main_cst_0, val_main_cst_1, val_main_cst_2, val_main_cst_3]

/-- The reference's two arrays. -/
theorem ref_at (x : FVec Ideal S16x4096x1024 .f32) (g : FVec Ideal S1x1024 .f32) (w : FVec Ideal S1x1024x8192 .f32) :
    val_main_v28 (F := Ideal) x g w = result x g w := by
  funext i
  obtain ⟨r, j, rfl⟩ : ∃ (r : Fin 65536) (j : Fin 1024), i = ix2 r j := ⟨i 0, i 1, by idx_vars i⟩
  have e : r.val / 4096 * 4096 + r.val % 4096 = r.val := by omega
  pointwise [val_main_v28, unit_at, e]
theorem state_at (x : FVec Ideal S16x4096x1024 .f32) (g : FVec Ideal S1x1024 .f32) (w : FVec Ideal S1x1024x8192 .f32) :
    val_main_v30 (F := Ideal) x g w = state x g w := by
  funext i
  obtain ⟨b, p, j, rfl⟩ : ∃ (b : Fin 16) (p : Fin 30) (j : Fin 1024), i = ix4 0 b p j :=
    ⟨i 1, i 2, i 3, by idx_vars i; blk_ext⟩
  have e : 4096 + p.val - 30 = 4066 + p.val := by omega
  have h : ¬ 4096 + p.val < 30 := by omega
  pointwise [state, unit_at, val_main_v30, val_main_v29, val_main_v27, val_main_v26, val_main_cst_4]
  simp only [h, dite_false, e]

/-- The reference leaves those arrays. -/
theorem refRun (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v28) = result (m ((c.tc : Thread nD τ).loc main_arg0))
        (m ((c.tc : Thread nD τ).loc main_arg1)) (m ((c.tc : Thread nD τ).loc main_arg2))
      ∧ r.2.mem ((c.tc : Thread nD τ).loc main_v30) = state (m ((c.tc : Thread nD τ).loc main_arg0))
        (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run _ _ _).mono (fun r h c => ⟨(h c).1.trans ?_, (h c).2.1.trans ?_, (h c).2.2⟩) (Cert.GluRefIdeal.Value.run m ρ)
  · exact ref_at _ _ _
  · exact state_at _ _ _

end Reference

/-- Each of the three programs runs to its end, the arguments as they were. -/
theorem frame : Cert.quiescent_Glu (hGlu := Cert.Glu.Gen.facts) := fun m ρ _ => Cert.Glu.Gen.frame m ρ
theorem frameIdeal : Cert.quiescent_GluIdeal (hGluIdeal := Cert.GluIdeal.Gen.facts) := fun m ρ _ => Cert.GluIdeal.Gen.frame m ρ
theorem frameReference : Cert.quiescent_GluRefIdeal (hGluRefIdeal := Cert.GluRefIdeal.Gen.facts) := fun m ρ _ =>
  (θ_run _ _ _).mono (fun r h => ⟨fun c => (h c).2.2, sem_eq_zero_of_no_sems (by decide) r.2⟩) (Cert.GluRefIdeal.Value.run m ρ)

/-- The kernel's unit and its new state are the reference's. -/
theorem algebraic : Cert.algebraic_GluIdeal_GluRefIdeal (hGluIdeal := Cert.GluIdeal.Gen.facts)
    (hGluRefIdeal := Cert.GluRefIdeal.Gen.facts) := by
  pair_intro
  · run_from Cert.GluIdeal.Gen.run_main m g
    · exact Cert.GluIdeal.Gen.W_main_arg0 m _ c
    · exact Cert.GluIdeal.Gen.W_main_arg1 m _ c
    · exact Cert.GluIdeal.Gen.W_main_arg2 m _ c
  · run_from refRun m' g'
    all_goals obtain ⟨a0, a1, a2⟩ := hagree c
    · refine Eq.trans ?_ (final m c).symm
      simp only [a0, a1, a2]
    · refine Eq.trans ?_ (tail m c).symm
      simp only [a0, a1, a2]

end Cert.Proj.Glu

end
-- ==== Proof.Proj.Gates.lean ====
/- The queries and the three gates: the kernel's blocks and the reference's arrays, both read at a row and a column. -/
module

public import proofs.«01_k».proof.Defs
public import proofs.«01_k».proof.Proof.Gen.Gates.Frame
public import proofs.«01_k».proof.Proof.Gen.GatesIdeal.Frame
public import proofs.«01_k».proof.Proof.Gen.GatesRefIdeal.Run
public import proofs.«01_k».proof.Proof.Gen.GatesRefIdeal.Read
public import proofs.«01_k».proof.Proof.Proj.Spec
public import proofs.«01_k».proof.Proof.Mixer.Pieces
public import Idealize.ShloMosaic.Lib.Pipeline.ValueKit
public import Idealize.ShloMosaic.Adequacy
public import Idealize.ShloMosaic.Init
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Proj.Gates

/-- Row `r`, column `j` of the queries: the projection to column `4096 + j`. -/
def resultQ (x : FVec Ideal ⟨3, ![16, 4096, 1024]⟩ .f32) (g : FVec Ideal ⟨2, ![1, 1024]⟩ .f32)
    (w : FVec Ideal ⟨3, ![1, 1024, 8192]⟩ .f32) : FVec Ideal ⟨2, ![65536, 1024]⟩ .bf16 := fun i =>
  proj (tokenRow x (i 0)) (gain g) (column w ⟨4096 + (i 1 : ℕ), by have : (i 1 : ℕ) < 1024 := (i 1).isLt; omega⟩)

/-- Row `r`, column `j` of the gates: the projection to column `5120 + j` and its bias, through the logistic function. -/
def resultG (x : FVec Ideal ⟨3, ![16, 4096, 1024]⟩ .f32) (g : FVec Ideal ⟨2, ![1, 1024]⟩ .f32)
    (w : FVec Ideal ⟨3, ![1, 1024, 8192]⟩ .f32) (b : FVec Ideal ⟨2, ![1, 3072]⟩ .f32) :
    FVec Ideal ⟨2, ![65536, 3072]⟩ .bf16 := fun i =>
  Ideal.logistic (proj (tokenRow x (i 0)) (gain g)
    (column w ⟨5120 + (i 1 : ℕ), by have : (i 1 : ℕ) < 3072 := (i 1).isLt; omega⟩) + b (ix2 0 (i 1)))

section Kernel

open Cert.GatesIdeal Cert.GatesIdeal.Gen

variable (m : (ℓ : Loc nD τ sig) → Buf (Elt Ideal) ℓ) (c : Dev nD)

/-- The queries' store, read at a row and a column. -/
theorem q_at (x : FVec Ideal S512x1024 .f32) (g : FVec Ideal S1x1024 .f32) (a : FVec Ideal S1024x1024 .bf16)
    (r : Fin 512) (j : Fin 1024) : k0_pay4 (F := Ideal) x g a (ix2 r j)
      = proj (fun k => x (ix2 r k)) (fun k => g (ix2 0 k)) (fun k => a (ix2 k j)) := by
  pointwise [k0_pay4, k0_pay3, proj, rms, mean]

/-- The first gate's store. -/
theorem g0_at (x : FVec Ideal S512x1024 .f32) (g : FVec Ideal S1x1024 .f32) (a : FVec Ideal S1024x1024 .bf16)
    (b : FVec Ideal S1x1024 .f32) (r : Fin 512) (j : Fin 1024) : k0_pay5 (F := Ideal) x g a b (ix2 r j)
      = Ideal.logistic (proj (fun k => x (ix2 r k)) (fun k => g (ix2 0 k)) (fun k => a (ix2 k j)) + b (ix2 0 j)) := by
  pointwise [k0_pay5, k0_pay3, proj, rms, mean]

/-- The second gate's store is the first's at its own columns, -/
theorem g1_eq (x : FVec Ideal S512x1024 .f32) (g : FVec Ideal S1x1024 .f32) (a : FVec Ideal S1024x1024 .bf16)
    (b : FVec Ideal S1x1024 .f32) : k0_pay1 (F := Ideal) (k0_pay6 x g a) b = k0_pay5 x g a b := rfl

/-- and so is the third's. -/
theorem g2_eq (x : FVec Ideal S512x1024 .f32) (g : FVec Ideal S1x1024 .f32) (a : FVec Ideal S1024x1024 .bf16)
    (b : FVec Ideal S1x1024 .f32) : k0_pay2 (F := Ideal) (k0_pay3 x g) a b = k0_pay5 x g a b := rfl

/-- Which block of its array each window holds at a grid point. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] :=
  (by decide +kernel : ∀ t : Fin grid0.N, _)

/-- Row `r` of block `t`, among all the rows. -/
def rowOf (t : Fin cfg0.N) (r : Fin 512) : Fin 65536 :=
  ⟨512 * t.val + r.val, by have : t.val < 128 := lt_of_lt_of_eq t.isLt N_0; omega⟩

/-- Row `r` of block `t` of the tokens is row `512 t + r` of all of them. -/
theorem x_at (t : Fin cfg0.N) (r : Fin 512) (k : Fin 1024) : (iblk m c 0 t : FVec Ideal S512x1024 .f32) (ix2 r k)
    = tokenRow (m ((c : Thread nD τ).loc main_arg0)) (rowOf t r) k := by
  unfold tokenRow rowOf
  blk_simp [iblk, idx t]
  entry_read
  pointwise
  blk_ext [idx t]

/-- Every point reads the whole gain. -/
theorem g_at (t : Fin cfg0.N) (k : Fin 1024) : (iblk m c 1 t : FVec Ideal S1x1024 .f32) (ix2 0 k)
    = gain (m ((c : Thread nD τ).loc main_arg1)) k := by
  unfold gain
  blk_simp [iblk, idx t]
  entry_read
  pointwise
  blk_ext [idx t]

/-- Every point reads the same columns of the weight: column `j` is column `4096 + j` of all of it. -/
theorem w_at (t : Fin cfg0.N) (k : Fin 1024) (j : Fin 4096) : (iblk m c 2 t : FVec Ideal S1024x4096 .bf16) (ix2 k j)
    = column (m ((c : Thread nD τ).loc main_arg2)) ⟨4096 + j.val, by omega⟩ k := by
  unfold column
  blk_simp [iblk, idx t]
  entry_read
  pointwise
  blk_ext [idx t]

/-- Every point reads the whole bias. -/
theorem b_at (t : Fin cfg0.N) (j : Fin 3072) : (iblk m c 3 t : FVec Ideal S1x3072 .f32) (ix2 0 j)
    = (m ((c : Thread nD τ).loc main_arg3) : FVec Ideal S1x3072 .f32) (ix2 0 j) := by
  blk_simp [iblk, idx t]
  entry_read
  pointwise
  blk_ext [idx t]

/-- The kernel's queries. -/
theorem finalQ : (dats m 0 c).arrAt 4 cfg0.N = resultQ (m ((c : Thread nD τ).loc main_arg0))
    (m ((c : Thread nD τ).loc main_arg1)) (m ((c : Thread nD τ).loc main_arg2)) := by
  refine (dats m 0 c).arrAt_eq_of_covers 4 _ (by decide +kernel) fun t _ y => ?_
  blk_simp
  rw [after0_4]
  frame_out
  obtain ⟨r, j, rfl⟩ : ∃ (r : Fin 512) (j : Fin 1024), y = ix2 r j := ⟨y 0, y 1, by idx_vars y⟩
  refine (q_at _ _ _ r j).trans ?_
  have e : ((cfg0.win 4).blk t).view.emb (ix2 r j) = ix2 (rowOf t r) j := by unfold rowOf; blk_ext [idx t]
  have ha (k : Fin 1024) : View.ld (iblk m c 2 t) r0_2 (ix2 k j) = column (m ((c : Thread nD τ).loc main_arg2))
      ⟨4096 + j.val, by omega⟩ k :=
    (Cert.Mixer.ld2 _ _ k j k (⟨j.val, by omega⟩ : Fin 4096) (by simp) (by simp)).trans (w_at m c t k _)
  rw [e]
  simp only [x_at, g_at, ha]
  rfl

/-- A gate's store, of the 1024 columns from `o`, at the place it is read. -/
theorem gate_at (t : Fin cfg0.N) (r : Fin 512) (j : Fin 3072) (o : ℕ) (h : Fin 1024) (ho : j.val = o + h.val)
    (ia : ∀ a, (![0, 1024 + o] : Fin 2 → ℕ) a + S1024x1024.size a ≤ S1024x4096.size a) (ib) :
    k0_pay5 (F := Ideal) (iblk m c 0 t) (iblk m c 1 t)
        (View.ld (iblk m c 2 t) (Rect.unit (s := S1024x4096) ![0, 1024 + o] S1024x1024.size ia))
        (View.ld (iblk m c 3 t) (Rect.unit (s := S1x3072) ![0, o] S1x1024.size ib)) (ix2 r h)
      = resultG (m ((c : Thread nD τ).loc main_arg0)) (m ((c : Thread nD τ).loc main_arg1))
          (m ((c : Thread nD τ).loc main_arg2)) (m ((c : Thread nD τ).loc main_arg3)) (ix2 (rowOf t r) j) := by
  refine (g0_at _ _ _ _ r h).trans ?_
  have ha (k : Fin 1024) : View.ld (iblk m c 2 t) (Rect.unit (s := S1024x4096) ![0, 1024 + o] S1024x1024.size ia) (ix2 k h)
      = column (m ((c : Thread nD τ).loc main_arg2)) ⟨5120 + j.val, by omega⟩ k :=
    ((Cert.Mixer.ld2 _ _ k h k (⟨1024 + j.val, by omega⟩ : Fin 4096) (by simp) (by simp only; omega)).trans (w_at m c t k _)).trans
      (congrArg (fun q => column _ q k) (Fin.ext (by simp only; omega)))
  have hb : View.ld (iblk m c 3 t) (Rect.unit (s := S1x3072) ![0, o] S1x1024.size ib) (ix2 0 h)
      = (m ((c : Thread nD τ).loc main_arg3) : FVec Ideal S1x3072 .f32) (ix2 0 j) :=
    (Cert.Mixer.ld2 _ _ 0 h 0 j (by simp) ho).trans (b_at m c t _)
  simp only [x_at, g_at, ha]
  rw [hb]
  rfl

/-- The kernel's gates: three stores side by side. -/
theorem finalG : (dats m 0 c).arrAt 5 cfg0.N = resultG (m ((c : Thread nD τ).loc main_arg0))
    (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  obtain ⟨r, j, rfl⟩ : ∃ (r : Fin 512) (j : Fin 3072), y = ix2 r j := ⟨y 0, y 1, by idx_vars y⟩
  have e : ((cfg0.win 5).blk t).view.emb (ix2 r j) = ix2 (rowOf t r) j := by unfold rowOf; blk_ext [idx t]
  rw [e, g1_eq, g2_eq]
  by_cases h2 : 2048 ≤ j.val
  · exact (Cert.Mixer.canon_hit _ _ _ r j r (⟨j.val - 2048, by omega⟩ : Fin 1024) (by simp) (by simp only; omega)).trans
      (gate_at m c t r j 2048 _ (by simp only; omega) _ _)
  refine (Cert.Mixer.canon_miss _ _ _ r j (by omega)).trans ?_
  by_cases h1 : 1024 ≤ j.val
  · exact (Cert.Mixer.canon_hit _ _ _ r j r (⟨j.val - 1024, by omega⟩ : Fin 1024) (by simp) (by simp only; omega)).trans
      (gate_at m c t r j 1024 _ (by simp only; omega) _ _)
  refine (Cert.Mixer.canon_miss _ _ _ r j (by omega)).trans ?_
  exact (Cert.Mixer.canon_hit _ _ _ r j r (⟨j.val, by omega⟩ : Fin 1024) (by simp) (by simp)).trans
    (gate_at m c t r j 0 _ (by simp) _ _)

end Kernel

section Reference

open Cert.GatesRefIdeal Cert.GatesRefIdeal.Read

/-- The reference's queries. -/
theorem refQ_at (x : FVec Ideal S16x4096x1024 .f32) (g : FVec Ideal S1x1024 .f32) (w : FVec Ideal S1x1024x8192 .f32) :
    val_main_v29 (F := Ideal) x g w = resultQ x g w := by
  funext i
  obtain ⟨r, j, rfl⟩ : ∃ (r : Fin 65536) (j : Fin 1024), i = ix2 r j := ⟨i 0, i 1, by idx_vars i⟩
  pointwise [resultQ, proj, rms, mean, tokenRow, gain, column, val_main_v31, val_main_v30, val_main_v29, val_main_v28, val_main_v27, val_main_v26, val_main_v25,
    val_main_v24, val_main_v23, val_main_v22, val_main_v21, val_main_v20, val_main_v19, val_main_v18,
    val_main_v17, val_main_v16, val_main_v15, val_main_v14, val_main_v13, val_main_v12, val_main_v11,
    val_main_v10, val_main_v9, val_main_v8, val_main_v7, val_main_v6, val_main_v5, val_main_v4, val_main_v3,
    val_main_v2, val_main_v1, val_main_v0, val_main_cst, val_main_cst_0, val_main_cst_1, val_main_cst_2,
    val_main_cst_3]

/-- The reference's gates. -/
theorem refG_at (x : FVec Ideal S16x4096x1024 .f32) (g : FVec Ideal S1x1024 .f32) (w : FVec Ideal S1x1024x8192 .f32)
    (b : FVec Ideal S1x3072 .f32) : val_main_v31 (F := Ideal) x g w b = resultG x g w b := by
  funext i
  obtain ⟨r, j, rfl⟩ : ∃ (r : Fin 65536) (j : Fin 3072), i = ix2 r j := ⟨i 0, i 1, by idx_vars i⟩
  pointwise [resultG, proj, rms, mean, tokenRow, gain, column, Ideal.logistic, val_main_v31, val_main_v30, val_main_v29, val_main_v28, val_main_v27, val_main_v26, val_main_v25,
    val_main_v24, val_main_v23, val_main_v22, val_main_v21, val_main_v20, val_main_v19, val_main_v18,
    val_main_v17, val_main_v16, val_main_v15, val_main_v14, val_main_v13, val_main_v12, val_main_v11,
    val_main_v10, val_main_v9, val_main_v8, val_main_v7, val_main_v6, val_main_v5, val_main_v4, val_main_v3,
    val_main_v2, val_main_v1, val_main_v0, val_main_cst, val_main_cst_0, val_main_cst_1, val_main_cst_2,
    val_main_cst_3]

/-- The reference leaves that array. -/
theorem refRun (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v29) = resultQ (m ((c.tc : Thread nD τ).loc main_arg0))
        (m ((c.tc : Thread nD τ).loc main_arg1)) (m ((c.tc : Thread nD τ).loc main_arg2))
      ∧ r.2.mem ((c.tc : Thread nD τ).loc main_v31) = resultG (m ((c.tc : Thread nD τ).loc main_arg0))
        (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run _ _ _).mono (fun r h c => ⟨(h c).1.trans ?_, (h c).2.1.trans ?_, (h c).2.2⟩) (Cert.GatesRefIdeal.Value.run m ρ)
  · exact refQ_at _ _ _
  · exact refG_at _ _ _ _

end Reference

/-- Each of the three programs runs to its end, the arguments as they were. -/
theorem frame : Cert.quiescent_Gates (hGates := Cert.Gates.Gen.facts) := fun m ρ _ => Cert.Gates.Gen.frame m ρ
theorem frameIdeal : Cert.quiescent_GatesIdeal (hGatesIdeal := Cert.GatesIdeal.Gen.facts) := fun m ρ _ => Cert.GatesIdeal.Gen.frame m ρ
theorem frameReference : Cert.quiescent_GatesRefIdeal (hGatesRefIdeal := Cert.GatesRefIdeal.Gen.facts) := fun m ρ _ =>
  (θ_run _ _ _).mono (fun r h => ⟨fun c => (h c).2.2, sem_eq_zero_of_no_sems (by decide) r.2⟩) (Cert.GatesRefIdeal.Value.run m ρ)

/-- The kernel's result array is the reference's. -/
theorem algebraic : Cert.algebraic_GatesIdeal_GatesRefIdeal (hGatesIdeal := Cert.GatesIdeal.Gen.facts)
    (hGatesRefIdeal := Cert.GatesRefIdeal.Gen.facts) := by
  pair_intro
  · run_from Cert.GatesIdeal.Gen.run_main m g
  · run_from refRun m' g'
    · exact (finalQ m c).symm
    · exact (finalG m c).symm

end Cert.Proj.Gates

end
-- ==== Proof.Proj.Kv.lean ====
/- The memory's keys and values: the kernel's block and the reference's array, both read at a row and a column. -/
module

public import proofs.«01_k».proof.Defs
public import proofs.«01_k».proof.Proof.Gen.Kv.Frame
public import proofs.«01_k».proof.Proof.Gen.KvIdeal.Frame
public import proofs.«01_k».proof.Proof.Gen.KvRefIdeal.Run
public import proofs.«01_k».proof.Proof.Gen.KvRefIdeal.Read
public import proofs.«01_k».proof.Proof.Proj.Spec
public import Idealize.ShloMosaic.Lib.Pipeline.ValueKit
public import Idealize.ShloMosaic.Adequacy
public import Idealize.ShloMosaic.Init
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Proj.Kv

/-- What row `r`, column `j` of the kernel's array holds: the memory row's norm against a column of the weight. -/
def rows (x : FVec Ideal ⟨3, ![16, 256, 1024]⟩ .f32) (g : FVec Ideal ⟨2, ![1, 1024]⟩ .f32)
    (w : FVec Ideal ⟨3, ![1, 1024, 2048]⟩ .f32) : FVec Ideal ⟨2, ![4096, 2048]⟩ .f32 := fun i =>
  proj (fun k => x (ix3 (⟨(i 0 : ℕ) / 256, by have : (i 0 : ℕ) < 4096 := (i 0).isLt; omega⟩ : Fin 16)
      (⟨(i 0 : ℕ) % 256, Nat.mod_lt _ (by decide)⟩ : Fin 256) k))
    (fun k => g (ix2 0 k)) (fun k => w (ix3 0 k (i 1)))

/-- The keys (`s = 0`) or the values (`s = 1`) of every memory row, by head: the columns from `1024 s` on. -/
def half (s : Fin 2) (x : FVec Ideal ⟨3, ![16, 256, 1024]⟩ .f32) (g : FVec Ideal ⟨2, ![1, 1024]⟩ .f32)
    (w : FVec Ideal ⟨3, ![1, 1024, 2048]⟩ .f32) : FVec Ideal ⟨5, ![1, 16, 256, 4, 256]⟩ .f32 := fun i =>
  proj (fun k => x (ix3 (⟨i 1, (i 1).isLt⟩ : Fin 16) (⟨i 2, (i 2).isLt⟩ : Fin 256) k)) (fun k => g (ix2 0 k))
    (fun k => w (ix3 0 k (⟨1024 * s.val + (i 3 : ℕ) * 256 + (i 4 : ℕ), by
      have : (i 3 : ℕ) < 4 := (i 3).isLt; have : (i 4 : ℕ) < 256 := (i 4).isLt; omega⟩ : Fin 2048)))

section Kernel

open Cert.KvIdeal Cert.KvIdeal.Gen

variable (m : (ℓ : Loc nD τ sig) → Buf (Elt Ideal) ℓ) (c : Dev nD)

/-- What the body stores, read at a row and a column. -/
theorem pay_at (x : FVec Ideal S512x1024 .f32) (g : FVec Ideal S1x1024 .f32) (w : FVec Ideal S1024x2048 .bf16)
    (r : Fin 512) (j : Fin 2048) : k0_pay1 (F := Ideal) x g w (ix2 r j)
      = proj (fun k => x (ix2 r k)) (fun k => g (ix2 0 k)) (fun k => w (ix2 k j)) := by
  pointwise [k0_pay1, proj, rms, mean]

/-- Which block of its array each window holds at a grid point. -/
theorem idx : ∀ t : Fin cfg0.N, win0_0.index t = ![t.val, 0] ∧ win0_1.index t = ![0, 0] ∧ win0_2.index t = ![0, 0]
    ∧ win0_3.index t = ![t.val, 0] :=
  (by decide +kernel : ∀ t : Fin grid0.N, _)

/-- The grid has eight points. -/
theorem lt_N (t : Fin cfg0.N) : t.val < 8 := lt_of_lt_of_eq t.isLt N_0

/-- What the host hands over: the memory's rows, the gain, the weight. -/
theorem entry_rows (r : Fin 4096) (k : Fin 1024) : V m c main_v0 (ix2 r k)
    = (m ((c : Thread nD τ).loc main_arg0) : FVec Ideal S16x256x1024 .f32)
        (ix3 (⟨r.val / 256, by omega⟩ : Fin 16) (⟨r.val % 256, Nat.mod_lt _ (by decide)⟩ : Fin 256) k) := by
  unfold V V0
  simp only [hostOps0, List.flatten_cons, List.flatten_nil, List.append_nil]
  after_results
  pointwise
theorem entry_gain (k : Fin 1024) : V m c main_v2 (ix2 (0 : Fin 1) k)
    = (m ((c : Thread nD τ).loc main_arg1) : FVec Ideal S1x1024 .f32) (ix2 0 k) := by
  unfold V V0
  simp only [hostOps0, List.flatten_cons, List.flatten_nil, List.append_nil]
  after_results
  pointwise
theorem entry_weight (k : Fin 1024) (j : Fin 2048) : V m c main_v4 (ix2 k j)
    = (m ((c : Thread nD τ).loc main_arg2) : FVec Ideal S1x1024x2048 .f32) (ix3 0 k j) := by
  unfold V V0
  simp only [hostOps0, List.flatten_cons, List.flatten_nil, List.append_nil]
  after_results
  pointwise

/-- Row `r` of block `t` of the memory is row `512 t + r` of all of it; every point reads the whole gain and weight. -/
theorem x_at (t : Fin cfg0.N) (r : Fin 512) (k : Fin 1024) : (iblk m c 0 t : FVec Ideal S512x1024 .f32) (ix2 r k)
    = (m ((c : Thread nD τ).loc main_arg0) : FVec Ideal S16x256x1024 .f32)
        (ix3 (⟨(512 * t.val + r.val) / 256, by have := lt_N t; omega⟩ : Fin 16)
          (⟨(512 * t.val + r.val) % 256, Nat.mod_lt _ (by decide)⟩ : Fin 256) k) := by
  have e : ((cfg0.win 0).blk t).view.emb (ix2 r k)
      = ix2 (⟨512 * t.val + r.val, by have := lt_N t; omega⟩ : Fin 4096) k := by blk_ext [idx t]
  exact (congrArg (V m c main_v0) e).trans (entry_rows m c _ k)
theorem g_at (t : Fin cfg0.N) (k : Fin 1024) : (iblk m c 1 t : FVec Ideal S1x1024 .f32) (ix2 0 k)
    = (m ((c : Thread nD τ).loc main_arg1) : FVec Ideal S1x1024 .f32) (ix2 0 k) := by
  have e : ((cfg0.win 1).blk t).view.emb (ix2 0 k) = ix2 (0 : Fin 1) k := by blk_ext [idx t]
  exact (congrArg (V m c main_v2) e).trans (entry_gain m c k)
theorem w_at (t : Fin cfg0.N) (k : Fin 1024) (j : Fin 2048) : (iblk m c 2 t : FVec Ideal S1024x2048 .bf16) (ix2 k j)
    = (m ((c : Thread nD τ).loc main_arg2) : FVec Ideal S1x1024x2048 .f32) (ix3 0 k j) := by
  have e : ((cfg0.win 2).blk t).view.emb (ix2 k j) = ix2 k j := by blk_ext [idx t]
  exact (congrArg (V m c main_v4) e).trans (entry_weight m c k j)

/-- The kernel's array. -/
theorem final : (dats m 0 c).arrAt 3 cfg0.N = rows (m ((c : Thread nD τ).loc main_arg0))
    (m ((c : Thread nD τ).loc main_arg1)) (m ((c : Thread nD τ).loc main_arg2)) := by
  refine (dats m 0 c).arrAt_eq_of_covers 3 _ (by decide +kernel) fun t _ y => ?_
  blk_simp
  rw [after0_3]
  frame_out
  obtain ⟨r, j, rfl⟩ : ∃ (r : Fin 512) (j : Fin 2048), y = ix2 r j := ⟨y 0, y 1, by idx_vars y⟩
  refine (pay_at _ _ _ r j).trans ?_
  have e : ((cfg0.win 3).blk t).view.emb (ix2 r j)
      = ix2 (⟨512 * t.val + r.val, by have := lt_N t; omega⟩ : Fin 4096) j := by blk_ext [idx t]
  rw [e]
  simp only [x_at, g_at, w_at]
  rfl

/-- The host's last lines cut that array into the keys and the values. -/
theorem tail_keys : Pipeline.afterTail₀ cfgs (dats m) 0 (V0 m) [hostOps1] c main_v10
    = half 0 (m ((c : Thread nD τ).loc main_arg0)) (m ((c : Thread nD τ).loc main_arg1)) (m ((c : Thread nD τ).loc main_arg2)) := by
  unfold Pipeline.afterTail₀
  unfold_abbrev_sides
  simp only [List.flatten_cons, List.flatten_nil, List.append_nil]
  after_results
  have e := (Pipeline.withArrays_arr (cfgs 0).spec (by decide) c (V0 m c) (fun w => (dats m 0 c).arrAt w (cfgs 0).N) 3).trans
    (final m c)
  erw [e]
  funext i
  obtain ⟨b, p, h, j, rfl⟩ : ∃ (b : Fin 16) (p : Fin 256) (h : Fin 4) (j : Fin 256), i = ix5 0 b p h j :=
    ⟨i 1, i 2, i 3, i 4, by idx_vars i; blk_ext⟩
  have e1 : (b.val * 256 + p.val) / 256 = b.val := by omega
  have e2 : (b.val * 256 + p.val) % 256 = p.val := by omega
  pointwise [half, rows, e1, e2]
theorem tail_values : Pipeline.afterTail₀ cfgs (dats m) 0 (V0 m) [hostOps1] c main_v12
    = half 1 (m ((c : Thread nD τ).loc main_arg0)) (m ((c : Thread nD τ).loc main_arg1)) (m ((c : Thread nD τ).loc main_arg2)) := by
  unfold Pipeline.afterTail₀
  unfold_abbrev_sides
  simp only [List.flatten_cons, List.flatten_nil, List.append_nil]
  after_results
  have e := (Pipeline.withArrays_arr (cfgs 0).spec (by decide) c (V0 m c) (fun w => (dats m 0 c).arrAt w (cfgs 0).N) 3).trans
    (final m c)
  erw [e]
  funext i
  obtain ⟨b, p, h, j, rfl⟩ : ∃ (b : Fin 16) (p : Fin 256) (h : Fin 4) (j : Fin 256), i = ix5 0 b p h j :=
    ⟨i 1, i 2, i 3, i 4, by idx_vars i; blk_ext⟩
  have e1 : (b.val * 256 + p.val) / 256 = b.val := by omega
  have e2 : (b.val * 256 + p.val) % 256 = p.val := by omega
  pointwise [half, rows, e1, e2]
  simp only [Nat.add_assoc]

end Kernel

section Reference

open Cert.KvRefIdeal Cert.KvRefIdeal.Read

/-- The reference's two arrays. -/
theorem keys_at (x : FVec Ideal S16x256x1024 .f32) (g : FVec Ideal S1x1024 .f32) (w : FVec Ideal S1x1024x2048 .f32) :
    val_main_v19 (F := Ideal) x g w = half 0 x g w := by
  funext i
  obtain ⟨b, p, h, j, rfl⟩ : ∃ (b : Fin 16) (p : Fin 256) (h : Fin 4) (j : Fin 256), i = ix5 0 b p h j :=
    ⟨i 1, i 2, i 3, i 4, by idx_vars i; blk_ext⟩
  pointwise [half, proj, rms, mean, val_main_v19, val_main_v18, val_main_v17, val_main_v16, val_main_v15,
    val_main_v14, val_main_v13, val_main_v12, val_main_v11, val_main_v10, val_main_v9, val_main_v8, val_main_v7,
    val_main_v6, val_main_v5, val_main_v4, val_main_v3, val_main_v2, val_main_v1, val_main_v0, val_main_cst,
    val_main_cst_0, val_main_cst_1]
theorem values_at (x : FVec Ideal S16x256x1024 .f32) (g : FVec Ideal S1x1024 .f32) (w : FVec Ideal S1x1024x2048 .f32) :
    val_main_v22 (F := Ideal) x g w = half 1 x g w := by
  funext i
  obtain ⟨b, p, h, j, rfl⟩ : ∃ (b : Fin 16) (p : Fin 256) (h : Fin 4) (j : Fin 256), i = ix5 0 b p h j :=
    ⟨i 1, i 2, i 3, i 4, by idx_vars i; blk_ext⟩
  pointwise [half, proj, rms, mean, val_main_v22, val_main_v21, val_main_v20, val_main_v16, val_main_v15,
    val_main_v14, val_main_v13, val_main_v12, val_main_v11, val_main_v10, val_main_v9, val_main_v8, val_main_v7,
    val_main_v6, val_main_v5, val_main_v4, val_main_v3, val_main_v2, val_main_v1, val_main_v0, val_main_cst,
    val_main_cst_0, val_main_cst_1]

/-- The reference leaves those arrays. -/
theorem refRun (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v19) = half 0 (m ((c.tc : Thread nD τ).loc main_arg0))
        (m ((c.tc : Thread nD τ).loc main_arg1)) (m ((c.tc : Thread nD τ).loc main_arg2))
      ∧ r.2.mem ((c.tc : Thread nD τ).loc main_v22) = half 1 (m ((c.tc : Thread nD τ).loc main_arg0))
        (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run _ _ _).mono (fun r h c => ⟨(h c).1.trans ?_, (h c).2.1.trans ?_, (h c).2.2⟩) (Cert.KvRefIdeal.Value.run m ρ)
  · exact keys_at _ _ _
  · exact values_at _ _ _

end Reference

/-- Each of the three programs runs to its end, the arguments as they were. -/
theorem frame : Cert.quiescent_Kv (hKv := Cert.Kv.Gen.facts) := fun m ρ _ => Cert.Kv.Gen.frame m ρ
theorem frameIdeal : Cert.quiescent_KvIdeal (hKvIdeal := Cert.KvIdeal.Gen.facts) := fun m ρ _ => Cert.KvIdeal.Gen.frame m ρ
theorem frameReference : Cert.quiescent_KvRefIdeal (hKvRefIdeal := Cert.KvRefIdeal.Gen.facts) := fun m ρ _ =>
  (θ_run _ _ _).mono (fun r h => ⟨fun c => (h c).2.2, sem_eq_zero_of_no_sems (by decide) r.2⟩) (Cert.KvRefIdeal.Value.run m ρ)

/-- The kernel's keys and values are the reference's. -/
theorem algebraic : Cert.algebraic_KvIdeal_KvRefIdeal (hKvIdeal := Cert.KvIdeal.Gen.facts)
    (hKvRefIdeal := Cert.KvRefIdeal.Gen.facts) := by
  pair_intro
  · run_from Cert.KvIdeal.Gen.run_main m g
    · exact Cert.KvIdeal.Gen.W_main_arg0 m _ c
    · exact Cert.KvIdeal.Gen.W_main_arg1 m _ c
    · exact Cert.KvIdeal.Gen.W_main_arg2 m _ c
  · run_from refRun m' g'
    all_goals obtain ⟨a0, a1, a2⟩ := hagree c
    · refine Eq.trans ?_ (tail_keys m c).symm
      simp only [a0, a1, a2]
    · refine Eq.trans ?_ (tail_values m c).symm
      simp only [a0, a1, a2]

end Cert.Proj.Kv

end
-- ==== Proof.Proj.Gmlp.lean ====
/- The gated MLP's two halves: the kernel's blocks and the reference's arrays, both read at a row and a column. -/
module

public import proofs.«01_k».proof.Defs
public import proofs.«01_k».proof.Proof.Gen.Gmlp.Frame
public import proofs.«01_k».proof.Proof.Gen.GmlpIdeal.Frame
public import proofs.«01_k».proof.Proof.Gen.GmlpRefIdeal.Run
public import proofs.«01_k».proof.Proof.Gen.GmlpRefIdeal.Read
public import proofs.«01_k».proof.Proof.Proj.Spec
public import proofs.«01_k».proof.Proof.Mixer.Pieces
public import Idealize.ShloMosaic.Lib.Pipeline.ValueKit
public import Idealize.ShloMosaic.Adequacy
public import Idealize.ShloMosaic.Init
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Proj.Gmlp

/-- Row `r`, column `j` of the first half: gelu of the projection to column `j`. -/
def resultU (x : FVec Ideal ⟨3, ![16, 4096, 1024]⟩ .f32) (g : FVec Ideal ⟨2, ![1, 1024]⟩ .f32)
    (w : FVec Ideal ⟨3, ![1, 1024, 8192]⟩ .f32) : FVec Ideal ⟨2, ![65536, 1024]⟩ .bf16 := fun i =>
  gelu (proj (tokenRow x (i 0)) (gain g) (column w ⟨(i 1 : ℕ), by have : (i 1 : ℕ) < 1024 := (i 1).isLt; omega⟩))

/-- Row `r`, column `j` of the second half: the layer norm of the gelus of the projections to columns 1024 to 2047. -/
def resultV (x : FVec Ideal ⟨3, ![16, 4096, 1024]⟩ .f32) (g : FVec Ideal ⟨2, ![1, 1024]⟩ .f32)
    (w : FVec Ideal ⟨3, ![1, 1024, 8192]⟩ .f32) (lg lb : FVec Ideal ⟨2, ![1, 1024]⟩ .f32) :
    FVec Ideal ⟨2, ![65536, 1024]⟩ .f32 := fun i =>
  layernorm (fun l => gelu (proj (tokenRow x (i 0)) (gain g) (column w ⟨1024 + (l : ℕ), by omega⟩)))
    (gain lg) (gain lb) (i 1)

section Kernel

open Cert.GmlpIdeal Cert.GmlpIdeal.Gen

variable (m : (ℓ : Loc nD τ sig) → Buf (Elt Ideal) ℓ) (c : Dev nD)

/-- The kernel's named constant. -/
theorem rootCube_eq : Named.named (F := Ideal) Cert.GmlpIdeal.κ "root_cube" (φ := .f32) 0x3D122279#32 = (rootCube : EReal) :=
  IdealRules.named_const.ideal_named_scalar _ _ _ _ rfl

/-- The projection of the second half, read at a row and a column. -/
theorem h_at (x : FVec Ideal S512x1024 .f32) (g : FVec Ideal S1x1024 .f32) (a : FVec Ideal S1024x1024 .bf16)
    (r : Fin 512) (j : Fin 1024) : k0_pay4 (F := Ideal) x g a (ix2 r j)
      = proj (fun k => x (ix2 r k)) (fun k => g (ix2 0 k)) (fun k => a (ix2 k j)) := by
  pointwise [k0_pay4, k0_pay2, proj, rms, mean]

/-- The first half's store. -/
theorem u_at (x : FVec Ideal S512x1024 .f32) (g : FVec Ideal S1x1024 .f32) (a : FVec Ideal S1024x1024 .bf16)
    (r : Fin 512) (j : Fin 1024) : k0_pay3 (F := Ideal) x g a (ix2 r j)
      = geluOut (proj (fun k => x (ix2 r k)) (fun k => g (ix2 0 k)) (fun k => a (ix2 k j))) := by
  pointwise [k0_pay3, k0_pay2, proj, rms, mean, geluOut, rootCube_eq]

/-- The second half's store, over its projection `v`. -/
theorem v_at (v : FVec Ideal S512x1024 .f32) (lg lb : FVec Ideal S1x1024 .f32) (r : Fin 512) (j : Fin 1024) :
    k0_pay1 (F := Ideal) v (mulf v v) (Named.named κ "root_cube" 0x3D122279#32) lg lb (ix2 r j)
      = layernorm (fun l => geluOut (v (ix2 r l))) (fun k => lg (ix2 0 k)) (fun k => lb (ix2 0 k)) j := by
  pointwise [k0_pay1, layernorm, mean, geluOut, rootCube_eq]

/-- Which block of its array each window holds at a grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0] :=
  (by decide +kernel : ∀ t : Fin grid0.N, _)

/-- Row `r` of block `t`, among all the rows. -/
def rowOf (t : Fin cfg0.N) (r : Fin 512) : Fin 65536 :=
  ⟨512 * t.val + r.val, by have : t.val < 128 := lt_of_lt_of_eq t.isLt N_0; omega⟩

/-- Row `r` of block `t` of the tokens is row `512 t + r` of all of them. -/
theorem x_at (t : Fin cfg0.N) (r : Fin 512) (k : Fin 1024) : (iblk m c 0 t : FVec Ideal S512x1024 .f32) (ix2 r k)
    = tokenRow (m ((c : Thread nD τ).loc main_arg0)) (rowOf t r) k := by
  unfold tokenRow rowOf
  blk_simp [iblk, idx t]
  entry_read
  pointwise
  blk_ext [idx t]

/-- Every point reads the whole gain. -/
theorem g_at (t : Fin cfg0.N) (k : Fin 1024) : (iblk m c 1 t : FVec Ideal S1x1024 .f32) (ix2 0 k)
    = gain (m ((c : Thread nD τ).loc main_arg1)) k := by
  unfold gain
  blk_simp [iblk, idx t]
  entry_read
  pointwise
  blk_ext [idx t]

/-- Every point reads the same columns of the weight, the first 2048. -/
theorem w_at (t : Fin cfg0.N) (k : Fin 1024) (j : Fin 2048) : (iblk m c 2 t : FVec Ideal S1024x2048 .bf16) (ix2 k j)
    = column (m ((c : Thread nD τ).loc main_arg2)) ⟨j.val, by omega⟩ k := by
  unfold column
  blk_simp [iblk, idx t]
  entry_read
  pointwise
  blk_ext [idx t]

/-- Every point reads the whole gain and offset of the layer norm. -/
theorem lg_at (t : Fin cfg0.N) (k : Fin 1024) : (iblk m c 3 t : FVec Ideal S1x1024 .f32) (ix2 0 k)
    = gain (m ((c : Thread nD τ).loc main_arg3)) k := by
  unfold gain
  blk_simp [iblk, idx t]
  entry_read
  pointwise
  blk_ext [idx t]
theorem lb_at (t : Fin cfg0.N) (k : Fin 1024) : (iblk m c 4 t : FVec Ideal S1x1024 .f32) (ix2 0 k)
    = gain (m ((c : Thread nD τ).loc main_arg4)) k := by
  unfold gain
  blk_simp [iblk, idx t]
  entry_read
  pointwise
  blk_ext [idx t]

/-- The kernel's first half. -/
theorem finalU : (dats m 0 c).arrAt 5 cfg0.N = resultU (m ((c : Thread nD τ).loc main_arg0))
    (m ((c : Thread nD τ).loc main_arg1)) (m ((c : Thread nD τ).loc main_arg2)) := by
  refine (dats m 0 c).arrAt_eq_of_covers 5 _ (by decide +kernel) fun t _ y => ?_
  blk_simp
  rw [after0_5]
  frame_out
  obtain ⟨r, j, rfl⟩ : ∃ (r : Fin 512) (j : Fin 1024), y = ix2 r j := ⟨y 0, y 1, by idx_vars y⟩
  refine (u_at _ _ _ r j).trans ?_
  have e : ((cfg0.win 5).blk t).view.emb (ix2 r j) = ix2 (rowOf t r) j := by unfold rowOf; blk_ext [idx t]
  have ha (k : Fin 1024) : View.ld (iblk m c 2 t) r0_2 (ix2 k j) = column (m ((c : Thread nD τ).loc main_arg2))
      ⟨j.val, by omega⟩ k :=
    (Cert.Mixer.ld2 _ _ k j k (⟨j.val, by omega⟩ : Fin 2048) (by simp) (by simp)).trans (w_at m c t k _)
  rw [e, geluOut_eq]
  simp only [x_at, g_at, ha]
  rfl

/-- The kernel's second half. -/
theorem finalV : (dats m 0 c).arrAt 6 cfg0.N = resultV (m ((c : Thread nD τ).loc main_arg0))
    (m ((c : Thread nD τ).loc main_arg1)) (m ((c : Thread nD τ).loc main_arg2)) (m ((c : Thread nD τ).loc main_arg3))
    (m ((c : Thread nD τ).loc main_arg4)) := by
  refine (dats m 0 c).arrAt_eq_of_covers 6 _ (by decide +kernel) fun t _ y => ?_
  blk_simp
  rw [after0_6]
  frame_out
  obtain ⟨r, j, rfl⟩ : ∃ (r : Fin 512) (j : Fin 1024), y = ix2 r j := ⟨y 0, y 1, by idx_vars y⟩
  refine (v_at _ _ _ r j).trans ?_
  have e : ((cfg0.win 6).blk t).view.emb (ix2 r j) = ix2 (rowOf t r) j := by unfold rowOf; blk_ext [idx t]
  have ha (k l : Fin 1024) : View.ld (iblk m c 2 t) r0_3 (ix2 k l) = column (m ((c : Thread nD τ).loc main_arg2))
      ⟨1024 + l.val, by omega⟩ k :=
    (Cert.Mixer.ld2 _ _ k l k (⟨1024 + l.val, by omega⟩ : Fin 2048) (by simp) (by simp)).trans (w_at m c t k _)
  rw [e]
  simp only [geluOut_eq, h_at, x_at, g_at, ha, lg_at, lb_at]
  rfl

end Kernel

section Reference

open Cert.GmlpRefIdeal Cert.GmlpRefIdeal.Read

/-- The reference's gelu of the projection to column `j`. -/
theorem act_at (x : FVec Ideal S16x4096x1024 .f32) (g : FVec Ideal S1x1024 .f32) (w : FVec Ideal S1x1024x8192 .f32)
    (b : Fin 16) (t : Fin 4096) (j : Fin 2048) : val_main_v29 (F := Ideal) x g w (ix3 b t j)
      = gelu (proj (fun k => x (ix3 b t k)) (gain g) (column w ⟨j.val, by omega⟩)) := by
  have h : val_main_v16 (F := Ideal) x g w (ix3 b t j)
      = proj (fun k => x (ix3 b t k)) (gain g) (column w ⟨j.val, by omega⟩) := by
    pointwise [proj, rms, mean, gain, column, val_main_v16, val_main_v15, val_main_v14, val_main_v13, val_main_v12, val_main_v11, val_main_v10, val_main_v9,
    val_main_v8, val_main_v7, val_main_v6, val_main_v5, val_main_v4, val_main_v3, val_main_v2, val_main_v1,
    val_main_v0, val_main_cst, val_main_cst_0, val_main_cst_1]
  rw [← h]
  pointwise [gelu, val_main_v29, val_main_v28, val_main_v27, val_main_v26, val_main_v25, val_main_v24, val_main_v23,
    val_main_v22, val_main_v21, val_main_v20, val_main_v19, val_main_v18, val_main_v17, val_main_cst_2,
    val_main_cst_3, val_main_cst_4, val_main_cst_5]

/-- The reference's first half. -/
theorem refU_at (x : FVec Ideal S16x4096x1024 .f32) (g : FVec Ideal S1x1024 .f32) (w : FVec Ideal S1x1024x8192 .f32) :
    val_main_v59 (F := Ideal) x g w = resultU x g w := by
  funext i
  obtain ⟨r, j, rfl⟩ : ∃ (r : Fin 65536) (j : Fin 1024), i = ix2 r j := ⟨i 0, i 1, by idx_vars i⟩
  pointwise [resultU, val_main_v59, val_main_v58, val_main_v30]
  exact act_at x g w _ _ _

/-- The reference's second half. -/
theorem refV_at (x : FVec Ideal S16x4096x1024 .f32) (g : FVec Ideal S1x1024 .f32) (w : FVec Ideal S1x1024x8192 .f32)
    (lg lb : FVec Ideal S1x1024 .f32) : val_main_v60 (F := Ideal) x g w lg lb = resultV x g w lg lb := by
  funext i
  obtain ⟨r, j, rfl⟩ : ∃ (r : Fin 65536) (j : Fin 1024), i = ix2 r j := ⟨i 0, i 1, by idx_vars i⟩
  pointwise [resultV, layernorm, mean, gain, val_main_v60, val_main_v57, val_main_v56, val_main_v55, val_main_v54, val_main_v53, val_main_v52,
    val_main_v51, val_main_v50, val_main_v49, val_main_v48, val_main_v47, val_main_v46, val_main_v45,
    val_main_v44, val_main_v43, val_main_v42, val_main_v41, val_main_v40, val_main_v39, val_main_v38,
    val_main_v37, val_main_v36, val_main_v35, val_main_v34, val_main_v33, val_main_v32, val_main_v31,
    val_main_cst_6, val_main_cst_7, val_main_cst_8, val_main_cst_9, val_main_cst_10]
  simp only [act_at]
  rfl

/-- The reference leaves that array. -/
theorem refRun (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v59) = resultU (m ((c.tc : Thread nD τ).loc main_arg0))
        (m ((c.tc : Thread nD τ).loc main_arg1)) (m ((c.tc : Thread nD τ).loc main_arg2))
      ∧ r.2.mem ((c.tc : Thread nD τ).loc main_v60) = resultV (m ((c.tc : Thread nD τ).loc main_arg0))
        (m ((c.tc : Thread nD τ).loc main_arg1)) (m ((c.tc : Thread nD τ).loc main_arg2)) (m ((c.tc : Thread nD τ).loc main_arg3))
        (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run _ _ _).mono (fun r h c => ⟨(h c).1.trans ?_, (h c).2.1.trans ?_, (h c).2.2⟩) (Cert.GmlpRefIdeal.Value.run m ρ)
  · exact refU_at _ _ _
  · exact refV_at _ _ _ _ _

end Reference

/-- Each of the three programs runs to its end, the arguments as they were. -/
theorem frame : Cert.quiescent_Gmlp (hGmlp := Cert.Gmlp.Gen.facts) := fun m ρ _ => Cert.Gmlp.Gen.frame m ρ
theorem frameIdeal : Cert.quiescent_GmlpIdeal (hGmlpIdeal := Cert.GmlpIdeal.Gen.facts) := fun m ρ _ => Cert.GmlpIdeal.Gen.frame m ρ
theorem frameReference : Cert.quiescent_GmlpRefIdeal (hGmlpRefIdeal := Cert.GmlpRefIdeal.Gen.facts) := fun m ρ _ =>
  (θ_run _ _ _).mono (fun r h => ⟨fun c => (h c).2.2, sem_eq_zero_of_no_sems (by decide) r.2⟩) (Cert.GmlpRefIdeal.Value.run m ρ)

/-- The ideal kernel is the kernel with its one constant named. -/
theorem preserves : Cert.preserves_Gmlp_GmlpIdeal := IdealRules.named_const.statement _ _ _ _ _ rfl

/-- The kernel's result array is the reference's. -/
theorem algebraic : Cert.algebraic_GmlpIdeal_GmlpRefIdeal (hGmlpIdeal := Cert.GmlpIdeal.Gen.facts)
    (hGmlpRefIdeal := Cert.GmlpRefIdeal.Gen.facts) := by
  pair_intro
  · run_from Cert.GmlpIdeal.Gen.run_main m g
  · run_from refRun m' g'
    · exact (finalU m c).symm
    · exact (finalV m c).symm

end Cert.Proj.Gmlp

end
-- ==== Proof.Sample.Padded.lean ====
/- The sample's tokens as the kernel takes them: 16 of each sequence, in a chunk of 128 rows whose rest is zero. -/
module

public import Idealize.ShloMosaic.Lib.Pipeline.ValueKit

@[expose] public section

set_option maxRecDepth 16384

noncomputable section

open Idealize.ShloMosaic Idealize.ShloMosaic.TcCoe Idealize.SL.Sem

namespace Cert.Sample

/-- A token within a chunk's padding: zero from position 16 on. -/
def padded (x : FVec Ideal ⟨3, ![8, 16, 1024]⟩ .f32) (i : Fin 1024) (k : Fin 1024) : EReal :=
  if h : i.val % 128 < 16 then x (ix3 (⟨i.val / 128, by omega⟩ : Fin 8) (⟨i.val % 128, h⟩ : Fin 16) k) else 0

/-- The padded tokens as one array of rows. -/
def paddedRows (x : FVec Ideal ⟨3, ![8, 16, 1024]⟩ .f32) : FVec Ideal ⟨2, ![1024, 1024]⟩ .f32 := fun i => padded x (i 0) (i 1)

/-- The host's padding, reshaped to rows, is that array. -/
theorem pad_rows (x : FVec Ideal ⟨3, ![8, 16, 1024]⟩ .f32)
    (h : (⟨3, ![8, 16, 1024]⟩ : Shape).Pads ![0, 0, 0] ![0, 112, 0] ![0, 0, 0] ⟨3, ![8, 128, 1024]⟩)
    (h0 : 0 < (⟨0, ![]⟩ : Shape).numel) (hc : (⟨3, ![8, 128, 1024]⟩ : Shape).ShapeCasts ⟨2, ![1024, 1024]⟩) :
    shapeCast ⟨2, ![1024, 1024]⟩ (pad (α := EReal) ⟨3, ![8, 128, 1024]⟩ ![0, 0, 0] ![0, 112, 0] ![0, 0, 0] x
      (sitofp (F := Ideal) .f32 (constantI ⟨0, ![]⟩ 32 0#32)) h h0) hc = paddedRows x := by
  funext i
  obtain ⟨r, k, rfl⟩ : ∃ (r : Fin 1024) (k : Fin 1024), i = ix2 r k := ⟨i 0, i 1, by idx_vars i⟩
  pointwise [paddedRows, padded]
  rw [show ((FloatOps.sitofp (F := Ideal) .f32 0#32 : EReal)) = 0 from by simp [FloatOps.sitofp]]
  have h8 : r.val / 128 < 8 := by omega
  simp only [h8, true_and]

/-- Row `p` of chunk `b`, among the 1024 rows. -/
def chunkRow (b : Fin 8) (p : Fin 16) : Fin 1024 := ⟨b.val * 128 + p.val, by omega⟩

/-- That row of the padded tokens is token `p` of sequence `b`. -/
theorem padded_chunkRow (x : FVec Ideal ⟨3, ![8, 16, 1024]⟩ .f32) (b : Fin 8) (p : Fin 16) :
    padded x (chunkRow b p) = fun k => x (ix3 b p k) := by
  have hb : (b.val * 128 + p.val) / 128 = b.val := by omega
  have hp : (b.val * 128 + p.val) % 128 = p.val := by omega
  funext k
  simp only [padded, chunkRow, hb, hp, p.isLt, dite_true, Fin.eta]

end Cert.Sample

end
-- ==== Proof.Sample.Conv.lean ====
/- The convolution's new state for the sample: its last 14 rows of the old state and the 16 rows of its gated linear unit,
   which the kernel computes in chunks of 128 rows that the tokens only begin. -/
module

public import proofs.«01_k».proof.Defs
public import proofs.«01_k».proof.Proof.Gen.ConvSample.Frame
public import proofs.«01_k».proof.Proof.Gen.ConvSampleIdeal.Frame
public import proofs.«01_k».proof.Proof.Gen.ConvSampleRefIdeal.Run
public import proofs.«01_k».proof.Proof.Gen.ConvSampleRefIdeal.Read
public import proofs.«01_k».proof.Proof.Proj.Glu
public import proofs.«01_k».proof.Proof.Sample.Padded

@[expose] public section

set_option maxRecDepth 16384

noncomputable section

open Idealize.ShloMosaic Idealize.ShloMosaic.TcCoe Idealize.SL.Sem
open Idealize.ShloMosaic.Pipeline (Dat)

namespace Cert.Sample.Conv

open Cert.Proj

/-- The gated linear unit of token `p` of sequence `b`, at channel `j`. -/
def glu (x : FVec Ideal ⟨3, ![8, 16, 1024]⟩ .f32) (g : FVec Ideal ⟨2, ![1, 1024]⟩ .f32)
    (w : FVec Ideal ⟨3, ![1, 1024, 8192]⟩ .f32) (b : Fin 8) (p : Fin 16) (j : Fin 1024) : EReal :=
  proj (fun k => x (ix3 b p k)) (gain g) (column w ⟨2048 + j.val, by omega⟩)
    * Ideal.logistic (proj (fun k => x (ix3 b p k)) (gain g) (column w ⟨2048 + (1024 + j.val), by omega⟩))

/-- The new state: 14 rows of the old one, from row 16 on, and then the 16 rows of `y`. -/
def newState (s : FVec Ideal ⟨4, ![1, 8, 30, 1024]⟩ .f32) (y : Fin 8 → Fin 16 → Fin 1024 → EReal) :
    FVec Ideal ⟨4, ![1, 8, 30, 1024]⟩ .f32 := fun i =>
  have hp : (i 2 : ℕ) < 30 := (i 2).isLt
  if h : (i 2 : ℕ) < 14 then s (ix4 (0 : Fin 1) (⟨i 1, (i 1).isLt⟩ : Fin 8) (⟨16 + (i 2 : ℕ), by omega⟩ : Fin 30) (⟨i 3, (i 3).isLt⟩ : Fin 1024))
  else y ⟨i 1, (i 1).isLt⟩ ⟨(i 2 : ℕ) - 14, by omega⟩ ⟨i 3, (i 3).isLt⟩

section Kernel

open Cert.ConvSampleIdeal Cert.ConvSampleIdeal.Gen

variable (m : (ℓ : Loc nD τ sig) → Buf (Elt Ideal) ℓ) (c : Dev nD)

/-- Which block of its array each window holds at a grid point. -/
theorem idx : ∀ t : Fin cfg0.N, win0_0.index t = ![t.val, 0] ∧ win0_1.index t = ![0, 0] ∧ win0_2.index t = ![0, 0]
    ∧ win0_3.index t = ![t.val, 0] :=
  (by decide +kernel : ∀ t : Fin grid0.N, _)

/-- Row `r` of block `t`, among all the rows. -/
def rowOf (t : Fin cfg0.N) (r : Fin 512) : Fin 1024 :=
  ⟨512 * t.val + r.val, by have : t.val < 2 := lt_of_lt_of_eq t.isLt N_0; omega⟩

/-- The kernel's array of tokens: each chunk's first 16 rows are the sample's, the rest is zero. -/
theorem entry : V m c main_v3 = paddedRows (m ((c : Thread nD τ).loc main_arg0)) := by
  unfold V V0
  simp only [hostOps0, hostOps0_1, hostOps0_2, List.flatten_cons, List.flatten_nil, List.append_nil, List.cons_append,
    List.nil_append]
  after_results
  exact pad_rows _ pads_S8x16x1024_S8x128x1024_000_01120_000 h_S_ shapeCasts_S8x128x1024_S1024x1024

/-- Row `r` of block `t` of the tokens is row `512 t + r` of the padded ones. -/
theorem x_at (t : Fin cfg0.N) (r : Fin 512) (k : Fin 1024) : (iblk m c 0 t : FVec Ideal S512x1024 .f32) (ix2 r k)
    = padded (m ((c : Thread nD τ).loc main_arg0)) (rowOf t r) k := by
  have e : ((cfg0.win 0).blk t).view.emb (ix2 r k) = ix2 (rowOf t r) k := by unfold rowOf; blk_ext [idx t]
  exact (congrArg (V m c main_v3) e).trans (congrFun (entry m c) _)

/-- The kernel's gain and its columns of the weight. -/
theorem entry_gain (k : Fin 1024) : V m c main_v5 (ix2 (0 : Fin 1) k) = gain (m ((c : Thread nD τ).loc main_arg2)) k := by
  unfold V V0
  simp only [hostOps0, hostOps0_1, hostOps0_2, List.flatten_cons, List.flatten_nil, List.append_nil, List.cons_append,
    List.nil_append]
  after_results
  unfold gain
  pointwise
theorem entry_weight (k : Fin 1024) (j : Fin 2048) : V m c main_v6 (ix2 k j)
    = column (m ((c : Thread nD τ).loc main_arg3)) ⟨2048 + j.val, by omega⟩ k := by
  unfold V V0
  simp only [hostOps0, hostOps0_1, hostOps0_2, List.flatten_cons, List.flatten_nil, List.append_nil, List.cons_append,
    List.nil_append]
  after_results
  unfold column
  pointwise

/-- Every point reads the whole gain, and the same columns of the weight. -/
theorem g_at (t : Fin cfg0.N) (k : Fin 1024) : (iblk m c 1 t : FVec Ideal S1x1024 .f32) (ix2 0 k)
    = gain (m ((c : Thread nD τ).loc main_arg2)) k := by
  have e : ((cfg0.win 1).blk t).view.emb (ix2 0 k) = ix2 (0 : Fin 1) k := by blk_ext [idx t]
  exact (congrArg (V m c main_v5) e).trans (entry_gain m c k)
theorem w_at (t : Fin cfg0.N) (k : Fin 1024) (j : Fin 2048) : (iblk m c 2 t : FVec Ideal S1024x2048 .bf16) (ix2 k j)
    = column (m ((c : Thread nD τ).loc main_arg3)) ⟨2048 + j.val, by omega⟩ k := by
  have e : ((cfg0.win 2).blk t).view.emb (ix2 k j) = ix2 k j := by blk_ext [idx t]
  exact (congrArg (V m c main_v6) e).trans (entry_weight m c k j)

/-- The region's array: the gated linear unit of every padded row. -/
def rows (x : FVec Ideal ⟨3, ![8, 16, 1024]⟩ .f32) (g : FVec Ideal ⟨2, ![1, 1024]⟩ .f32)
    (w : FVec Ideal ⟨3, ![1, 1024, 8192]⟩ .f32) : FVec Ideal ⟨2, ![1024, 1024]⟩ .f32 := fun i =>
  proj (padded x (i 0)) (gain g) (column w ⟨2048 + (i 1 : ℕ), by have : (i 1 : ℕ) < 1024 := (i 1).isLt; omega⟩)
    * Ideal.logistic (proj (padded x (i 0)) (gain g)
        (column w ⟨2048 + (1024 + (i 1 : ℕ)), by have : (i 1 : ℕ) < 1024 := (i 1).isLt; omega⟩))

theorem final : (dats m 0 c).arrAt 3 cfg0.N = rows (m ((c : Thread nD τ).loc main_arg0))
    (m ((c : Thread nD τ).loc main_arg2)) (m ((c : Thread nD τ).loc main_arg3)) := by
  refine (dats m 0 c).arrAt_eq_of_covers 3 _ (by decide +kernel) fun t _ y => ?_
  blk_simp
  rw [after0_3]
  frame_out
  obtain ⟨r, j, rfl⟩ : ∃ (r : Fin 512) (j : Fin 1024), y = ix2 r j := ⟨y 0, y 1, by idx_vars y⟩
  refine (Cert.Proj.Glu.pay_at _ _ _ _ r j).trans ?_
  have e : ((cfg0.win 3).blk t).view.emb (ix2 r j) = ix2 (rowOf t r) j := by unfold rowOf; blk_ext [idx t]
  have ha (k : Fin 1024) : View.ld (iblk m c 2 t) r0_2 (ix2 k j) = column (m ((c : Thread nD τ).loc main_arg3))
      ⟨2048 + j.val, by omega⟩ k :=
    (Cert.Mixer.ld2 _ _ k j k (⟨j.val, by omega⟩ : Fin 2048) (by simp) (by simp)).trans (w_at m c t k _)
  have hb (k : Fin 1024) : View.ld (iblk m c 2 t) r0_3 (ix2 k j) = column (m ((c : Thread nD τ).loc main_arg3))
      ⟨2048 + (1024 + j.val), by omega⟩ k :=
    (Cert.Mixer.ld2 _ _ k j k (⟨1024 + j.val, by omega⟩ : Fin 2048) (by simp) (by simp)).trans (w_at m c t k _)
  rw [e]
  simp only [x_at, g_at, ha, hb]
  rfl

/-- What the host's last lines make of the region's array: the old state's last rows, then the unit of the tokens. -/
theorem tail : Pipeline.afterTail₀ cfgs (dats m) 0 (V0 m) [hostOps1] c main_v13
    = newState (m ((c : Thread nD τ).loc main_arg1)) (glu (m ((c : Thread nD τ).loc main_arg0))
        (m ((c : Thread nD τ).loc main_arg2)) (m ((c : Thread nD τ).loc main_arg3))) := by
  unfold Pipeline.afterTail₀
  unfold_abbrev_sides
  simp only [List.flatten_cons, List.flatten_nil, List.append_nil]
  after_results
  have e7 := (Pipeline.withArrays_arr (cfgs 0).spec (by decide) c (V0 m c) (fun w => (dats m 0 c).arrAt w (cfgs 0).N) 3).trans
    (final m c)
  have e1 := (Pipeline.withArrays_of_ne (cfgs 0).spec c (V0 m c) (fun w => (dats m 0 c).arrAt w (cfgs 0).N) main_arg1
    (by decide)).trans (V_main_arg1 m c)
  erw [e7, e1]
  funext i
  obtain ⟨b, p, j, rfl⟩ : ∃ (b : Fin 8) (p : Fin 30) (j : Fin 1024), i = ix4 0 b p j :=
    ⟨i 1, i 2, i 3, by idx_vars i; blk_ext⟩
  pointwise [newState]
  split
  · rfl
  · rename_i hp
    have e := padded_chunkRow (m ((c : Thread nD τ).loc main_arg0)) b ⟨p.val - 14, by omega⟩
    simp only [glu, ← e]
    rfl

end Kernel

section Reference

open Cert.ConvSampleRefIdeal Cert.ConvSampleRefIdeal.Read

/-- The reference's array. -/
theorem ref_at (x : FVec Ideal S8x16x1024 .f32) (s : FVec Ideal S1x8x30x1024 .f32) (g : FVec Ideal S1x1024 .f32)
    (w : FVec Ideal S1x1024x8192 .f32) : val_main_v29 (F := Ideal) x s g w = newState s (glu x g w) := by
  funext i
  obtain ⟨b, p, j, rfl⟩ : ∃ (b : Fin 8) (p : Fin 30) (j : Fin 1024), i = ix4 0 b p j :=
    ⟨i 1, i 2, i 3, by idx_vars i; blk_ext⟩
  pointwise [newState, glu, proj, rms, mean, gain, column, Ideal.logistic, val_main_v29, val_main_v28, val_main_v27,
    val_main_v26, val_main_v25, val_main_v24, val_main_v23, val_main_v22, val_main_v21, val_main_v20, val_main_v19,
    val_main_v18, val_main_v17, val_main_v16, val_main_v15, val_main_v14, val_main_v13, val_main_v12, val_main_v11,
    val_main_v10, val_main_v9, val_main_v8, val_main_v7, val_main_v6, val_main_v5, val_main_v4, val_main_v3,
    val_main_v2, val_main_v1, val_main_v0, val_main_cst_3, val_main_cst_2, val_main_cst_1, val_main_cst_0,
    val_main_cst]
  have e : 16 + p.val - 30 = p.val - 14 := by omega
  by_cases h : p.val < 14
  · have h' : 16 + p.val < 30 := by omega
    simp only [h, h', dite_true]
  · have h' : ¬ 16 + p.val < 30 := by omega
    simp only [h, h', dite_false, e]

/-- The reference leaves that array. -/
theorem refRun (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v29) = newState (m ((c.tc : Thread nD τ).loc main_arg1))
        (glu (m ((c.tc : Thread nD τ).loc main_arg0)) (m ((c.tc : Thread nD τ).loc main_arg2))
          (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run _ _ _).mono (fun r h c => ⟨(h c).1.trans ?_, (h c).2⟩) (Cert.ConvSampleRefIdeal.Value.run m ρ)
  exact ref_at _ _ _ _

end Reference

/-- Each of the three programs runs to its end, the arguments as they were. -/
theorem frame : Cert.quiescent_ConvSample (hConvSample := Cert.ConvSample.Gen.facts) := fun m ρ _ =>
  Cert.ConvSample.Gen.frame m ρ
theorem frameIdeal : Cert.quiescent_ConvSampleIdeal (hConvSampleIdeal := Cert.ConvSampleIdeal.Gen.facts) := fun m ρ _ =>
  Cert.ConvSampleIdeal.Gen.frame m ρ
theorem frameReference : Cert.quiescent_ConvSampleRefIdeal (hConvSampleRefIdeal := Cert.ConvSampleRefIdeal.Gen.facts) :=
  fun m ρ _ => (θ_run _ _ _).mono (fun r h => ⟨fun c => (h c).2, sem_eq_zero_of_no_sems (by decide) r.2⟩)
    (Cert.ConvSampleRefIdeal.Value.run m ρ)

/-- The kernel's new state is the reference's. -/
theorem algebraic : Cert.algebraic_ConvSampleIdeal_ConvSampleRefIdeal (hConvSampleIdeal := Cert.ConvSampleIdeal.Gen.facts)
    (hConvSampleRefIdeal := Cert.ConvSampleRefIdeal.Gen.facts) := by
  pair_intro
  · run_from Cert.ConvSampleIdeal.Gen.run_main m g
    · exact Cert.ConvSampleIdeal.Gen.W_main_arg0 m _ c
    · exact Cert.ConvSampleIdeal.Gen.W_main_arg1 m _ c
    · exact Cert.ConvSampleIdeal.Gen.W_main_arg2 m _ c
    · exact Cert.ConvSampleIdeal.Gen.W_main_arg3 m _ c
  · run_from refRun m' g'
    obtain ⟨a0, a1, a2, a3⟩ := hagree c
    refine Eq.trans ?_ (tail m c).symm
    simp only [a0, a1, a2, a3]

end Cert.Sample.Conv

end
-- ==== Proof.Sample.Gmlp.lean ====
/- The sample's new rows of the gated MLP: the layer norm of the gelus, which the kernel computes in chunks of 128 rows
   that the tokens only begin. -/
module

public import proofs.«01_k».proof.Defs
public import proofs.«01_k».proof.Proof.Gen.GmlpSample.Frame
public import proofs.«01_k».proof.Proof.Gen.GmlpSampleIdeal.Frame
public import proofs.«01_k».proof.Proof.Gen.GmlpSampleRefIdeal.Run
public import proofs.«01_k».proof.Proof.Gen.GmlpSampleRefIdeal.Read
public import proofs.«01_k».proof.Proof.Proj.Gmlp
public import proofs.«01_k».proof.Proof.Sample.Padded

@[expose] public section

set_option maxRecDepth 16384

noncomputable section

open Idealize.ShloMosaic Idealize.ShloMosaic.TcCoe Idealize.SL.Sem
open Idealize.ShloMosaic.Pipeline (Dat)

namespace Cert.Sample.Gmlp

open Cert.Proj

/-- The row that a token `f` gives: the layer norm of the gelus of the projections to columns 1024 to 2047. -/
def row (f : Fin 1024 → EReal) (g : FVec Ideal ⟨2, ![1, 1024]⟩ .f32) (w : FVec Ideal ⟨3, ![1, 1024, 8192]⟩ .f32)
    (lg lb : FVec Ideal ⟨2, ![1, 1024]⟩ .f32) : Fin 1024 → EReal :=
  layernorm (fun l => gelu (proj f (gain g) (column w ⟨1024 + (l : ℕ), by omega⟩))) (gain lg) (gain lb)

/-- The new rows: token `p` of sequence `b` gives row `p` of sequence `b`. -/
def result (x : FVec Ideal ⟨3, ![8, 16, 1024]⟩ .f32) (g : FVec Ideal ⟨2, ![1, 1024]⟩ .f32)
    (w : FVec Ideal ⟨3, ![1, 1024, 8192]⟩ .f32) (lg lb : FVec Ideal ⟨2, ![1, 1024]⟩ .f32) :
    FVec Ideal ⟨4, ![1, 8, 16, 1024]⟩ .f32 := fun i =>
  row (fun k => x (ix3 (⟨i 1, (i 1).isLt⟩ : Fin 8) (⟨i 2, (i 2).isLt⟩ : Fin 16) k)) g w lg lb ⟨i 3, (i 3).isLt⟩

section Kernel

open Cert.GmlpSampleIdeal Cert.GmlpSampleIdeal.Gen

variable (m : (ℓ : Loc nD τ sig) → Buf (Elt Ideal) ℓ) (c : Dev nD)

/-- Which block of its array each window holds at a grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_6.index t = ![t.val, 0] :=
  (by decide +kernel : ∀ t : Fin grid0.N, _)

/-- Row `r` of block `t`, among all the rows. -/
def rowOf (t : Fin cfg0.N) (r : Fin 512) : Fin 1024 :=
  ⟨512 * t.val + r.val, by have : t.val < 2 := lt_of_lt_of_eq t.isLt N_0; omega⟩

/-- The kernel's arrays: the padded tokens, the gain, the columns of the weight, the layer norm's gain and offset. -/
theorem entry : V m c main_v3 = paddedRows (m ((c : Thread nD τ).loc main_arg0)) := by
  unfold V V0
  simp only [hostOps0, hostOps0_1, hostOps0_2, List.flatten_cons, List.flatten_nil, List.append_nil, List.cons_append,
    List.nil_append]
  after_results
  exact pad_rows _ pads_S8x16x1024_S8x128x1024_000_01120_000 h_S_ shapeCasts_S8x128x1024_S1024x1024
theorem entry_gain (k : Fin 1024) : V m c main_v5 (ix2 (0 : Fin 1) k) = gain (m ((c : Thread nD τ).loc main_arg1)) k := by
  unfold V V0
  simp only [hostOps0, hostOps0_1, hostOps0_2, List.flatten_cons, List.flatten_nil, List.append_nil, List.cons_append,
    List.nil_append]
  after_results
  unfold gain
  pointwise
theorem entry_weight (k : Fin 1024) (j : Fin 2048) : V m c main_v6 (ix2 k j)
    = column (m ((c : Thread nD τ).loc main_arg2)) ⟨j.val, by omega⟩ k := by
  unfold V V0
  simp only [hostOps0, hostOps0_1, hostOps0_2, List.flatten_cons, List.flatten_nil, List.append_nil, List.cons_append,
    List.nil_append]
  after_results
  unfold column
  pointwise
theorem entry_lg (k : Fin 1024) : V m c main_v8 (ix2 (0 : Fin 1) k) = gain (m ((c : Thread nD τ).loc main_arg3)) k := by
  unfold V V0
  simp only [hostOps0, hostOps0_1, hostOps0_2, List.flatten_cons, List.flatten_nil, List.append_nil, List.cons_append,
    List.nil_append]
  after_results
  unfold gain
  pointwise
theorem entry_lb (k : Fin 1024) : V m c main_v10 (ix2 (0 : Fin 1) k) = gain (m ((c : Thread nD τ).loc main_arg4)) k := by
  unfold V V0
  simp only [hostOps0, hostOps0_1, hostOps0_2, List.flatten_cons, List.flatten_nil, List.append_nil, List.cons_append,
    List.nil_append]
  after_results
  unfold gain
  pointwise

/-- Row `r` of block `t` of the tokens is row `512 t + r` of the padded ones. -/
theorem x_at (t : Fin cfg0.N) (r : Fin 512) (k : Fin 1024) : (iblk m c 0 t : FVec Ideal S512x1024 .f32) (ix2 r k)
    = padded (m ((c : Thread nD τ).loc main_arg0)) (rowOf t r) k := by
  have e : ((cfg0.win 0).blk t).view.emb (ix2 r k) = ix2 (rowOf t r) k := by unfold rowOf; blk_ext [idx t]
  exact (congrArg (V m c main_v3) e).trans (congrFun (entry m c) _)

/-- Every point reads the same weights. -/
theorem g_at (t : Fin cfg0.N) (k : Fin 1024) : (iblk m c 1 t : FVec Ideal S1x1024 .f32) (ix2 0 k)
    = gain (m ((c : Thread nD τ).loc main_arg1)) k := by
  have e : ((cfg0.win 1).blk t).view.emb (ix2 0 k) = ix2 (0 : Fin 1) k := by blk_ext [idx t]
  exact (congrArg (V m c main_v5) e).trans (entry_gain m c k)
theorem w_at (t : Fin cfg0.N) (k : Fin 1024) (j : Fin 2048) : (iblk m c 2 t : FVec Ideal S1024x2048 .bf16) (ix2 k j)
    = column (m ((c : Thread nD τ).loc main_arg2)) ⟨j.val, by omega⟩ k := by
  have e : ((cfg0.win 2).blk t).view.emb (ix2 k j) = ix2 k j := by blk_ext [idx t]
  exact (congrArg (V m c main_v6) e).trans (entry_weight m c k j)
theorem lg_at (t : Fin cfg0.N) (k : Fin 1024) : (iblk m c 3 t : FVec Ideal S1x1024 .f32) (ix2 0 k)
    = gain (m ((c : Thread nD τ).loc main_arg3)) k := by
  have e : ((cfg0.win 3).blk t).view.emb (ix2 0 k) = ix2 (0 : Fin 1) k := by blk_ext [idx t]
  exact (congrArg (V m c main_v8) e).trans (entry_lg m c k)
theorem lb_at (t : Fin cfg0.N) (k : Fin 1024) : (iblk m c 4 t : FVec Ideal S1x1024 .f32) (ix2 0 k)
    = gain (m ((c : Thread nD τ).loc main_arg4)) k := by
  have e : ((cfg0.win 4).blk t).view.emb (ix2 0 k) = ix2 (0 : Fin 1) k := by blk_ext [idx t]
  exact (congrArg (V m c main_v10) e).trans (entry_lb m c k)

/-- The region's second array: what every padded row gives. -/
def rows (x : FVec Ideal ⟨3, ![8, 16, 1024]⟩ .f32) (g : FVec Ideal ⟨2, ![1, 1024]⟩ .f32)
    (w : FVec Ideal ⟨3, ![1, 1024, 8192]⟩ .f32) (lg lb : FVec Ideal ⟨2, ![1, 1024]⟩ .f32) :
    FVec Ideal ⟨2, ![1024, 1024]⟩ .f32 := fun i => row (padded x (i 0)) g w lg lb (i 1)

theorem final : (dats m 0 c).arrAt 6 cfg0.N = rows (m ((c : Thread nD τ).loc main_arg0))
    (m ((c : Thread nD τ).loc main_arg1)) (m ((c : Thread nD τ).loc main_arg2)) (m ((c : Thread nD τ).loc main_arg3))
    (m ((c : Thread nD τ).loc main_arg4)) := by
  refine (dats m 0 c).arrAt_eq_of_covers 6 _ (by decide +kernel) fun t _ y => ?_
  blk_simp
  rw [after0_6]
  frame_out
  obtain ⟨r, j, rfl⟩ : ∃ (r : Fin 512) (j : Fin 1024), y = ix2 r j := ⟨y 0, y 1, by idx_vars y⟩
  refine (Cert.Proj.Gmlp.v_at _ _ _ r j).trans ?_
  have e : ((cfg0.win 6).blk t).view.emb (ix2 r j) = ix2 (rowOf t r) j := by unfold rowOf; blk_ext [idx t]
  have ha (k l : Fin 1024) : View.ld (iblk m c 2 t) r0_3 (ix2 k l) = column (m ((c : Thread nD τ).loc main_arg2))
      ⟨1024 + l.val, by omega⟩ k :=
    (Cert.Mixer.ld2 _ _ k l k (⟨1024 + l.val, by omega⟩ : Fin 2048) (by simp) (by simp)).trans (w_at m c t k _)
  have hh (l : Fin 1024) := Cert.Proj.Gmlp.h_at (iblk m c 0 t) (iblk m c 1 t) (View.ld (iblk m c 2 t) r0_3) r l
  simp only [x_at, g_at, ha] at hh
  rw [e]
  simp only [geluOut_eq, lg_at, lb_at]
  exact congrFun (congrFun (congrFun (congrArg layernorm (funext fun l => congrArg gelu (hh l))) _) _) j

/-- What the host's last lines make of that array: the rows of the tokens. -/
theorem tail : Pipeline.afterTail₀ cfgs (dats m) 0 (V0 m) [hostOps1] c main_v14
    = result (m ((c : Thread nD τ).loc main_arg0)) (m ((c : Thread nD τ).loc main_arg1))
        (m ((c : Thread nD τ).loc main_arg2)) (m ((c : Thread nD τ).loc main_arg3)) (m ((c : Thread nD τ).loc main_arg4)) := by
  unfold Pipeline.afterTail₀
  unfold_abbrev_sides
  simp only [List.flatten_cons, List.flatten_nil, List.append_nil]
  after_results
  have e := (Pipeline.withArrays_arr (cfgs 0).spec (by decide) c (V0 m c) (fun w => (dats m 0 c).arrAt w (cfgs 0).N) 6).trans
    (final m c)
  erw [e]
  funext i
  obtain ⟨b, p, j, rfl⟩ : ∃ (b : Fin 8) (p : Fin 16) (j : Fin 1024), i = ix4 0 b p j :=
    ⟨i 1, i 2, i 3, by idx_vars i; blk_ext⟩
  pointwise [result]
  have h := padded_chunkRow (m ((c : Thread nD τ).loc main_arg0)) b p
  rw [← h]
  rfl

end Kernel

section Reference

open Cert.GmlpSampleRefIdeal Cert.GmlpSampleRefIdeal.Read

/-- The reference's gelu of the projection to column `j`. -/
theorem act_at (x : FVec Ideal S8x16x1024 .f32) (g : FVec Ideal S1x1024 .f32) (w : FVec Ideal S1x1024x8192 .f32)
    (b : Fin 8) (t : Fin 16) (j : Fin 2048) : val_main_v29 (F := Ideal) x g w (ix3 b t j)
      = gelu (proj (fun k => x (ix3 b t k)) (gain g) (column w ⟨j.val, by omega⟩)) := by
  have h : val_main_v16 (F := Ideal) x g w (ix3 b t j)
      = proj (fun k => x (ix3 b t k)) (gain g) (column w ⟨j.val, by omega⟩) := by
    pointwise [proj, rms, mean, gain, column, val_main_v16, val_main_v15, val_main_v14, val_main_v13, val_main_v12,
      val_main_v11, val_main_v10, val_main_v9, val_main_v8, val_main_v7, val_main_v6, val_main_v5, val_main_v4,
      val_main_v3, val_main_v2, val_main_v1, val_main_v0, val_main_cst, val_main_cst_0, val_main_cst_1]
  rw [← h]
  pointwise [gelu, val_main_v29, val_main_v28, val_main_v27, val_main_v26, val_main_v25, val_main_v24,
    val_main_v23, val_main_v22, val_main_v21, val_main_v20, val_main_v19, val_main_v18, val_main_v17,
    val_main_cst_2, val_main_cst_3, val_main_cst_4, val_main_cst_5]

/-- The reference's array. -/
theorem ref_at (x : FVec Ideal S8x16x1024 .f32) (g : FVec Ideal S1x1024 .f32) (w : FVec Ideal S1x1024x8192 .f32)
    (lg lb : FVec Ideal S1x1024 .f32) : val_main_v57 (F := Ideal) x g w lg lb = result x g w lg lb := by
  funext i
  obtain ⟨b, p, j, rfl⟩ : ∃ (b : Fin 8) (p : Fin 16) (j : Fin 1024), i = ix4 0 b p j :=
    ⟨i 1, i 2, i 3, by idx_vars i; blk_ext⟩
  pointwise [result, row, layernorm, mean, gain, val_main_v57, val_main_v56, val_main_v55, val_main_v54,
    val_main_v53, val_main_v52, val_main_v51, val_main_v50, val_main_v49, val_main_v48, val_main_v47, val_main_v46,
    val_main_v45, val_main_v44, val_main_v43, val_main_v42, val_main_v41, val_main_v40, val_main_v39, val_main_v38,
    val_main_v37, val_main_v36, val_main_v35, val_main_v34, val_main_v33, val_main_v32, val_main_v31, val_main_v30,
    val_main_cst_6, val_main_cst_7, val_main_cst_8, val_main_cst_9, val_main_cst_10]
  simp only [act_at]

/-- The reference leaves that array. -/
theorem refRun (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v57) = result (m ((c.tc : Thread nD τ).loc main_arg0))
        (m ((c.tc : Thread nD τ).loc main_arg1)) (m ((c.tc : Thread nD τ).loc main_arg2)) (m ((c.tc : Thread nD τ).loc main_arg3))
        (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run _ _ _).mono (fun r h c => ⟨(h c).1.trans ?_, (h c).2⟩) (Cert.GmlpSampleRefIdeal.Value.run m ρ)
  exact ref_at _ _ _ _ _

end Reference

/-- Each of the three programs runs to its end, the arguments as they were. -/
theorem frame : Cert.quiescent_GmlpSample (hGmlpSample := Cert.GmlpSample.Gen.facts) := fun m ρ _ =>
  Cert.GmlpSample.Gen.frame m ρ
theorem frameIdeal : Cert.quiescent_GmlpSampleIdeal (hGmlpSampleIdeal := Cert.GmlpSampleIdeal.Gen.facts) := fun m ρ _ =>
  Cert.GmlpSampleIdeal.Gen.frame m ρ
theorem frameReference : Cert.quiescent_GmlpSampleRefIdeal (hGmlpSampleRefIdeal := Cert.GmlpSampleRefIdeal.Gen.facts) :=
  fun m ρ _ => (θ_run _ _ _).mono (fun r h => ⟨fun c => (h c).2, sem_eq_zero_of_no_sems (by decide) r.2⟩)
    (Cert.GmlpSampleRefIdeal.Value.run m ρ)

/-- The ideal kernel is the kernel with its one constant named. -/
theorem preserves : Cert.preserves_GmlpSample_GmlpSampleIdeal := IdealRules.named_const.statement _ _ _ _ _ rfl

/-- The kernel's new rows are the reference's. -/
theorem algebraic : Cert.algebraic_GmlpSampleIdeal_GmlpSampleRefIdeal (hGmlpSampleIdeal := Cert.GmlpSampleIdeal.Gen.facts)
    (hGmlpSampleRefIdeal := Cert.GmlpSampleRefIdeal.Gen.facts) := by
  pair_intro
  · run_from Cert.GmlpSampleIdeal.Gen.run_main m g
    · exact Cert.GmlpSampleIdeal.Gen.W_main_arg0 m _ c
    · exact Cert.GmlpSampleIdeal.Gen.W_main_arg1 m _ c
    · exact Cert.GmlpSampleIdeal.Gen.W_main_arg2 m _ c
    · exact Cert.GmlpSampleIdeal.Gen.W_main_arg3 m _ c
    · exact Cert.GmlpSampleIdeal.Gen.W_main_arg4 m _ c
  · run_from refRun m' g'
    exact (tail m c).symm

end Cert.Sample.Gmlp

end
-- ==== Proof.Route.Spec.lean ====
/- The routing of ONE token, as plain sums over extended reals: the normed channels, and each head's scores of the second
   keys, below their largest. -/
module

public import proofs.«01_k».proof.Proof.Proj.Spec

@[expose] public section

noncomputable section

open Idealize.ShloMosaic

namespace Cert.Routing

open Cert.Proj

/-- Head `h`'s query against the second keys, its entry `d`: the second 128 of the head's 256 columns. -/
def query (x g : Fin 1024 → EReal) (w : FVec Ideal ⟨3, ![1, 1024, 2048]⟩ .f32) (h : Fin 8) (d : Fin 128) : EReal :=
  proj x g fun k => w (ix3 0 k (⟨h.val * 256 + (128 + d.val), by omega⟩ : Fin 2048))

/-- The query of head `h` against key `n`. -/
def score (x g : Fin 1024 → EReal) (w : FVec Ideal ⟨3, ![1, 1024, 2048]⟩ .f32) (K : FVec Ideal ⟨3, ![1, 128, 128]⟩ .f32)
    (h : Fin 8) (n : Fin 128) : EReal := ∑ d, query x g w h d * K (ix3 0 n d)

/-- The largest of 128 numbers. -/
def largest (f : Fin 128 → EReal) : EReal := Finset.univ.fold max (Ideal.ofBits .f32 0xFF800000#32) f

/-- The score of key `n` below the head's largest score. -/
def below (x g : Fin 1024 → EReal) (w : FVec Ideal ⟨3, ![1, 1024, 2048]⟩ .f32) (K : FVec Ideal ⟨3, ![1, 128, 128]⟩ .f32)
    (h : Fin 8) (n : Fin 128) : EReal := score x g w K h n - largest (score x g w K h)

/-- The normed tokens, a token to a column. -/
def normed (x : FVec Ideal ⟨3, ![16, 4096, 1024]⟩ .f32) (g : FVec Ideal ⟨2, ![1, 1024]⟩ .f32) :
    FVec Ideal ⟨2, ![1024, 65536]⟩ .bf16 := fun i => rms (tokenRow x (i 1)) (gain g) (i 0)

/-- The scores below the largest, for every 128 tokens by head and key, a token to a lane. -/
def scores (x : FVec Ideal ⟨3, ![16, 4096, 1024]⟩ .f32) (g : FVec Ideal ⟨2, ![1, 1024]⟩ .f32)
    (w : FVec Ideal ⟨3, ![1, 1024, 2048]⟩ .f32) (K : FVec Ideal ⟨3, ![1, 128, 128]⟩ .f32) :
    FVec Ideal ⟨4, ![512, 8, 128, 128]⟩ .f32 := fun i =>
  below (tokenRow x (⟨(i 0 : ℕ) * 128 + (i 3 : ℕ), by
    have : (i 0 : ℕ) < 512 := (i 0).isLt; have : (i 3 : ℕ) < 128 := (i 3).isLt; omega⟩ : Fin 65536)) (gain g) w K
    (⟨i 1, (i 1).isLt⟩ : Fin 8) (⟨i 2, (i 2).isLt⟩ : Fin 128)

end Cert.Routing

end
-- ==== Proof.Route.Pieces.lean ====
/- What the routing's body computes for one head, as functions of arrays, each read at an index: the scores, their
   maximum as the sorting network takes it, and the two halves that are stored. -/
module

public import proofs.«01_k».proof.Proof.Gen.RouteIdeal.Skeleton
public import proofs.«01_k».proof.Proof.Route.Spec
public import proofs.«01_k».proof.Proof.Mixer.Pieces
public import Idealize.ShloMosaic.Lib.Pipeline.ValueKit

@[expose] public section

set_option maxRecDepth 16384

noncomputable section

open Idealize.ShloMosaic Idealize.ShloMosaic.TcCoe Idealize.SL.Sem

namespace Cert.Routing

open Cert.Proj Cert.RouteIdeal Cert.RouteIdeal.Gen

/-- The normed block, transposed. -/
theorem norm_at (x : FVec Ideal S256x1024 .f32) (g : FVec Ideal S1x1024 .f32) (k : Fin 1024) (r : Fin 256) :
    k0_pay6 (F := Ideal) x g (ix2 k r) = rms (fun k => x (ix2 r k)) (fun k => g (ix2 0 k)) k := by
  pointwise [k0_pay6, rms, mean]

/-- The queries of the block, a token to a column. -/
theorem query_at (x : FVec Ideal S256x1024 .f32) (g : FVec Ideal S1x1024 .f32) (w : FVec Ideal S2048x1024 .bf16)
    (j : Fin 2048) (r : Fin 256) : k0_pay7 (F := Ideal) x g w (ix2 j r)
      = proj (fun k => x (ix2 r k)) (fun k => g (ix2 0 k)) (fun k => w (ix2 j k)) := by
  unfold proj
  simp only [← norm_at, mul_comm (k0_pay6 (F := Ideal) x g _)]
  pointwise [k0_pay7]

/-- A head's scores: the keys against the 128 rows of the queries from row `o` on. -/
def headScores (o : ℕ) (hs : S2048x256.Slices ![o, 0] S128x256) (q : FVec Ideal S2048x256 .f32)
    (K : FVec Ideal S128x128 .bf16) : FVec Ideal S128x256 .f32 :=
  matmul dot_S128x128_S128x256_S128x256_1_0_0_1_n_n none (shapeCast S128x128 K shapeCasts_S128x128_S128x128)
    (truncf .bf16 (extractStridedSlice S128x256 ![o, 0] q hs) bitsLt_bf16_f32) (constant S128x256 .f32 0x00000000#32)

theorem headScores_at (o : ℕ) (ho : o + 128 ≤ 2048) (hs : S2048x256.Slices ![o, 0] S128x256) (q : FVec Ideal S2048x256 .f32)
    (K : FVec Ideal S128x128 .bf16) (n : Fin 128) (r : Fin 256) :
    headScores o hs q K (ix2 n r) = ∑ d : Fin 128, q (ix2 (⟨o + d.val, by omega⟩ : Fin 2048) r) * K (ix2 n d) := by
  simp only [mul_comm (q _)]
  pointwise [headScores]

/-- Half of a head's scores less an array, as it is stored. -/
def lowered (o : ℕ) (hs : S128x256.Slices ![0, o] S128x128) (s v : FVec Ideal S128x256 .f32) : FVec Ideal S1x1x128x128 .f32 :=
  shapeCast S1x1x128x128 (extractStridedSlice S128x128 ![0, o] (subf s v) hs) shapeCasts_S128x128_S1x1x128x128

theorem lowered_at (o : ℕ) (ho : o + 128 ≤ 256) (hs : S128x256.Slices ![0, o] S128x128) (s v : FVec Ideal S128x256 .f32)
    (k l : Fin 128) : lowered o hs s v (ix4 0 0 k l)
      = s (ix2 k (⟨o + l.val, by omega⟩ : Fin 256)) - v (ix2 k (⟨o + l.val, by omega⟩ : Fin 256)) := by
  pointwise [lowered]

/-- A row laid out over all the keys, and the same as the second head's scores are lowered by it. -/
theorem spread_at (v : FVec Ideal S1x256 .f32) (n : Fin 128) (r : Fin 256) :
    broadcastTo S128x256 v broadcasts_S1x256_S128x256 (ix2 n r) = v (ix2 0 r) := by
  pointwise []
theorem pay1671_at (v : FVec Ideal S1x256 .f32) (n : Fin 128) (r : Fin 256) :
    k0_pay1671 (F := Ideal) v (ix2 n r) = v (ix2 0 r) := spread_at v n r

/-- The first row of the sorted tiles, and its largest: the maximum of the sixteen tiles of eight rows, then over the rows. -/
def topRow (s : FVec Ideal S128x256 .f32) : FVec Ideal S1x256 .f32 :=
  shapeCast S1x256 (shapeCast S1x256 (multiReduction .maximumf [0] S256
    (maximumf
      (maximumf
        (maximumf
          (maximumf (extractStridedSlice S8x256 ![0, 0] s slices_S128x256_o0_0_S8x256)
            (extractStridedSlice S8x256 ![8, 0] s slices_S128x256_o8_0_S8x256))
          (maximumf (extractStridedSlice S8x256 ![16, 0] s slices_S128x256_o16_0_S8x256)
            (extractStridedSlice S8x256 ![24, 0] s slices_S128x256_o24_0_S8x256)))
        (maximumf
          (maximumf (extractStridedSlice S8x256 ![32, 0] s slices_S128x256_o32_0_S8x256)
            (extractStridedSlice S8x256 ![40, 0] s slices_S128x256_o40_0_S8x256))
          (maximumf (extractStridedSlice S8x256 ![48, 0] s slices_S128x256_o48_0_S8x256)
            (extractStridedSlice S8x256 ![56, 0] s slices_S128x256_o56_0_S8x256))))
      (maximumf
        (maximumf
          (maximumf (extractStridedSlice S8x256 ![64, 0] s slices_S128x256_o64_0_S8x256)
            (extractStridedSlice S8x256 ![72, 0] s slices_S128x256_o72_0_S8x256))
          (maximumf (extractStridedSlice S8x256 ![80, 0] s slices_S128x256_o80_0_S8x256)
            (extractStridedSlice S8x256 ![88, 0] s slices_S128x256_o88_0_S8x256)))
        (maximumf
          (maximumf (extractStridedSlice S8x256 ![96, 0] s slices_S128x256_o96_0_S8x256)
            (extractStridedSlice S8x256 ![104, 0] s slices_S128x256_o104_0_S8x256))
          (maximumf (extractStridedSlice S8x256 ![112, 0] s slices_S128x256_o112_0_S8x256)
            (extractStridedSlice S8x256 ![120, 0] s slices_S128x256_o120_0_S8x256)))))
    0xFF800000#32 reduces_S8x256_S256 (.inl rfl) rfl) shapeCasts_S256_S1x256) shapeCasts_S1x256_S1x256

/-- That is the largest of the 128. -/
theorem topRow_at (s : FVec Ideal S128x256 .f32) (r : Fin 256) :
    topRow s (ix2 0 r) = largest fun n => s (ix2 n r) := by
  have e : topRow s (ix2 0 r) = Finset.univ.fold max (Ideal.ofBits .f32 0xFF800000#32) fun i : Fin 8 =>
      max (max (max (max (s (ix2 (⟨0 + i.val, by omega⟩ : Fin 128) r)) (s (ix2 (⟨8 + i.val, by omega⟩ : Fin 128) r)))
        (max (s (ix2 (⟨16 + i.val, by omega⟩ : Fin 128) r)) (s (ix2 (⟨24 + i.val, by omega⟩ : Fin 128) r))))
        (max (max (s (ix2 (⟨32 + i.val, by omega⟩ : Fin 128) r)) (s (ix2 (⟨40 + i.val, by omega⟩ : Fin 128) r)))
        (max (s (ix2 (⟨48 + i.val, by omega⟩ : Fin 128) r)) (s (ix2 (⟨56 + i.val, by omega⟩ : Fin 128) r)))))
        (max (max (max (s (ix2 (⟨64 + i.val, by omega⟩ : Fin 128) r)) (s (ix2 (⟨72 + i.val, by omega⟩ : Fin 128) r)))
        (max (s (ix2 (⟨80 + i.val, by omega⟩ : Fin 128) r)) (s (ix2 (⟨88 + i.val, by omega⟩ : Fin 128) r))))
        (max (max (s (ix2 (⟨96 + i.val, by omega⟩ : Fin 128) r)) (s (ix2 (⟨104 + i.val, by omega⟩ : Fin 128) r)))
        (max (s (ix2 (⟨112 + i.val, by omega⟩ : Fin 128) r)) (s (ix2 (⟨120 + i.val, by omega⟩ : Fin 128) r))))) := by
    pointwise [topRow]
  rw [e]
  unfold largest
  refine eq_of_forall_ge_iff fun u => ?_
  simp only [Finset.fold_max_le, max_le_iff, Finset.mem_univ, true_imp_iff]
  refine and_congr_right fun _ => ⟨fun h n => ?_, fun h i => ?_⟩
  · have hn := h (⟨n.val % 8, by omega⟩ : Fin 8)
    have hq : n.val / 8 < 16 := by omega
    have at_ : ∀ q : ℕ, (hq' : q < 16) → n.val / 8 = q → (⟨8 * q + n.val % 8, by omega⟩ : Fin 128) = n :=
      fun q _ e => Fin.ext (by simp only; omega)
    generalize hk : n.val / 8 = q at hq
    have hf := at_ q hq hk
    rw [← hf]
    interval_cases q <;> simp only [Nat.reduceMul] <;> tauto
  · exact ⟨⟨⟨⟨h _, h _⟩, h _, h _⟩, ⟨h _, h _⟩, h _, h _⟩, ⟨⟨h _, h _⟩, h _, h _⟩, ⟨h _, h _⟩, h _, h _⟩

section Stores

variable {Val : EltTy → Type} {e : EltTy} {a b : ℕ} [∀ e, Nonempty (Val e)]

/-- The place is in the 128 by 128 tile stored last: its own element there. -/
theorem tile_hit (inb) (w : S1x1x128x128.Idx → Val e) (L : List (View.Piece Val S2x8x128x128 e))
    (j : Fin 2) (h : Fin 8) (k l : Fin 128) (hj : (j : ℕ) = a) (hh : (h : ℕ) = b) :
    View.canon ((⟨Rect.unit (s := S2x8x128x128) ![a, b, 0, 0] ![1, 1, 128, 128] inb, w⟩ : View.Piece Val _ e) :: L) (ix4 j h k l)
      = w (ix4 0 0 k l) := by
  have h : ix4 j h k l = (Rect.unit (s := S2x8x128x128) ![a, b, 0, 0] ![1, 1, 128, 128] inb).emb (ix4 0 0 k l) := by
    funext d
    refine Fin.ext ?_
    fin_cases d
    · show (j : ℕ) = a + 1 * 0; omega
    · show (h : ℕ) = b + 1 * 0; omega
    · show (k : ℕ) = 0 + 1 * (k : ℕ); omega
    · show (l : ℕ) = 0 + 1 * (l : ℕ); omega
  rw [h]
  exact View.canon_cons_emb (Rect.unit (s := S2x8x128x128) ![a, b, 0, 0] ![1, 1, 128, 128] inb) w L (ix4 0 0 k l)

/-- The place is outside the tile stored last: what the earlier stores left. -/
theorem tile_miss (inb) (w : S1x1x128x128.Idx → Val e) (L : List (View.Piece Val S2x8x128x128 e))
    (j : Fin 2) (h : Fin 8) (k l : Fin 128) (ha : (j : ℕ) ≠ a ∨ (h : ℕ) ≠ b) :
    View.canon ((⟨Rect.unit (s := S2x8x128x128) ![a, b, 0, 0] ![1, 1, 128, 128] inb, w⟩ : View.Piece Val _ e) :: L) (ix4 j h k l)
      = View.canon L (ix4 j h k l) := by
  refine View.canon_cons_of_not_mem _ L fun hm => ?_
  obtain ⟨x, hx⟩ := (Rect.unit (s := S2x8x128x128) ![a, b, 0, 0] ![1, 1, 128, 128] inb).exists_idx_of_mem hm
  have h0 : a + 1 * (x 0 : ℕ) = (j : ℕ) := congrArg (fun i : S2x8x128x128.Idx => (i 0 : ℕ)) hx
  have h1 : b + 1 * (x 1 : ℕ) = (h : ℕ) := congrArg (fun i : S2x8x128x128.Idx => (i 1 : ℕ)) hx
  have b0 : (x 0 : ℕ) < 1 := (x 0).isLt
  have b1 : (x 1 : ℕ) < 1 := (x 1).isLt
  omega

/-- All sixteen tiles stored, one to every half and head. -/
theorem tiles_at (u : Fin 2 → Fin 8 → Val e) {i17 i07 i16 i06 i15 i05 i14 i04 i13 i03 i12 i02 i11 i01 i10 i00}
    {w17 w07 w16 w06 w15 w05 w14 w04 w13 w03 w12 w02 w11 w01 w10 w00 : S1x1x128x128.Idx → Val e} (j : Fin 2) (h : Fin 8) (k l : Fin 128)
    (h17 : w17 (ix4 0 0 k l) = u 1 7)
    (h07 : w07 (ix4 0 0 k l) = u 0 7)
    (h16 : w16 (ix4 0 0 k l) = u 1 6)
    (h06 : w06 (ix4 0 0 k l) = u 0 6)
    (h15 : w15 (ix4 0 0 k l) = u 1 5)
    (h05 : w05 (ix4 0 0 k l) = u 0 5)
    (h14 : w14 (ix4 0 0 k l) = u 1 4)
    (h04 : w04 (ix4 0 0 k l) = u 0 4)
    (h13 : w13 (ix4 0 0 k l) = u 1 3)
    (h03 : w03 (ix4 0 0 k l) = u 0 3)
    (h12 : w12 (ix4 0 0 k l) = u 1 2)
    (h02 : w02 (ix4 0 0 k l) = u 0 2)
    (h11 : w11 (ix4 0 0 k l) = u 1 1)
    (h01 : w01 (ix4 0 0 k l) = u 0 1)
    (h10 : w10 (ix4 0 0 k l) = u 1 0)
    (h00 : w00 (ix4 0 0 k l) = u 0 0) :
    View.canon [
      (⟨Rect.unit (s := S2x8x128x128) ![1, 7, 0, 0] ![1, 1, 128, 128] i17, w17⟩ : View.Piece Val S2x8x128x128 e),
      (⟨Rect.unit (s := S2x8x128x128) ![0, 7, 0, 0] ![1, 1, 128, 128] i07, w07⟩ : View.Piece Val S2x8x128x128 e),
      (⟨Rect.unit (s := S2x8x128x128) ![1, 6, 0, 0] ![1, 1, 128, 128] i16, w16⟩ : View.Piece Val S2x8x128x128 e),
      (⟨Rect.unit (s := S2x8x128x128) ![0, 6, 0, 0] ![1, 1, 128, 128] i06, w06⟩ : View.Piece Val S2x8x128x128 e),
      (⟨Rect.unit (s := S2x8x128x128) ![1, 5, 0, 0] ![1, 1, 128, 128] i15, w15⟩ : View.Piece Val S2x8x128x128 e),
      (⟨Rect.unit (s := S2x8x128x128) ![0, 5, 0, 0] ![1, 1, 128, 128] i05, w05⟩ : View.Piece Val S2x8x128x128 e),
      (⟨Rect.unit (s := S2x8x128x128) ![1, 4, 0, 0] ![1, 1, 128, 128] i14, w14⟩ : View.Piece Val S2x8x128x128 e),
      (⟨Rect.unit (s := S2x8x128x128) ![0, 4, 0, 0] ![1, 1, 128, 128] i04, w04⟩ : View.Piece Val S2x8x128x128 e),
      (⟨Rect.unit (s := S2x8x128x128) ![1, 3, 0, 0] ![1, 1, 128, 128] i13, w13⟩ : View.Piece Val S2x8x128x128 e),
      (⟨Rect.unit (s := S2x8x128x128) ![0, 3, 0, 0] ![1, 1, 128, 128] i03, w03⟩ : View.Piece Val S2x8x128x128 e),
      (⟨Rect.unit (s := S2x8x128x128) ![1, 2, 0, 0] ![1, 1, 128, 128] i12, w12⟩ : View.Piece Val S2x8x128x128 e),
      (⟨Rect.unit (s := S2x8x128x128) ![0, 2, 0, 0] ![1, 1, 128, 128] i02, w02⟩ : View.Piece Val S2x8x128x128 e),
      (⟨Rect.unit (s := S2x8x128x128) ![1, 1, 0, 0] ![1, 1, 128, 128] i11, w11⟩ : View.Piece Val S2x8x128x128 e),
      (⟨Rect.unit (s := S2x8x128x128) ![0, 1, 0, 0] ![1, 1, 128, 128] i01, w01⟩ : View.Piece Val S2x8x128x128 e),
      (⟨Rect.unit (s := S2x8x128x128) ![1, 0, 0, 0] ![1, 1, 128, 128] i10, w10⟩ : View.Piece Val S2x8x128x128 e),
      (⟨Rect.unit (s := S2x8x128x128) ![0, 0, 0, 0] ![1, 1, 128, 128] i00, w00⟩ : View.Piece Val S2x8x128x128 e)]
      (ix4 j h k l) = u j h := by
  fin_cases h <;> fin_cases j
  all_goals
    repeat refine (tile_miss _ _ _ _ _ k l (by decide)).trans ?_
    refine (tile_hit _ _ _ _ _ k l (by rfl) (by rfl)).trans ?_
    assumption

/-- Sixteen rows stored one after the other from row 0 on, whatever was stored before: a load of row 0. -/
theorem rows_at {sig : RefSig} {κ : Kind} {sp : Space} {v : View sig κ sp S16x256 e} {L : List (View.Piece Val S16x256 e)}
    {inb} {i15 i14 i13 i12 i11 i10 i9 i8 i7 i6 i5 i4 i3 i2 i1 i0} {w15 w14 w13 w12 w11 w10 w9 w8 w7 w6 w5 w4 w3 w2 w1 w0 : S1x256.Idx → Val e} (r : Fin 256) :
    v.readCov (
      (⟨Rect.unit (s := S16x256) ![15, 0] ![1, 256] i15, w15⟩ : View.Piece Val S16x256 e) ::
      (⟨Rect.unit (s := S16x256) ![14, 0] ![1, 256] i14, w14⟩ : View.Piece Val S16x256 e) ::
      (⟨Rect.unit (s := S16x256) ![13, 0] ![1, 256] i13, w13⟩ : View.Piece Val S16x256 e) ::
      (⟨Rect.unit (s := S16x256) ![12, 0] ![1, 256] i12, w12⟩ : View.Piece Val S16x256 e) ::
      (⟨Rect.unit (s := S16x256) ![11, 0] ![1, 256] i11, w11⟩ : View.Piece Val S16x256 e) ::
      (⟨Rect.unit (s := S16x256) ![10, 0] ![1, 256] i10, w10⟩ : View.Piece Val S16x256 e) ::
      (⟨Rect.unit (s := S16x256) ![9, 0] ![1, 256] i9, w9⟩ : View.Piece Val S16x256 e) ::
      (⟨Rect.unit (s := S16x256) ![8, 0] ![1, 256] i8, w8⟩ : View.Piece Val S16x256 e) ::
      (⟨Rect.unit (s := S16x256) ![7, 0] ![1, 256] i7, w7⟩ : View.Piece Val S16x256 e) ::
      (⟨Rect.unit (s := S16x256) ![6, 0] ![1, 256] i6, w6⟩ : View.Piece Val S16x256 e) ::
      (⟨Rect.unit (s := S16x256) ![5, 0] ![1, 256] i5, w5⟩ : View.Piece Val S16x256 e) ::
      (⟨Rect.unit (s := S16x256) ![4, 0] ![1, 256] i4, w4⟩ : View.Piece Val S16x256 e) ::
      (⟨Rect.unit (s := S16x256) ![3, 0] ![1, 256] i3, w3⟩ : View.Piece Val S16x256 e) ::
      (⟨Rect.unit (s := S16x256) ![2, 0] ![1, 256] i2, w2⟩ : View.Piece Val S16x256 e) ::
      (⟨Rect.unit (s := S16x256) ![1, 0] ![1, 256] i1, w1⟩ : View.Piece Val S16x256 e) ::
      (⟨Rect.unit (s := S16x256) ![0, 0] ![1, 256] i0, w0⟩ : View.Piece Val S16x256 e) :: L)
      (Rect.unit (s := S16x256) ![0, 0] ![1, 256] inb).toLoadRect (ix2 0 r) = w0 (ix2 0 r) := by
  refine (Cert.Mixer.read_rows _ _ _ (0 : Fin 1) r (0 : Fin 16) (by rfl)).trans ?_
  repeat refine (Cert.Mixer.canon_miss _ _ _ (0 : Fin 16) r (Or.inl (by decide))).trans ?_
  exact Cert.Mixer.canon_hit _ _ _ (0 : Fin 16) r (0 : Fin 1) r (by rfl) (by simp)

end Stores

end Cert.Routing

end
-- ==== Proof.Route.Kernel.lean ====
/- The routing's kernel: the two arrays it leaves, read at an index. -/
module

public import proofs.«01_k».proof.Defs
public import proofs.«01_k».proof.Proof.Gen.RouteIdeal.Frame
public import proofs.«01_k».proof.Proof.Route.Pieces

@[expose] public section

set_option maxRecDepth 16384

noncomputable section

open Idealize.ShloMosaic Idealize.ShloMosaic.TcCoe Idealize.SL.Sem
open Idealize.ShloMosaic.Pipeline (Dat)

namespace Cert.Routing

open Cert.Proj Cert.RouteIdeal Cert.RouteIdeal.Gen

variable (m : (ℓ : Loc nD τ sig) → Buf (Elt Ideal) ℓ) (c : Dev nD)

/-- Which block of its array each window holds at a grid point. -/
theorem idx : ∀ t : Fin cfg0.N, win0_0.index t = ![t.val, 0] ∧ win0_1.index t = ![0, 0] ∧ win0_2.index t = ![0, 0]
    ∧ win0_4.index t = ![0, 0] ∧ win0_5.index t = ![0, t.val] ∧ win0_6.index t = ![t.val, 0, 0, 0] :=
  (by decide +kernel : ∀ t : Fin grid0.N, _)

/-- The grid has 256 points. -/
theorem lt_N (t : Fin cfg0.N) : t.val < 256 := lt_of_lt_of_eq t.isLt N_0

/-- Row `r` of block `t`, among all the tokens. -/
def rowOf (t : Fin cfg0.N) (r : Fin 256) : Fin 65536 := ⟨256 * t.val + r.val, by have := lt_N t; omega⟩

/-- What the host hands over: the tokens' rows, the gain, the queries' weight transposed, the second keys. -/
theorem entry_rows (r : Fin 65536) (k : Fin 1024) : V m c main_v0 (ix2 r k)
    = tokenRow (m ((c : Thread nD τ).loc main_arg0)) r k := by
  unfold tokenRow
  entry_read
  pointwise
theorem entry_gain (k : Fin 1024) : V m c main_v2 (ix2 (0 : Fin 1) k) = gain (m ((c : Thread nD τ).loc main_arg1)) k := by
  unfold gain
  entry_read
  pointwise
theorem entry_weight (j : Fin 2048) (k : Fin 1024) : V m c main_v5 (ix2 j k)
    = (m ((c : Thread nD τ).loc main_arg2) : FVec Ideal S1x1024x2048 .f32) (ix3 0 k j) := by
  entry_read
  pointwise
theorem entry_keys (n d : Fin 128) : V m c main_v9 (ix2 n d)
    = (m ((c : Thread nD τ).loc main_arg4) : FVec Ideal S1x128x128 .f32) (ix3 0 n d) := by
  entry_read
  pointwise

theorem x_at (t : Fin cfg0.N) (r : Fin 256) (k : Fin 1024) : (iblk m c 0 t : FVec Ideal S256x1024 .f32) (ix2 r k)
    = tokenRow (m ((c : Thread nD τ).loc main_arg0)) (rowOf t r) k := by
  have e : ((cfg0.win 0).blk t).view.emb (ix2 r k) = ix2 (rowOf t r) k := by
    unfold rowOf
    blk_ext [idx t]
  exact (congrArg (V m c main_v0) e).trans (entry_rows m c _ k)
theorem g_at (t : Fin cfg0.N) (k : Fin 1024) : (iblk m c 1 t : FVec Ideal S1x1024 .f32) (ix2 0 k)
    = gain (m ((c : Thread nD τ).loc main_arg1)) k := by
  have e : ((cfg0.win 1).blk t).view.emb (ix2 0 k) = ix2 (0 : Fin 1) k := by blk_ext [idx t]
  exact (congrArg (V m c main_v2) e).trans (entry_gain m c k)
theorem w_at (t : Fin cfg0.N) (j : Fin 2048) (k : Fin 1024) : (iblk m c 2 t : FVec Ideal S2048x1024 .bf16) (ix2 j k)
    = (m ((c : Thread nD τ).loc main_arg2) : FVec Ideal S1x1024x2048 .f32) (ix3 0 k j) := by
  have e : ((cfg0.win 2).blk t).view.emb (ix2 j k) = ix2 j k := by blk_ext [idx t]
  exact (congrArg (V m c main_v5) e).trans (entry_weight m c j k)
theorem k_at (t : Fin cfg0.N) (n d : Fin 128) : (iblk m c 4 t : FVec Ideal S128x128 .bf16) (ix2 n d)
    = (m ((c : Thread nD τ).loc main_arg4) : FVec Ideal S1x128x128 .f32) (ix3 0 n d) := by
  have e : ((cfg0.win 4).blk t).view.emb (ix2 n d) = ix2 n d := by blk_ext [idx t]
  exact (congrArg (V m c main_v9) e).trans (entry_keys m c n d)

/-- The normed rows block `t` stores. -/
theorem block5 (t : Fin cfg0.N) (k : Fin 1024) (r : Fin 256) : (outsAt0 m c t).1 (ix2 k r)
    = rms (tokenRow (m ((c : Thread nD τ).loc main_arg0)) (rowOf t r)) (gain (m ((c : Thread nD τ).loc main_arg1))) k := by
  dsimp only [outsAt0]
  frame_out
  refine (norm_at _ _ k r).trans ?_
  simp only [x_at, g_at]

/-- The array of normed tokens. -/
theorem final5 : (dats m 0 c).arrAt 5 cfg0.N = normed (m ((c : Thread nD τ).loc main_arg0))
    (m ((c : Thread nD τ).loc main_arg1)) := by
  refine (dats m 0 c).arrAt_eq_of_covers 5 _ (by decide +kernel) fun t _ y => ?_
  blk_simp
  rw [after0_5]
  obtain ⟨k, r, rfl⟩ : ∃ (k : Fin 1024) (r : Fin 256), y = ix2 k r := ⟨y 0, y 1, by idx_vars y⟩
  refine (block5 m c t k r).trans ?_
  have e : ((cfg0.win 5).blk t).view.emb (ix2 k r) = ix2 k (rowOf t r) := by
    unfold rowOf
    blk_ext [idx t]
  rw [e]
  rfl

/-- Head `h`'s scores of block `t`. -/
abbrev scoresOf (t : Fin cfg0.N) (o : ℕ) (hs : S2048x256.Slices ![o, 0] S128x256) : FVec Ideal S128x256 .f32 :=
  headScores o hs (k0_pay7 (F := Ideal) (iblk m c 0 t) (iblk m c 1 t) (iblk m c 2 t)) (iblk m c 4 t)

theorem scoresOf_at (t : Fin cfg0.N) (h : Fin 8) (o : ℕ) (ho : o = h.val * 256 + 128)
    (hs : S2048x256.Slices ![o, 0] S128x256) (n : Fin 128) (r : Fin 256) : scoresOf m c t o hs (ix2 n r)
      = score (tokenRow (m ((c : Thread nD τ).loc main_arg0)) (rowOf t r)) (gain (m ((c : Thread nD τ).loc main_arg1)))
          (m ((c : Thread nD τ).loc main_arg2)) (m ((c : Thread nD τ).loc main_arg4)) h n := by
  subst ho
  refine (headScores_at _ (by omega) _ _ _ n r).trans ?_
  unfold score query
  refine Finset.sum_congr rfl fun d _ => ?_
  rw [query_at, k_at]
  simp only [x_at, g_at, w_at, Nat.add_assoc]

/-- What is stored for a head: its scores less an array that holds, in every row, the first row of the sorted ones. -/
theorem stored_at (t : Fin cfg0.N) (j : Fin 2) (h : Fin 8) (k l : Fin 128) (o p : ℕ) (v : FVec Ideal S128x256 .f32)
    (ho : o = h.val * 256 + 128 := by rfl) (hp : p = j.val * 128 := by rfl)
    (hs : S2048x256.Slices ![o, 0] S128x256 := by decide) (hq : S128x256.Slices ![0, p] S128x128 := by decide)
    (hv : ∀ n r, v (ix2 n r) = topRow (scoresOf m c t o hs) (ix2 0 r)) : lowered p hq (scoresOf m c t o hs) v (ix4 0 0 k l)
      = below (tokenRow (m ((c : Thread nD τ).loc main_arg0)) (rowOf t ⟨j.val * 128 + l.val, by omega⟩))
          (gain (m ((c : Thread nD τ).loc main_arg1))) (m ((c : Thread nD τ).loc main_arg2))
          (m ((c : Thread nD τ).loc main_arg4)) h k := by
  subst hp
  rw [lowered_at _ (by omega), hv, topRow_at]
  simp only [scoresOf_at m c t h o ho]
  rfl

end Cert.Routing

end
-- ==== Proof.Route.Block.lean ====
/- The routing's kernel: the tiles a grid point stores. -/
module

public import proofs.«01_k».proof.Defs
public import proofs.«01_k».proof.Proof.Gen.RouteIdeal.Frame
public import proofs.«01_k».proof.Proof.Route.Kernel

@[expose] public section

set_option maxRecDepth 16384

noncomputable section

open Idealize.ShloMosaic Idealize.ShloMosaic.TcCoe Idealize.SL.Sem
open Idealize.ShloMosaic.Pipeline (Dat)

namespace Cert.Routing

open Cert.Proj Cert.RouteIdeal Cert.RouteIdeal.Gen

variable (m : (ℓ : Loc nD τ sig) → Buf (Elt Ideal) ℓ) (c : Dev nD)

set_option maxHeartbeats 400000 in
/-- The stored tiles of block `t`. -/
theorem block (t : Fin cfg0.N) (j : Fin 2) (h : Fin 8) (k l : Fin 128) : (outsAt0 m c t).2.1 (ix4 j h k l)
    = below (tokenRow (m ((c : Thread nD τ).loc main_arg0)) (rowOf t ⟨j.val * 128 + l.val, by omega⟩))
        (gain (m ((c : Thread nD τ).loc main_arg1))) (m ((c : Thread nD τ).loc main_arg2))
        (m ((c : Thread nD τ).loc main_arg4)) h k := by
  frame_out
  refine tiles_at (Val := Elt Ideal) (e := .f32)
    (fun j h => below (tokenRow (m ((c : Thread nD τ).loc main_arg0)) (rowOf t ⟨j.val * 128 + l.val, by omega⟩))
      (gain (m ((c : Thread nD τ).loc main_arg1))) (m ((c : Thread nD τ).loc main_arg2))
      (m ((c : Thread nD τ).loc main_arg4)) h k) j h k l ?_ ?_ ?_ ?_ ?_ ?_ ?_ ?_ ?_ ?_ ?_ ?_ ?_ ?_ ?_ ?_
  · exact stored_at m c t 1 7 k l 1920 128 _ (hv := fun n r => (spread_at _ n r).trans ((rows_at r).trans rfl))
  · exact stored_at m c t 0 7 k l 1920 0 _ (hv := fun n r => (spread_at _ n r).trans ((rows_at r).trans rfl))
  · exact stored_at m c t 1 6 k l 1664 128 _ (hv := fun n r => (spread_at _ n r).trans ((rows_at r).trans rfl))
  · exact stored_at m c t 0 6 k l 1664 0 _ (hv := fun n r => (spread_at _ n r).trans ((rows_at r).trans rfl))
  · exact stored_at m c t 1 5 k l 1408 128 _ (hv := fun n r => (spread_at _ n r).trans ((rows_at r).trans rfl))
  · exact stored_at m c t 0 5 k l 1408 0 _ (hv := fun n r => (spread_at _ n r).trans ((rows_at r).trans rfl))
  · exact stored_at m c t 1 4 k l 1152 128 _ (hv := fun n r => (spread_at _ n r).trans ((rows_at r).trans rfl))
  · exact stored_at m c t 0 4 k l 1152 0 _ (hv := fun n r => (spread_at _ n r).trans ((rows_at r).trans rfl))
  · exact stored_at m c t 1 3 k l 896 128 _ (hv := fun n r => (spread_at _ n r).trans ((rows_at r).trans rfl))
  · exact stored_at m c t 0 3 k l 896 0 _ (hv := fun n r => (spread_at _ n r).trans ((rows_at r).trans rfl))
  · exact stored_at m c t 1 2 k l 640 128 _ (hv := fun n r => (spread_at _ n r).trans ((rows_at r).trans rfl))
  · exact stored_at m c t 0 2 k l 640 0 _ (hv := fun n r => (spread_at _ n r).trans ((rows_at r).trans rfl))
  · exact stored_at m c t 1 1 k l 384 128 _ (hv := fun n r => (pay1671_at _ n r).trans ((rows_at r).trans rfl))
  · exact stored_at m c t 0 1 k l 384 0 _ (hv := fun n r => (pay1671_at _ n r).trans ((rows_at r).trans rfl))
  · exact stored_at m c t 1 0 k l 128 128 _ (hv := fun n r => (spread_at _ n r).trans ((rows_at r).trans rfl))
  · exact stored_at m c t 0 0 k l 128 0 _ (hv := fun n r => (spread_at _ n r).trans ((rows_at r).trans rfl))

/-- The array of scores. -/
theorem final6 : (dats m 0 c).arrAt 6 cfg0.N = scores (m ((c : Thread nD τ).loc main_arg0))
    (m ((c : Thread nD τ).loc main_arg1)) (m ((c : Thread nD τ).loc main_arg2)) (m ((c : Thread nD τ).loc main_arg4)) := by
  refine (dats m 0 c).arrAt_eq_of_covers 6 _ (by decide +kernel) fun t _ y => ?_
  blk_simp
  rw [after0_6]
  obtain ⟨j, h, k, l, rfl⟩ : ∃ (j : Fin 2) (h : Fin 8) (k l : Fin 128), y = ix4 j h k l :=
    ⟨y 0, y 1, y 2, y 3, by idx_vars y⟩
  refine (block m c t j h k l).trans ?_
  have e : ((cfg0.win 6).blk t).view.emb (ix4 j h k l)
      = ix4 (⟨2 * t.val + j.val, by have := lt_N t; omega⟩ : Fin 512) h k l := by
    blk_ext [idx t]
  rw [e]
  have er : rowOf t ⟨j.val * 128 + l.val, by omega⟩
      = (⟨(2 * t.val + j.val) * 128 + l.val, by have := lt_N t; omega⟩ : Fin 65536) :=
    Fin.ext (by unfold rowOf; simp only; omega)
  rw [er]
  rfl

end Cert.Routing

end
-- ==== Proof.Route.Reference.lean ====
/- The routing's reference: its two arrays, read at an index. -/
module

public import proofs.«01_k».proof.Defs
public import proofs.«01_k».proof.Proof.Gen.RouteRefIdeal.Run
public import proofs.«01_k».proof.Proof.Gen.RouteRefIdeal.Read
public import proofs.«01_k».proof.Proof.Route.Spec
public import Idealize.ShloMosaic.Lib.Pipeline.ValueKit
public import Idealize.ShloMosaic.Adequacy
public import Idealize.ShloMosaic.Init
public import Idealize.ShloMosaic.Lib.Quiescent

@[expose] public section

set_option maxRecDepth 16384

noncomputable section

open Idealize.ShloMosaic Idealize.ShloMosaic.TcCoe Idealize.SL.Sem

namespace Cert.Routing

open Cert.Proj Cert.RouteRefIdeal Cert.RouteRefIdeal.Read

/-- The normed rows. -/
theorem v14_at (x : FVec Ideal S16x4096x1024 .f32) (g : FVec Ideal S1x1024 .f32) (r : Fin 65536) (k : Fin 1024) :
    val_main_v14 (F := Ideal) x g (ix2 r k) = rms (tokenRow x r) (gain g) k := by
  pointwise [rms, mean, tokenRow, gain, val_main_v14,
    val_main_v13, val_main_v12, val_main_v11, val_main_v10, val_main_v9, val_main_v8, val_main_v7,
    val_main_v6, val_main_v5, val_main_v4, val_main_v3, val_main_v2, val_main_v1, val_main_v0, val_main_cst,
    val_main_cst_0, val_main_cst_1]

theorem v26_at (x : FVec Ideal S16x4096x1024 .f32) (g : FVec Ideal S1x1024 .f32) :
    val_main_v26 (F := Ideal) x g = normed x g := by
  funext i
  obtain ⟨k, r, rfl⟩ : ∃ (k : Fin 1024) (r : Fin 65536), i = ix2 k r := ⟨i 0, i 1, by idx_vars i⟩
  have e : val_main_v26 (F := Ideal) x g (ix2 k r) = val_main_v14 (F := Ideal) x g (ix2 r k) := by
    pointwise [val_main_v26, val_main_v25]
  exact e.trans (v14_at x g r k)

/-- The second half of a head's query. -/
theorem v18_at (x : FVec Ideal S16x4096x1024 .f32) (g : FVec Ideal S1x1024 .f32) (w : FVec Ideal S1x1024x2048 .f32)
    (r : Fin 65536) (h : Fin 8) (d : Fin 128) :
    val_main_v18 (F := Ideal) x g w (ix3 r h d) = query (tokenRow x r) (gain g) w h d := by
  unfold query proj
  simp only [← v14_at]
  pointwise [val_main_v18, val_main_v17, val_main_v16, val_main_v15]

theorem v20_at (x : FVec Ideal S16x4096x1024 .f32) (g : FVec Ideal S1x1024 .f32) (w : FVec Ideal S1x1024x2048 .f32)
    (K : FVec Ideal S1x128x128 .f32) (r : Fin 65536) (h : Fin 8) (n : Fin 128) :
    val_main_v20 (F := Ideal) x g w K (ix3 r h n) = score (tokenRow x r) (gain g) w K h n := by
  unfold score
  simp only [← v18_at]
  pointwise [val_main_v20, val_main_v19]

/-- A maximum over the last of three axes. -/
theorem rowMax (x : FVec Ideal S65536x8x128 .f32) (h1 : S65536x8x128.ReducesTo [2] S65536x8) (h2 : 0 < S_.numel)
    (r : Fin 65536) (h : Fin 8) :
    (Host.reduce (FloatOps.maximumf (F := Ideal)) x (constant S_ .f32 0xFF800000#32) h1 h2 : FVec Ideal S65536x8 .f32)
      (ix2 r h) = largest fun n : Fin 128 => x (ix3 r h n) := by
  pointwise [largest]

theorem v21_at (x : FVec Ideal S16x4096x1024 .f32) (g : FVec Ideal S1x1024 .f32) (w : FVec Ideal S1x1024x2048 .f32)
    (K : FVec Ideal S1x128x128 .f32) (r : Fin 65536) (h : Fin 8) :
    val_main_v21 (F := Ideal) x g w K (ix2 r h) = largest (score (tokenRow x r) (gain g) w K h) := by
  have e : (fun n => val_main_v20 (F := Ideal) x g w K (ix3 r h n)) = score (tokenRow x r) (gain g) w K h :=
    funext fun n => v20_at x g w K r h n
  rw [← e]
  unfold val_main_v21 val_main_cst_2
  generalize val_main_v20 (F := Ideal) x g w K = y
  exact rowMax y _ _ r h

theorem v24_at (x : FVec Ideal S16x4096x1024 .f32) (g : FVec Ideal S1x1024 .f32) (w : FVec Ideal S1x1024x2048 .f32)
    (K : FVec Ideal S1x128x128 .f32) (r : Fin 65536) (h : Fin 8) (n : Fin 128) :
    val_main_v24 (F := Ideal) x g w K (ix3 r h n) = below (tokenRow x r) (gain g) w K h n := by
  unfold below
  rw [← v20_at, ← v21_at]
  pointwise [val_main_v24, val_main_v23, val_main_v22]

theorem v28_at (x : FVec Ideal S16x4096x1024 .f32) (g : FVec Ideal S1x1024 .f32) (w : FVec Ideal S1x1024x2048 .f32)
    (K : FVec Ideal S1x128x128 .f32) : val_main_v28 (F := Ideal) x g w K = scores x g w K := by
  funext i
  obtain ⟨b, h, n, l, rfl⟩ : ∃ (b : Fin 512) (h : Fin 8) (n l : Fin 128), i = ix4 b h n l :=
    ⟨i 0, i 1, i 2, i 3, by idx_vars i⟩
  have e : val_main_v28 (F := Ideal) x g w K (ix4 b h n l)
      = val_main_v24 (F := Ideal) x g w K (ix3 (⟨b.val * 128 + l.val, by omega⟩ : Fin 65536) h n) := by
    pointwise [val_main_v28, val_main_v27]
  exact e.trans (v24_at x g w K _ h n)

/-- The reference leaves those arrays. -/
theorem refRun (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v26) = normed (m ((c.tc : Thread nD τ).loc main_arg0))
        (m ((c.tc : Thread nD τ).loc main_arg1))
      ∧ r.2.mem ((c.tc : Thread nD τ).loc main_v28) = scores (m ((c.tc : Thread nD τ).loc main_arg0))
        (m ((c.tc : Thread nD τ).loc main_arg1)) (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run _ _ _).mono (fun r h c => ⟨(h c).1.trans ?_, (h c).2.1.trans ?_, (h c).2.2⟩) (Cert.RouteRefIdeal.Value.run m ρ)
  · exact v26_at _ _
  · exact v28_at _ _ _ _

end Cert.Routing

end
-- ==== Proof.Route.Claim.lean ====
/- The routing's claims: the three programs run and leave their arguments alone, and the kernel's normed tokens and
   scores are the reference's. -/
module

public import proofs.«01_k».proof.Defs
public import proofs.«01_k».proof.Proof.Gen.Route.Frame
public import proofs.«01_k».proof.Proof.Route.Block
public import proofs.«01_k».proof.Proof.Route.Reference

@[expose] public section

set_option maxRecDepth 16384

noncomputable section

open Idealize.ShloMosaic Idealize.ShloMosaic.TcCoe Idealize.SL.Sem

namespace Cert.Routing

/-- Each of the three programs runs to its end, the arguments as they were. -/
theorem frame : Cert.quiescent_Route (hRoute := Cert.Route.Gen.facts) := fun m ρ _ => Cert.Route.Gen.frame m ρ
theorem frameIdeal : Cert.quiescent_RouteIdeal (hRouteIdeal := Cert.RouteIdeal.Gen.facts) := fun m ρ _ =>
  Cert.RouteIdeal.Gen.frame m ρ
theorem frameReference : Cert.quiescent_RouteRefIdeal (hRouteRefIdeal := Cert.RouteRefIdeal.Gen.facts) := fun m ρ _ =>
  (θ_run _ _ _).mono (fun r h => ⟨fun c => (h c).2.2, sem_eq_zero_of_no_sems (by decide) r.2⟩) (Cert.RouteRefIdeal.Value.run m ρ)

/-- The kernel's normed tokens and scores are the reference's. -/
theorem algebraic : Cert.algebraic_RouteIdeal_RouteRefIdeal (hRouteIdeal := Cert.RouteIdeal.Gen.facts)
    (hRouteRefIdeal := Cert.RouteRefIdeal.Gen.facts) := by
  pair_intro
  · run_from Cert.RouteIdeal.Gen.run_main m g
  · run_from refRun m' g'
    all_goals obtain ⟨a0, a1, a2, a3, a4⟩ := hagree c
    · refine Eq.trans ?_ (final5 m c).symm
      simp only [a0, a1]
    · refine Eq.trans ?_ (final6 m c).symm
      simp only [a0, a1, a2, a4]

end Cert.Routing

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Glu
public import proofs.«01_k».proof.Proof.Gen.Glu.Frame
public import proofs.«01_k».proof.Proof.Gen.GluIdeal
public import proofs.«01_k».proof.Proof.Gen.GluIdeal.Frame
public import proofs.«01_k».proof.Proof.Gen.GluRefIdeal
public import proofs.«01_k».proof.Proof.Gen.GluRefIdeal.Run
public import proofs.«01_k».proof.Proof.Gen.GluRefIdeal.Read
public import proofs.«01_k».proof.Proof.Gen.Route
public import proofs.«01_k».proof.Proof.Gen.Route.Frame
public import proofs.«01_k».proof.Proof.Gen.RouteIdeal
public import proofs.«01_k».proof.Proof.Gen.RouteIdeal.Frame
public import proofs.«01_k».proof.Proof.Gen.RouteRefIdeal
public import proofs.«01_k».proof.Proof.Gen.RouteRefIdeal.Run
public import proofs.«01_k».proof.Proof.Gen.RouteRefIdeal.Read
public import proofs.«01_k».proof.Proof.Gen.Gates
public import proofs.«01_k».proof.Proof.Gen.Gates.Frame
public import proofs.«01_k».proof.Proof.Gen.GatesIdeal
public import proofs.«01_k».proof.Proof.Gen.GatesIdeal.Frame
public import proofs.«01_k».proof.Proof.Gen.GatesRefIdeal
public import proofs.«01_k».proof.Proof.Gen.GatesRefIdeal.Run
public import proofs.«01_k».proof.Proof.Gen.GatesRefIdeal.Read
public import proofs.«01_k».proof.Proof.Gen.Kv
public import proofs.«01_k».proof.Proof.Gen.Kv.Frame
public import proofs.«01_k».proof.Proof.Gen.KvIdeal
public import proofs.«01_k».proof.Proof.Gen.KvIdeal.Frame
public import proofs.«01_k».proof.Proof.Gen.KvRefIdeal
public import proofs.«01_k».proof.Proof.Gen.KvRefIdeal.Run
public import proofs.«01_k».proof.Proof.Gen.KvRefIdeal.Read
public import proofs.«01_k».proof.Proof.Gen.Gmlp
public import proofs.«01_k».proof.Proof.Gen.Gmlp.Frame
public import proofs.«01_k».proof.Proof.Gen.GmlpIdeal
public import proofs.«01_k».proof.Proof.Gen.GmlpIdeal.Frame
public import proofs.«01_k».proof.Proof.Gen.GmlpRefIdeal
public import proofs.«01_k».proof.Proof.Gen.GmlpRefIdeal.Run
public import proofs.«01_k».proof.Proof.Gen.GmlpRefIdeal.Read
public import proofs.«01_k».proof.Proof.Gen.ConvSample
public import proofs.«01_k».proof.Proof.Gen.ConvSample.Frame
public import proofs.«01_k».proof.Proof.Gen.ConvSampleIdeal
public import proofs.«01_k».proof.Proof.Gen.ConvSampleIdeal.Frame
public import proofs.«01_k».proof.Proof.Gen.ConvSampleRefIdeal
public import proofs.«01_k».proof.Proof.Gen.ConvSampleRefIdeal.Run
public import proofs.«01_k».proof.Proof.Gen.ConvSampleRefIdeal.Read
public import proofs.«01_k».proof.Proof.Gen.GmlpSample
public import proofs.«01_k».proof.Proof.Gen.GmlpSample.Frame
public import proofs.«01_k».proof.Proof.Gen.GmlpSampleIdeal
public import proofs.«01_k».proof.Proof.Gen.GmlpSampleIdeal.Frame
public import proofs.«01_k».proof.Proof.Gen.GmlpSampleRefIdeal
public import proofs.«01_k».proof.Proof.Gen.GmlpSampleRefIdeal.Run
public import proofs.«01_k».proof.Proof.Gen.GmlpSampleRefIdeal.Read
public import proofs.«01_k».proof.Proof.Mixer.Claim
public import proofs.«01_k».proof.Proof.Proj.Glu
public import proofs.«01_k».proof.Proof.Proj.Gates
public import proofs.«01_k».proof.Proof.Proj.Kv
public import proofs.«01_k».proof.Proof.Proj.Gmlp
public import proofs.«01_k».proof.Proof.Sample.Conv
public import proofs.«01_k».proof.Proof.Sample.Gmlp
public import proofs.«01_k».proof.Proof.Route.Claim
public import Idealize.ShloMosaic.Adequacy
public import Idealize.ShloMosaic.Init

@[expose] public section

noncomputable section

namespace Cert.Proof

open Idealize.ShloMosaic Idealize.SL.Sem

/-- Everything the certificate claims: the programs of the mixer, of the four projections, of the two sample calls and
    of the routing run and leave their arguments alone, each ideal program is its kernel, and each kernel's results are its reference's. -/
theorem claim : Cert.Claim :=
  ⟨Cert.Kernel.Gen.facts, Cert.KernelIdeal.Gen.facts, Cert.ReferenceIdeal.Gen.facts, Cert.Glu.Gen.facts,
    Cert.GluIdeal.Gen.facts, Cert.GluRefIdeal.Gen.facts, Cert.Gates.Gen.facts, Cert.GatesIdeal.Gen.facts,
    Cert.GatesRefIdeal.Gen.facts, Cert.Kv.Gen.facts, Cert.KvIdeal.Gen.facts, Cert.KvRefIdeal.Gen.facts,
    Cert.Gmlp.Gen.facts, Cert.GmlpIdeal.Gen.facts, Cert.GmlpRefIdeal.Gen.facts,
    Cert.ConvSample.Gen.facts, Cert.ConvSampleIdeal.Gen.facts, Cert.ConvSampleRefIdeal.Gen.facts,
    Cert.GmlpSample.Gen.facts, Cert.GmlpSampleIdeal.Gen.facts, Cert.GmlpSampleRefIdeal.Gen.facts,
    Cert.Route.Gen.facts, Cert.RouteIdeal.Gen.facts, Cert.RouteRefIdeal.Gen.facts,
    Cert.Mixer.frame, Cert.Mixer.frameIdeal, Cert.Mixer.frameReference,
    Cert.Proj.Glu.frame, Cert.Proj.Glu.frameIdeal, Cert.Proj.Glu.frameReference,
    Cert.Proj.Gates.frame, Cert.Proj.Gates.frameIdeal, Cert.Proj.Gates.frameReference,
    Cert.Proj.Kv.frame, Cert.Proj.Kv.frameIdeal, Cert.Proj.Kv.frameReference,
    Cert.Proj.Gmlp.frame, Cert.Proj.Gmlp.frameIdeal, Cert.Proj.Gmlp.frameReference,
    Cert.Sample.Conv.frame, Cert.Sample.Conv.frameIdeal, Cert.Sample.Conv.frameReference,
    Cert.Sample.Gmlp.frame, Cert.Sample.Gmlp.frameIdeal, Cert.Sample.Gmlp.frameReference,
    Cert.Routing.frame, Cert.Routing.frameIdeal, Cert.Routing.frameReference,
    trivial, Cert.Mixer.algebraic,
    trivial, Cert.Proj.Glu.algebraic,
    trivial, Cert.Proj.Gates.algebraic,
    trivial, Cert.Proj.Kv.algebraic,
    Cert.Proj.Gmlp.preserves, Cert.Proj.Gmlp.algebraic,
    trivial, Cert.Sample.Conv.algebraic,
    Cert.Sample.Gmlp.preserves, Cert.Sample.Gmlp.algebraic,
    trivial, Cert.Routing.algebraic⟩

end Cert.Proof

end
